-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_2)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_2) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)) →
    ∃ (v0 : (c : Dev Cert.PrepIdeal.nD) → Buf (Elt Ideal) ((c.tc : Thread Cert.PrepIdeal.nD Cert.PrepIdeal.τ).loc Cert.PrepIdeal.main_v0_0)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v0_0) = v0 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v0) = v0 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2))

def Claim : Prop :=
  ∃ (hKernel : Cert.Kernel.Facts) (hKernelIdeal : Cert.KernelIdeal.Facts) (hReferenceIdeal : Cert.ReferenceIdeal.Facts) (hPrep : Cert.Prep.Facts) (hPrepIdeal : Cert.PrepIdeal.Facts) (hPrepReferenceIdeal : Cert.PrepReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Prep (hPrep := hPrep)
    ∧ quiescent_PrepIdeal (hPrepIdeal := hPrepIdeal)
    ∧ quiescent_PrepReferenceIdeal (hPrepReferenceIdeal := hPrepReferenceIdeal)
    ∧ preserves_Kernel_KernelIdeal
    ∧ algebraic_KernelIdeal_ReferenceIdeal (hKernelIdeal := hKernelIdeal) (hReferenceIdeal := hReferenceIdeal)
    ∧ preserves_Prep_PrepIdeal
    ∧ algebraic_PrepIdeal_PrepReferenceIdeal (hPrepIdeal := hPrepIdeal) (hPrepReferenceIdeal := hPrepReferenceIdeal)
-- ==== Kernel.lean ====
abbrev S1x1 : Shape := ⟨2, ![1, 1]⟩
abbrev S12288x16384 : Shape := ⟨2, ![12288, 16384]⟩
abbrev S16384x2048 : Shape := ⟨2, ![16384, 2048]⟩
abbrev S12288x2048 : Shape := ⟨2, ![12288, 2048]⟩
abbrev S12288x8192 : Shape := ⟨2, ![12288, 8192]⟩
abbrev S12288x1024 : Shape := ⟨2, ![12288, 1024]⟩
abbrev S12288x64 : Shape := ⟨2, ![12288, 64]⟩
abbrev S1024x1024 : Shape := ⟨2, ![1024, 1024]⟩
abbrev S1024x2048 : Shape := ⟨2, ![1024, 2048]⟩
abbrev S1024x512 : Shape := ⟨2, ![1024, 512]⟩
abbrev S1024x128 : Shape := ⟨2, ![1024, 128]⟩
abbrev S1024x64 : Shape := ⟨2, ![1024, 64]⟩
abbrev S256x2048 : Shape := ⟨2, ![256, 2048]⟩
abbrev S256x1024 : Shape := ⟨2, ![256, 1024]⟩
abbrev S8x128 : Shape := ⟨2, ![8, 128]⟩
abbrev S32x128 : Shape := ⟨2, ![32, 128]⟩
abbrev S32x128x1 : Shape := ⟨3, ![32, 128, 1]⟩
abbrev S8x128x1 : Shape := ⟨3, ![8, 128, 1]⟩
abbrev S32x64 : Shape := ⟨2, ![32, 64]⟩

abbrev nBuf : Space → Nat
  | .hbm => 11
  | .vmem => 19
  | .smem => 2
  | _ => 0

abbrev bufTy : (tb : Table) → Fin (tcTables nBuf tb) → BufTy
  | .hbm, ⟨0, _⟩ => ⟨S1x1, .f32⟩
  | .hbm, ⟨1, _⟩ => ⟨S1x1, .f32⟩
  | .hbm, ⟨2, _⟩ => ⟨S12288x16384, .bf16⟩
  | .hbm, ⟨3, _⟩ => ⟨S12288x16384, .i32⟩
  | .hbm, ⟨4, _⟩ => ⟨S16384x2048, .bf16⟩
  | .hbm, ⟨5, _⟩ => ⟨S12288x2048, .bf16⟩
  | .hbm, ⟨6, _⟩ => ⟨S12288x8192, .i8⟩
  | .hbm, ⟨7, _⟩ => ⟨S12288x1024, .fp8e4m3⟩
  | .hbm, ⟨8, _⟩ => ⟨S12288x2048, .bf16⟩
  | .hbm, ⟨9, _⟩ => ⟨S12288x2048, .fp8e4m3⟩
  | .hbm, ⟨10, _⟩ => ⟨S12288x64, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .i32⟩
  | .local _ .vmem, ⟨3, _⟩ => ⟨S1024x1024, .i32⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x512, .i8⟩
  | .local _ .vmem, ⟨8, _⟩ => ⟨S1024x512, .i8⟩
  | .local _ .vmem, ⟨9, _⟩ => ⟨S1024x128, .fp8e4m3⟩
  | .local _ .vmem, ⟨10, _⟩ => ⟨S1024x128, .fp8e4m3⟩
  | .local _ .vmem, ⟨11, _⟩ => ⟨S1024x2048, .bf16⟩
  | .local _ .vmem, ⟨12, _⟩ => ⟨S1024x2048, .bf16⟩
  | .local _ .vmem, ⟨13, _⟩ => ⟨S1024x2048, .fp8e4m3⟩
  | .local _ .vmem, ⟨14, _⟩ => ⟨S1024x2048, .fp8e4m3⟩
  | .local _ .vmem, ⟨15, _⟩ => ⟨S1024x64, .f32⟩
  | .local _ .vmem, ⟨16, _⟩ => ⟨S1024x64, .f32⟩
  | .local _ .vmem, ⟨17, _⟩ => ⟨S1024x1024, .bf16⟩
  | .local _ .vmem, ⟨18, _⟩ => ⟨S1024x2048, .f32⟩
  | .local _ .smem, ⟨0, _⟩ => ⟨S1x1, .f32⟩
  | .local _ .smem, ⟨1, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![193], ![false]⟩

def k0_cond2 (i : grid0.Coords) : BitVec 1 :=
  let arg0 : BitVec 32 := BitVec.ofNat 32 (i 0).val
  let c0_i32_13212 : BitVec 32 := 0#32
  let v34480 : BitVec 1 := Scalar.cmpi .sgt arg0 c0_i32_13212
  let c16_i32 : BitVec 32 := 16#32
  let c0_i32_13213 : BitVec 32 := 0#32
  let v34481 : BitVec 1 := Scalar.cmpi .eq c16_i32 c0_i32_13213
  let c1_i32_13214 : BitVec 32 := 1#32
  let v34482 : BitVec 32 := Scalar.select v34481 c1_i32_13214 c16_i32
  let v34483 : BitVec 32 := Scalar.remsi arg0 v34482
  let c0_i32_13216 : BitVec 32 := 0#32
  let v34485 : BitVec 1 := Scalar.cmpi .slt v34483 c0_i32_13216
  let c0_i32_13217 : BitVec 32 := 0#32
  let v34486 : BitVec 1 := Scalar.cmpi .slt v34482 c0_i32_13217
  let v34487 : BitVec 1 := Scalar.xori v34485 v34486
  let c0_i32_13215 : BitVec 32 := 0#32
  let v34484 : BitVec 1 := Scalar.cmpi .ne v34483 c0_i32_13215
  let v34488 : BitVec 1 := Scalar.andi v34487 v34484
  let v34489 : BitVec 32 := Scalar.addi v34483 v34482
  let v34490 : BitVec 32 := Scalar.select v34488 v34489 v34483
  let c0_i32_13218 : BitVec 32 := 0#32
  let v34491 : BitVec 1 := Scalar.cmpi .eq v34490 c0_i32_13218
  let v34492 : BitVec 1 := Scalar.andi v34480 v34491
  let v34493 : BitVec 32 := Scalar.extui v34492
  let c0_i32_13219 : BitVec 32 := 0#32
  let v34494 : BitVec 1 := Scalar.cmpi .ne v34493 c0_i32_13219
  v34494

@[reducible] def k0_t1_loop : Scf.Loop 32 :=
  let c0_i32_13222 : BitVec 32 := 0#32
  let c32_i32 : BitVec 32 := 32#32
  let v34497 : BitVec 32 := Scalar.addi c0_i32_13222 c32_i32
  let c1_i32_13223 : BitVec 32 := 1#32
  ⟨c0_i32_13222, v34497, c1_i32_13223⟩
def k0_off1 (k0_t1 : Fin k0_t1_loop.trips) : Fin 2 → Nat :=
  let c0_i32_13222 : BitVec 32 := 0#32
  let c1_i32_13223 : BitVec 32 := 1#32
  let arg14 : BitVec 32 := Scf.iv c0_i32_13222 c1_i32_13223 k0_t1
  let c32_i32_13228 : BitVec 32 := 32#32
  let v34502 : BitVec 32 := Scalar.muli arg14 c32_i32_13228
  let v34504 : Index := Scalar.indexCast v34502
  let c0_13229 : Index := 0#32
  ![v34504.toNat, 0]
def k0_off2 (k0_t1 : Fin k0_t1_loop.trips) : Fin 2 → Nat :=
  let c0_i32_13222 : BitVec 32 := 0#32
  let c1_i32_13223 : BitVec 32 := 1#32
  let arg14 : BitVec 32 := Scf.iv c0_i32_13222 c1_i32_13223 k0_t1
  let c32_i32_13228 : BitVec 32 := 32#32
  let v34502 : BitVec 32 := Scalar.muli arg14 c32_i32_13228
  let v34515 : Index := Scalar.indexCast v34502
  let c128_13232 : Index := 128#32
  ![v34515.toNat, 128]
def k0_off3 (k0_t1 : Fin k0_t1_loop.trips) : Fin 2 → Nat :=
  let c0_i32_13222 : BitVec 32 := 0#32
  let c1_i32_13223 : BitVec 32 := 1#32
  let arg14 : BitVec 32 := Scf.iv c0_i32_13222 c1_i32_13223 k0_t1
  let c32_i32_13228 : BitVec 32 := 32#32
  let v34502 : BitVec 32 := Scalar.muli arg14 c32_i32_13228
  let v34526 : Index := Scalar.indexCast v34502
  let c256_13235 : Index := 256#32
  ![v34526.toNat, 256]
def k0_off4 (k0_t1 : Fin k0_t1_loop.trips) : Fin 2 → Nat :=
  let c0_i32_13222 : BitVec 32 := 0#32
  let c1_i32_13223 : BitVec 32 := 1#32
  let arg14 : BitVec 32 := Scf.iv c0_i32_13222 c1_i32_13223 k0_t1
  let c32_i32_13228 : BitVec 32 := 32#32
  let v34502 : BitVec 32 := Scalar.muli arg14 c32_i32_13228
  let v34537 : Index := Scalar.indexCast v34502
  let c384_13238 : Index := 384#32
  ![v34537.toNat, 384]
def k0_off5 (k0_t1 : Fin k0_t1_loop.trips) : Fin 2 → Nat :=
  let c0_i32_13222 : BitVec 32 := 0#32
  let c1_i32_13223 : BitVec 32 := 1#32
  let arg14 : BitVec 32 := Scf.iv c0_i32_13222 c1_i32_13223 k0_t1
  let c32_i32_13228 : BitVec 32 := 32#32
  let v34502 : BitVec 32 := Scalar.muli arg14 c32_i32_13228
  let v34548 : Index := Scalar.indexCast v34502
  let c512_13241 : Index := 512#32
  ![v34548.toNat, 512]
def k0_off6 (k0_t1 : Fin k0_t1_loop.trips) : Fin 2 → Nat :=
  let c0_i32_13222 : BitVec 32 := 0#32
  let c1_i32_13223 : BitVec 32 := 1#32
  let arg14 : BitVec 32 := Scf.iv c0_i32_13222 c1_i32_13223 k0_t1
  let c32_i32_13228 : BitVec 32 := 32#32
  let v34502 : BitVec 32 := Scalar.muli arg14 c32_i32_13228
  let v34559 : Index := Scalar.indexCast v34502
  let c640_13244 : Index := 640#32
  ![v34559.toNat, 640]
def k0_off7 (k0_t1 : Fin k0_t1_loop.trips) : Fin 2 → Nat :=
  let c0_i32_13222 : BitVec 32 := 0#32
  let c1_i32_13223 : BitVec 32 := 1#32
  let arg14 : BitVec 32 := Scf.iv c0_i32_13222 c1_i32_13223 k0_t1
  let c32_i32_13228 : BitVec 32 := 32#32
  let v34502 : BitVec 32 := Scalar.muli arg14 c32_i32_13228
  let v34570 : Index := Scalar.indexCast v34502
  let c768_13247 : Index := 768#32
  ![v34570.toNat, 768]
def k0_off8 (k0_t1 : Fin k0_t1_loop.trips) : Fin 2 → Nat :=
  let c0_i32_13222 : BitVec 32 := 0#32
  let c1_i32_13223 : BitVec 32 := 1#32
  let arg14 : BitVec 32 := Scf.iv c0_i32_13222 c1_i32_13223 k0_t1
  let c32_i32_13228 : BitVec 32 := 32#32
  let v34502 : BitVec 32 := Scalar.muli arg14 c32_i32_13228
  let v34581 : Index := Scalar.indexCast v34502
  let c896_13250 : Index := 896#32
  ![v34581.toNat, 896]
def k0_off9 (k0_t1 : Fin k0_t1_loop.trips) : Fin 2 → Nat :=
  let c0_i32_13222 : BitVec 32 := 0#32
  let c1_i32_13223 : BitVec 32 := 1#32
  let arg14 : BitVec 32 := Scf.iv c0_i32_13222 c1_i32_13223 k0_t1
  let c32_i32_13228 : BitVec 32 := 32#32
  let v34502 : BitVec 32 := Scalar.muli arg14 c32_i32_13228
  let v34592 : Index := Scalar.indexCast v34502
  let c1024 : Index := 1024#32
  ![v34592.toNat, 1024]
def k0_off10 (k0_t1 : Fin k0_t1_loop.trips) : Fin 2 → Nat :=
  let c0_i32_13222 : BitVec 32 := 0#32
  let c1_i32_13223 : BitVec 32 := 1#32
  let arg14 : BitVec 32 := Scf.iv c0_i32_13222 c1_i32_13223 k0_t1
  let c32_i32_13228 : BitVec 32 := 32#32
  let v34502 : BitVec 32 := Scalar.muli arg14 c32_i32_13228
  let v34603 : Index := Scalar.indexCast v34502
  let c1152 : Index := 1152#32
  ![v34603.toNat, 1152]
def k0_off11 (k0_t1 : Fin k0_t1_loop.trips) : Fin 2 → Nat :=
  let c0_i32_13222 : BitVec 32 := 0#32
  let c1_i32_13223 : BitVec 32 := 1#32
  let arg14 : BitVec 32 := Scf.iv c0_i32_13222 c1_i32_13223 k0_t1
  let c32_i32_13228 : BitVec 32 := 32#32
  let v34502 : BitVec 32 := Scalar.muli arg14 c32_i32_13228
  let v34614 : Index := Scalar.indexCast v34502
  let c1280 : Index := 1280#32
  ![v34614.toNat, 1280]
def k0_off12 (k0_t1 : Fin k0_t1_loop.trips) : Fin 2 → Nat :=
  let c0_i32_13222 : BitVec 32 := 0#32
  let c1_i32_13223 : BitVec 32 := 1#32
  let arg14 : BitVec 32 := Scf.iv c0_i32_13222 c1_i32_13223 k0_t1
  let c32_i32_13228 : BitVec 32 := 32#32
  let v34502 : BitVec 32 := Scalar.muli arg14 c32_i32_13228
  let v34625 : Index := Scalar.indexCast v34502
  let c1408 : Index := 1408#32
  ![v34625.toNat, 1408]
def k0_off13 (k0_t1 : Fin k0_t1_loop.trips) : Fin 2 → Nat :=
  let c0_i32_13222 : BitVec 32 := 0#32
  let c1_i32_13223 : BitVec 32 := 1#32
  let arg14 : BitVec 32 := Scf.iv c0_i32_13222 c1_i32_13223 k0_t1
  let c32_i32_13228 : BitVec 32 := 32#32
  let v34502 : BitVec 32 := Scalar.muli arg14 c32_i32_13228
  let v34636 : Index := Scalar.indexCast v34502
  let c1536 : Index := 1536#32
  ![v34636.toNat, 1536]
def k0_off14 (k0_t1 : Fin k0_t1_loop.trips) : Fin 2 → Nat :=
  let c0_i32_13222 : BitVec 32 := 0#32
  let c1_i32_13223 : BitVec 32 := 1#32
  let arg14 : BitVec 32 := Scf.iv c0_i32_13222 c1_i32_13223 k0_t1
  let c32_i32_13228 : BitVec 32 := 32#32
  let v34502 : BitVec 32 := Scalar.muli arg14 c32_i32_13228
  let v34647 : Index := Scalar.indexCast v34502
  let c1664 : Index := 1664#32
  ![v34647.toNat, 1664]
def k0_off15 (k0_t1 : Fin k0_t1_loop.trips) : Fin 2 → Nat :=
  let c0_i32_13222 : BitVec 32 := 0#32
  let c1_i32_13223 : BitVec 32 := 1#32
  let arg14 : BitVec 32 := Scf.iv c0_i32_13222 c1_i32_13223 k0_t1
  let c32_i32_13228 : BitVec 32 := 32#32
  let v34502 : BitVec 32 := Scalar.muli arg14 c32_i32_13228
  let v34658 : Index := Scalar.indexCast v34502
  let c1792 : Index := 1792#32
  ![v34658.toNat, 1792]
def k0_off16 (k0_t1 : Fin k0_t1_loop.trips) : Fin 2 → Nat :=
  let c0_i32_13222 : BitVec 32 := 0#32
  let c1_i32_13223 : BitVec 32 := 1#32
  let arg14 : BitVec 32 := Scf.iv c0_i32_13222 c1_i32_13223 k0_t1
  let c32_i32_13228 : BitVec 32 := 32#32
  let v34502 : BitVec 32 := Scalar.muli arg14 c32_i32_13228
  let v34669 : Index := Scalar.indexCast v34502
  let c1920 : Index := 1920#32
  ![v34669.toNat, 1920]
def k0_off17 (k0_t1 : Fin k0_t1_loop.trips) : Fin 2 → Nat :=
  let c0_i32_13222 : BitVec 32 := 0#32
  let c1_i32_13223 : BitVec 32 := 1#32
  let arg14 : BitVec 32 := Scf.iv c0_i32_13222 c1_i32_13223 k0_t1
  let c32_i32_13228 : BitVec 32 := 32#32
  let v34502 : BitVec 32 := Scalar.muli arg14 c32_i32_13228
  let v34980 : Index := Scalar.indexCast v34502
  let c0_13334 : Index := 0#32
  ![v34980.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c191_i32 : BitVec 32 := 191#32
  let v0 : BitVec 32 := Scalar.minsi arg0 c191_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![v17.toNat, v27.toNat]

def cc0_transform_3 (i : grid0.Coords) : Fin 2 → Nat :=
  let arg0 : BitVec 32 := BitVec.ofNat 32 (i 0).val
  let c191_i32 : BitVec 32 := 191#32
  let v0 : BitVec 32 := Scalar.minsi arg0 c191_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![v17.toNat, v27.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v28.toNat, c0_i32_12.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, c0_i32_12.toNat]

def cc0_transform_6 (i : grid0.Coords) : Fin 2 → Nat :=
  let arg0 : BitVec 32 := BitVec.ofNat 32 (i 0).val
  let c191_i32 : BitVec 32 := 191#32
  let v0 : BitVec 32 := Scalar.minsi arg0 c191_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![v17.toNat, v27.toNat]

def cc0_transform_7 (i : grid0.Coords) : Fin 2 → Nat :=
  let arg0 : BitVec 32 := BitVec.ofNat 32 (i 0).val
  let c191_i32 : BitVec 32 := 191#32
  let v0 : BitVec 32 := Scalar.minsi arg0 c191_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c191_i32_10 : BitVec 32 := 191#32
  let v28 : BitVec 32 := Scalar.minsi arg0 c191_i32_10
  let c16_i32_11 : BitVec 32 := 16#32
  let v29 : BitVec 32 := Scalar.divsi v28 c16_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c16_i32_11 c0_i32_14
  let v36 : BitVec 32 := Scalar.extui v35
  let c0_i32_15 : BitVec 32 := 0#32
  let v37 : BitVec 1 := Scalar.cmpi .slt c16_i32_11 c0_i32_15
  let v38 : BitVec 32 := Scalar.extui v37
  let v39 : BitVec 32 := Scalar.subi v36 v38
  let v40 : BitVec 1 := Scalar.cmpi .ne v34 v39
  let v41 : BitVec 32 := Scalar.remsi v28 c16_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c16_i32_18 : BitVec 32 := 16#32
  let c0_i32_19 : BitVec 32 := 0#32
  let v46 : BitVec 1 := Scalar.cmpi .eq c16_i32_18 c0_i32_19
  let c1_i32_20 : BitVec 32 := 1#32
  let v47 : BitVec 32 := Scalar.select v46 c1_i32_20 c16_i32_18
  let v48 : BitVec 32 := Scalar.remsi v28 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c2_i32 : BitVec 32 := 2#32
  let v56 : BitVec 32 := Scalar.divsi v55 c2_i32
  let c0_i32_24 : BitVec 32 := 0#32
  let v57 : BitVec 1 := Scalar.cmpi .sgt v55 c0_i32_24
  let v58 : BitVec 32 := Scalar.extui v57
  let c0_i32_25 : BitVec 32 := 0#32
  let v59 : BitVec 1 := Scalar.cmpi .slt v55 c0_i32_25
  let v60 : BitVec 32 := Scalar.extui v59
  let v61 : BitVec 32 := Scalar.subi v58 v60
  let c0_i32_26 : BitVec 32 := 0#32
  let v62 : BitVec 1 := Scalar.cmpi .sgt c2_i32 c0_i32_26
  let v63 : BitVec 32 := Scalar.extui v62
  let c0_i32_27 : BitVec 32 := 0#32
  let v64 : BitVec 1 := Scalar.cmpi .slt c2_i32 c0_i32_27
  let v65 : BitVec 32 := Scalar.extui v64
  let v66 : BitVec 32 := Scalar.subi v63 v65
  let v67 : BitVec 1 := Scalar.cmpi .ne v61 v66
  let v68 : BitVec 32 := Scalar.remsi v55 c2_i32
  let c0_i32_28 : BitVec 32 := 0#32
  let v69 : BitVec 1 := Scalar.cmpi .ne v68 c0_i32_28
  let v70 : BitVec 1 := Scalar.andi v67 v69
  let c1_i32_29 : BitVec 32 := 1#32
  let v71 : BitVec 32 := Scalar.subi v56 c1_i32_29
  let v72 : BitVec 32 := Scalar.select v70 v71 v56
  let c0_i32_30 : BitVec 32 := 0#32
  ![v17.toNat, v72.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, c0_i32_12.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, c0_i32_12.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, c0_i32_12.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 2 → Memref sig .tc .vmem S1024x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x2048 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S1x1 : Shape := ⟨2, ![1, 1]⟩
abbrev S12288x16384 : Shape := ⟨2, ![12288, 16384]⟩
abbrev S16384x2048 : Shape := ⟨2, ![16384, 2048]⟩
abbrev S12288x2048 : Shape := ⟨2, ![12288, 2048]⟩
abbrev S12288x8192 : Shape := ⟨2, ![12288, 8192]⟩
abbrev S12288x1024 : Shape := ⟨2, ![12288, 1024]⟩
abbrev S12288x1024x16 : Shape := ⟨3, ![12288, 1024, 16]⟩
abbrev S12288x1024x1 : Shape := ⟨3, ![12288, 1024, 1]⟩
abbrev S12288x8192x2 : Shape := ⟨3, ![12288, 8192, 2]⟩
abbrev S12288x8192x1 : Shape := ⟨3, ![12288, 8192, 1]⟩

abbrev nBuf : Space → Nat
  | .hbm => 9
  | .vmem => 9
  | .smem => 0
  | _ => 0

abbrev bufTy : (tb : Table) → Fin (tcTables nBuf tb) → BufTy
  | .hbm, ⟨0, _⟩ => ⟨S1x1, .f32⟩
  | .hbm, ⟨1, _⟩ => ⟨S1x1, .f32⟩
  | .hbm, ⟨2, _⟩ => ⟨S12288x16384, .bf16⟩
  | .hbm, ⟨3, _⟩ => ⟨S12288x16384, .i32⟩
  | .hbm, ⟨4, _⟩ => ⟨S16384x2048, .bf16⟩
  | .hbm, ⟨5, _⟩ => ⟨S12288x2048, .bf16⟩
  | .hbm, ⟨6, _⟩ => ⟨S12288x2048, .bf16⟩
  | .hbm, ⟨7, _⟩ => ⟨S12288x8192, .i8⟩
  | .hbm, ⟨8, _⟩ => ⟨S12288x1024, .fp8e4m3⟩
  | .local _ .vmem, ⟨0, _⟩ => ⟨S1x1, .f32⟩
  | .local _ .vmem, ⟨1, _⟩ => ⟨S1x1, .f32⟩
  | .local _ .vmem, ⟨2, _⟩ => ⟨S12288x16384, .bf16⟩
  | .local _ .vmem, ⟨3, _⟩ => ⟨S12288x16384, .i32⟩
  | .local _ .vmem, ⟨4, _⟩ => ⟨S16384x2048, .bf16⟩
  | .local _ .vmem, ⟨5, _⟩ => ⟨S12288x2048, .bf16⟩
  | .local _ .vmem, ⟨6, _⟩ => ⟨S12288x2048, .bf16⟩
  | .local _ .vmem, ⟨7, _⟩ => ⟨S12288x8192, .i8⟩
  | .local _ .vmem, ⟨8, _⟩ => ⟨S12288x1024, .fp8e4m3⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x16384 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x8192 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12288x1024 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Prep.lean ====
abbrev S12288x16384 : Shape := ⟨2, ![12288, 16384]⟩
abbrev S16384x1024 : Shape := ⟨2, ![16384, 1024]⟩
abbrev S1024x128 : Shape := ⟨2, ![1024, 128]⟩
abbrev S8x128 : Shape := ⟨2, ![8, 128]⟩
abbrev S16384x2048 : Shape := ⟨2, ![16384, 2048]⟩
abbrev S192x16384 : Shape := ⟨2, ![192, 16384]⟩
abbrev S256x1024 : Shape := ⟨2, ![256, 1024]⟩
abbrev S32x128 : Shape := ⟨2, ![32, 128]⟩
abbrev S256x2048 : Shape := ⟨2, ![256, 2048]⟩
abbrev S16x128 : Shape := ⟨2, ![16, 128]⟩
abbrev S1x128 : Shape := ⟨2, ![1, 128]⟩
abbrev S8x128x1 : Shape := ⟨3, ![8, 128, 1]⟩
abbrev S16x128x1 : Shape := ⟨3, ![16, 128, 1]⟩
abbrev S1x16x128 : Shape := ⟨3, ![1, 16, 128]⟩
abbrev S1 : Shape := ⟨1, ![1]⟩
abbrev S1x1x1 : Shape := ⟨3, ![1, 1, 1]⟩
abbrev S1x1 : Shape := ⟨2, ![1, 1]⟩

abbrev nBuf : Space → Nat
  | .hbm => 5
  | .vmem => 11
  | .smem => 0
  | _ => 0

abbrev bufTy : (tb : Table) → Fin (tcTables nBuf tb) → BufTy
  | .hbm, ⟨0, _⟩ => ⟨S12288x16384, .bf16⟩
  | .hbm, ⟨1, _⟩ => ⟨S16384x1024, .i8⟩
  | .hbm, ⟨2, _⟩ => ⟨S1024x128, .fp8e4m3⟩
  | .hbm, ⟨3, _⟩ => ⟨S8x128, .f32⟩
  | .hbm, ⟨4, _⟩ => ⟨S16384x2048, .bf16⟩
  | .local _ .vmem, ⟨0, _⟩ => ⟨S192x16384, .bf16⟩
  | .local _ .vmem, ⟨1, _⟩ => ⟨S192x16384, .bf16⟩
  | .local _ .vmem, ⟨2, _⟩ => ⟨S256x1024, .i8⟩
  | .local _ .vmem, ⟨3, _⟩ => ⟨S256x1024, .i8⟩
  | .local _ .vmem, ⟨4, _⟩ => ⟨S32x128, .fp8e4m3⟩
  | .local _ .vmem, ⟨5, _⟩ => ⟨S32x128, .fp8e4m3⟩
  | .local _ .vmem, ⟨6, _⟩ => ⟨S8x128, .f32⟩
  | .local _ .vmem, ⟨7, _⟩ => ⟨S256x2048, .bf16⟩
  | .local _ .vmem, ⟨8, _⟩ => ⟨S256x2048, .bf16⟩
  | .local _ .vmem, ⟨9, _⟩ => ⟨S16x128, .bf16⟩
  | .local _ .vmem, ⟨10, _⟩ => ⟨S32x128, .f32⟩
  | _, _ => ⟨S12288x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_10 : BitVec 32 := 0#32
  let c4_i32 : BitVec 32 := 4#32
  let v26 : BitVec 32 := Scalar.addi c0_i32_10 c4_i32
  let c1_i32_11 : BitVec 32 := 1#32
  ⟨c0_i32_10, v26, c1_i32_11⟩
def k0_off1 (k0_t1 : Fin k0_t1_loop.trips) (c0_i32_17 : BitVec 32) : Fin 2 → Nat :=
  let c0_i32_10 : BitVec 32 := 0#32
  let c1_i32_11 : BitVec 32 := 1#32
  let arg8 : BitVec 32 := Scf.iv c0_i32_10 c1_i32_11 k0_t1
  let c48_i32 : BitVec 32 := 48#32
  let v32 : BitVec 32 := Scalar.muli arg8 c48_i32
  let v33 : BitVec 32 := Scalar.addi v32 c0_i32_17
  let v34 : Index := Scalar.indexCast v33
  let c0_18 : Index := 0#32
  ![v34.toNat, 0]
def k0_off2 (k0_t1 : Fin k0_t1_loop.trips) (c0_i32_20 : BitVec 32) : Fin 2 → Nat :=
  let c0_i32_10 : BitVec 32 := 0#32
  let c1_i32_11 : BitVec 32 := 1#32
  let arg8 : BitVec 32 := Scf.iv c0_i32_10 c1_i32_11 k0_t1
  let c48_i32_19 : BitVec 32 := 48#32
  let v38 : BitVec 32 := Scalar.muli arg8 c48_i32_19
  let v39 : BitVec 32 := Scalar.addi v38 c0_i32_20
  let v40 : Index := Scalar.indexCast v39
  let c128 : Index := 128#32
  ![v40.toNat, 128]
def k0_off3 (k0_t1 : Fin k0_t1_loop.trips) (c0_i32_22 : BitVec 32) : Fin 2 → Nat :=
  let c0_i32_10 : BitVec 32 := 0#32
  let c1_i32_11 : BitVec 32 := 1#32
  let arg8 : BitVec 32 := Scf.iv c0_i32_10 c1_i32_11 k0_t1
  let c48_i32_21 : BitVec 32 := 48#32
  let v44 : BitVec 32 := Scalar.muli arg8 c48_i32_21
  let v45 : BitVec 32 := Scalar.addi v44 c0_i32_22
  let v46 : Index := Scalar.indexCast v45
  let c256 : Index := 256#32
  ![v46.toNat, 256]
def k0_off4 (k0_t1 : Fin k0_t1_loop.trips) (c0_i32_24 : BitVec 32) : Fin 2 → Nat :=
  let c0_i32_10 : BitVec 32 := 0#32
  let c1_i32_11 : BitVec 32 := 1#32
  let arg8 : BitVec 32 := Scf.iv c0_i32_10 c1_i32_11 k0_t1
  let c48_i32_23 : BitVec 32 := 48#32
  let v50 : BitVec 32 := Scalar.muli arg8 c48_i32_23
  let v51 : BitVec 32 := Scalar.addi v50 c0_i32_24
  let v52 : Index := Scalar.indexCast v51
  let c384 : Index := 384#32
  ![v52.toNat, 384]
def k0_off5 (k0_t1 : Fin k0_t1_loop.trips) (c0_i32_26 : BitVec 32) : Fin 2 → Nat :=
  let c0_i32_10 : BitVec 32 := 0#32
  let c1_i32_11 : BitVec 32 := 1#32
  let arg8 : BitVec 32 := Scf.iv c0_i32_10 c1_i32_11 k0_t1
  let c48_i32_25 : BitVec 32 := 48#32
  let v56 : BitVec 32 := Scalar.muli arg8 c48_i32_25
  let v57 : BitVec 32 := Scalar.addi v56 c0_i32_26
  let v58 : Index := Scalar.indexCast v57
  let c512 : Index := 512#32
  ![v58.toNat, 512]
def k0_off6 (k0_t1 : Fin k0_t1_loop.trips) (c0_i32_28 : BitVec 32) : Fin 2 → Nat :=
  let c0_i32_10 : BitVec 32 := 0#32
  let c1_i32_11 : BitVec 32 := 1#32
  let arg8 : BitVec 32 := Scf.iv c0_i32_10 c1_i32_11 k0_t1
  let c48_i32_27 : BitVec 32 := 48#32
  let v62 : BitVec 32 := Scalar.muli arg8 c48_i32_27
  let v63 : BitVec 32 := Scalar.addi v62 c0_i32_28
  let v64 : Index := Scalar.indexCast v63
  let c640 : Index := 640#32
  ![v64.toNat, 640]
def k0_off7 (k0_t1 : Fin k0_t1_loop.trips) (c0_i32_30 : BitVec 32) : Fin 2 → Nat :=
  let c0_i32_10 : BitVec 32 := 0#32
  let c1_i32_11 : BitVec 32 := 1#32
  let arg8 : BitVec 32 := Scf.iv c0_i32_10 c1_i32_11 k0_t1
  let c48_i32_29 : BitVec 32 := 48#32
  let v68 : BitVec 32 := Scalar.muli arg8 c48_i32_29
  let v69 : BitVec 32 := Scalar.addi v68 c0_i32_30
  let v70 : Index := Scalar.indexCast v69
  let c768 : Index := 768#32
  ![v70.toNat, 768]
def k0_off8 (k0_t1 : Fin k0_t1_loop.trips) (c0_i32_32 : BitVec 32) : Fin 2 → Nat :=
  let c0_i32_10 : BitVec 32 := 0#32
  let c1_i32_11 : BitVec 32 := 1#32
  let arg8 : BitVec 32 := Scf.iv c0_i32_10 c1_i32_11 k0_t1
  let c48_i32_31 : BitVec 32 := 48#32
  let v74 : BitVec 32 := Scalar.muli arg8 c48_i32_31
  let v75 : BitVec 32 := Scalar.addi v74 c0_i32_32
  let v76 : Index := Scalar.indexCast v75
  let c896 : Index := 896#32
  ![v76.toNat, 896]
def k0_off9 (k0_t1 : Fin k0_t1_loop.trips) (c0_i32_34 : BitVec 32) : Fin 2 → Nat :=
  let c0_i32_10 : BitVec 32 := 0#32
  let c1_i32_11 : BitVec 32 := 1#32
  let arg8 : BitVec 32 := Scf.iv c0_i32_10 c1_i32_11 k0_t1
  let c48_i32_33 : BitVec 32 := 48#32
  let v80 : BitVec 32 := Scalar.muli arg8 c48_i32_33
  let v81 : BitVec 32 := Scalar.addi v80 c0_i32_34
  let v82 : Index := Scalar.indexCast v81
  let c1024 : Index := 1024#32
  ![v82.toNat, 1024]
def k0_off10 (k0_t1 : Fin k0_t1_loop.trips) (c0_i32_36 : BitVec 32) : Fin 2 → Nat :=
  let c0_i32_10 : BitVec 32 := 0#32
  let c1_i32_11 : BitVec 32 := 1#32
  let arg8 : BitVec 32 := Scf.iv c0_i32_10 c1_i32_11 k0_t1
  let c48_i32_35 : BitVec 32 := 48#32
  let v86 : BitVec 32 := Scalar.muli arg8 c48_i32_35
  let v87 : BitVec 32 := Scalar.addi v86 c0_i32_36
  let v88 : Index := Scalar.indexCast v87
  let c1152 : Index := 1152#32
  ![v88.toNat, 1152]
def k0_off11 (k0_t1 : Fin k0_t1_loop.trips) (c0_i32_38 : BitVec 32) : Fin 2 → Nat :=
  let c0_i32_10 : BitVec 32 := 0#32
  let c1_i32_11 : BitVec 32 := 1#32
  let arg8 : BitVec 32 := Scf.iv c0_i32_10 c1_i32_11 k0_t1
  let c48_i32_37 : BitVec 32 := 48#32
  let v92 : BitVec 32 := Scalar.muli arg8 c48_i32_37
  let v93 : BitVec 32 := Scalar.addi v92 c0_i32_38
  let v94 : Index := Scalar.indexCast v93
  let c1280 : Index := 1280#32
  ![v94.toNat, 1280]
def k0_off12 (k0_t1 : Fin k0_t1_loop.trips) (c0_i32_40 : BitVec 32) : Fin 2 → Nat :=
  let c0_i32_10 : BitVec 32 := 0#32
  let c1_i32_11 : BitVec 32 := 1#32
  let arg8 : BitVec 32 := Scf.iv c0_i32_10 c1_i32_11 k0_t1
  let c48_i32_39 : BitVec 32 := 48#32
  let v98 : BitVec 32 := Scalar.muli arg8 c48_i32_39
  let v99 : BitVec 32 := Scalar.addi v98 c0_i32_40
  let v100 : Index := Scalar.indexCast v99
  let c1408 : Index := 1408#32
  ![v100.toNat, 1408]
def k0_off13 (k0_t1 : Fin k0_t1_loop.trips) (c0_i32_42 : BitVec 32) : Fin 2 → Nat :=
  let c0_i32_10 : BitVec 32 := 0#32
  let c1_i32_11 : BitVec 32 := 1#32
  let arg8 : BitVec 32 := Scf.iv c0_i32_10 c1_i32_11 k0_t1
  let c48_i32_41 : BitVec 32 := 48#32
  let v104 : BitVec 32 := Scalar.muli arg8 c48_i32_41
  let v105 : BitVec 32 := Scalar.addi v104 c0_i32_42
  let v106 : Index := Scalar.indexCast v105
  let c1536 : Index := 1536#32
  ![v106.toNat, 1536]
def k0_off14 (k0_t1 : Fin k0_t1_loop.trips) (c0_i32_44 : BitVec 32) : Fin 2 → Nat :=
  let c0_i32_10 : BitVec 32 := 0#32
  let c1_i32_11 : BitVec 32 := 1#32
  let arg8 : BitVec 32 := Scf.iv c0_i32_10 c1_i32_11 k0_t1
  let c48_i32_43 : BitVec 32 := 48#32
  let v110 : BitVec 32 := Scalar.muli arg8 c48_i32_43
  let v111 : BitVec 32 := Scalar.addi v110 c0_i32_44
  let v112 : Index := Scalar.indexCast v111
  let c1664 : Index := 1664#32
  ![v112.toNat, 1664]
def k0_off15 (k0_t1 : Fin k0_t1_loop.trips) (c0_i32_46 : BitVec 32) : Fin 2 → Nat :=
  let c0_i32_10 : BitVec 32 := 0#32
  let c1_i32_11 : BitVec 32 := 1#32
  let arg8 : BitVec 32 := Scf.iv c0_i32_10 c1_i32_11 k0_t1
  let c48_i32_45 : BitVec 32 := 48#32
  let v116 : BitVec 32 := Scalar.muli arg8 c48_i32_45
  let v117 : BitVec 32 := Scalar.addi v116 c0_i32_46
  let v118 : Index := Scalar.indexCast v117
  let c1792 : Index := 1792#32
  ![v118.toNat, 1792]
def k0_off16 (k0_t1 : Fin k0_t1_loop.trips) (c0_i32_48 : BitVec 32) : Fin 2 → Nat :=
  let c0_i32_10 : BitVec 32 := 0#32
  let c1_i32_11 : BitVec 32 := 1#32
  let arg8 : BitVec 32 := Scf.iv c0_i32_10 c1_i32_11 k0_t1
  let c48_i32_47 : BitVec 32 := 48#32
  let v122 : BitVec 32 := Scalar.muli arg8 c48_i32_47
  let v123 : BitVec 32 := Scalar.addi v122 c0_i32_48
  let v124 : Index := Scalar.indexCast v123
  let c1920 : Index := 1920#32
  ![v124.toNat, 1920]
def k0_off17 (k0_t1 : Fin k0_t1_loop.trips) (c0_i32_50 : BitVec 32) : Fin 2 → Nat :=
  let c0_i32_10 : BitVec 32 := 0#32
  let c1_i32_11 : BitVec 32 := 1#32
  let arg8 : BitVec 32 := Scf.iv c0_i32_10 c1_i32_11 k0_t1
  let c48_i32_49 : BitVec 32 := 48#32
  let v128 : BitVec 32 := Scalar.muli arg8 c48_i32_49
  let v129 : BitVec 32 := Scalar.addi v128 c0_i32_50
  let v130 : Index := Scalar.indexCast v129
  let c2048 : Index := 2048#32
  ![v130.toNat, 2048]
def k0_off18 (k0_t1 : Fin k0_t1_loop.trips) (c0_i32_52 : BitVec 32) : Fin 2 → Nat :=
  let c0_i32_10 : BitVec 32 := 0#32
  let c1_i32_11 : BitVec 32 := 1#32
  let arg8 : BitVec 32 := Scf.iv c0_i32_10 c1_i32_11 k0_t1
  let c48_i32_51 : BitVec 32 := 48#32
  let v134 : BitVec 32 := Scalar.muli arg8 c48_i32_51
  let v135 : BitVec 32 := Scalar.addi v134 c0_i32_52
  let v136 : Index := Scalar.indexCast v135
  let c2176 : Index := 2176#32
  ![v136.toNat, 2176]
def k0_off19 (k0_t1 : Fin k0_t1_loop.trips) (c0_i32_54 : BitVec 32) : Fin 2 → Nat :=
  let c0_i32_10 : BitVec 32 := 0#32
  let c1_i32_11 : BitVec 32 := 1#32
  let arg8 : BitVec 32 := Scf.iv c0_i32_10 c1_i32_11 k0_t1
  let c48_i32_53 : BitVec 32 := 48#32
  let v140 : BitVec 32 := Scalar.muli arg8 c48_i32_53
  let v141 : BitVec 32 := Scalar.addi v140 c0_i32_54
  let v142 : Index := Scalar.indexCast v141
  let c2304 : Index := 2304#32
  ![v142.toNat, 2304]
def k0_off20 (k0_t1 : Fin k0_t1_loop.trips) (c0_i32_56 : BitVec 32) : Fin 2 → Nat :=
  let c0_i32_10 : BitVec 32 := 0#32
  let c1_i32_11 : BitVec 32 := 1#32
  let arg8 : BitVec 32 := Scf.iv c0_i32_10 c1_i32_11 k0_t1
  let c48_i32_55 : BitVec 32 := 48#32
  let v146 : BitVec 32 := Scalar.muli arg8 c48_i32_55
  let v147 : BitVec 32 := Scalar.addi v146 c0_i32_56
  let v148 : Index := Scalar.indexCast v147
  let c2432 : Index := 2432#32
  ![v148.toNat, 2432]
def k0_off21 (k0_t1 : Fin k0_t1_loop.trips) (c0_i32_58 : BitVec 32) : Fin 2 → Nat :=
  let c0_i32_10 : BitVec 32 := 0#32
  let c1_i32_11 : BitVec 32 := 1#32
  let arg8 : BitVec 32 := Scf.iv c0_i32_10 c1_i32_11 k0_t1
  let c48_i32_57 : BitVec 32 := 48#32
  let v152 : BitVec 32 := Scalar.muli arg8 c48_i32_57
  let v153 : BitVec 32 := Scalar.addi v152 c0_i32_58
  let v154 : Index := Scalar.indexCast v153
  let c2560 : Index := 2560#32
  ![v154.toNat, 2560]
def k0_off22 (k0_t1 : Fin k0_t1_loop.trips) (c0_i32_60 : BitVec 32) : Fin 2 → Nat :=
  let c0_i32_10 : BitVec 32 := 0#32
  let c1_i32_11 : BitVec 32 := 1#32
  let arg8 : BitVec 32 := Scf.iv c0_i32_10 c1_i32_11 k0_t1
  let c48_i32_59 : BitVec 32 := 48#32
  let v158 : BitVec 32 := Scalar.muli arg8 c48_i32_59
  let v159 : BitVec 32 := Scalar.addi v158 c0_i32_60
  let v160 : Index := Scalar.indexCast v159
  let c2688 : Index := 2688#32
  ![v160.toNat, 2688]
def k0_off23 (k0_t1 : Fin k0_t1_loop.trips) (c0_i32_62 : BitVec 32) : Fin 2 → Nat :=
  let c0_i32_10 : BitVec 32 := 0#32
  let c1_i32_11 : BitVec 32 := 1#32
  let arg8 : BitVec 32 := Scf.iv c0_i32_10 c1_i32_11 k0_t1
  let c48_i32_61 : BitVec 32 := 48#32
  let v164 : BitVec 32 := Scalar.muli arg8 c48_i32_61
  let v165 : BitVec 32 := Scalar.addi v164 c0_i32_62
  let v166 : Index := Scalar.indexCast v165
  let c2816 : Index := 2816#32
  ![v166.toNat, 2816]
def k0_off24 (k0_t1 : Fin k0_t1_loop.trips) (c0_i32_64 : BitVec 32) : Fin 2 → Nat :=
  let c0_i32_10 : BitVec 32 := 0#32
  let c1_i32_11 : BitVec 32 := 1#32
  let arg8 : BitVec 32 := Scf.iv c0_i32_10 c1_i32_11 k0_t1
  let c48_i32_63 : BitVec 32 := 48#32
  let v170 : BitVec 32 := Scalar.muli arg8 c48_i32_63
  let v171 : BitVec 32 := Scalar.addi v170 c0_i32_64
  let v172 : Index := Scalar.indexCast v171
  let c2944 : Index := 2944#32
  ![v172.toNat, 2944]
def k0_off25 (k0_t1 : Fin k0_t1_loop.trips) (c0_i32_66 : BitVec 32) : Fin 2 → Nat :=
  let c0_i32_10 : BitVec 32 := 0#32
  let c1_i32_11 : BitVec 32 := 1#32
  let arg8 : BitVec 32 := Scf.iv c0_i32_10 c1_i32_11 k0_t1
  let c48_i32_65 : BitVec 32 := 48#32
  let v176 : BitVec 32 := Scalar.muli arg8 c48_i32_65
  let v177 : BitVec 32 := Scalar.addi v176 c0_i32_66
  let v178 : Index := Scalar.indexCast v177
  let c3072 : Index := 3072#32
  ![v178.toNat, 3072]
def k0_off26 (k0_t1 : Fin k0_t1_loop.trips) (c0_i32_68 : BitVec 32) : Fin 2 → Nat :=
  let c0_i32_10 : BitVec 32 := 0#32
  let c1_i32_11 : BitVec 32 := 1#32
  let arg8 : BitVec 32 := Scf.iv c0_i32_10 c1_i32_11 k0_t1
  let c48_i32_67 : BitVec 32 := 48#32
  let v182 : BitVec 32 := Scalar.muli arg8 c48_i32_67
  let v183 : BitVec 32 := Scalar.addi v182 c0_i32_68
  let v184 : Index := Scalar.indexCast v183
  let c3200 : Index := 3200#32
  ![v184.toNat, 3200]
def k0_off27 (k0_t1 : Fin k0_t1_loop.trips) (c0_i32_70 : BitVec 32) : Fin 2 → Nat :=
  let c0_i32_10 : BitVec 32 := 0#32
  let c1_i32_11 : BitVec 32 := 1#32
  let arg8 : BitVec 32 := Scf.iv c0_i32_10 c1_i32_11 k0_t1
  let c48_i32_69 : BitVec 32 := 48#32
  let v188 : BitVec 32 := Scalar.muli arg8 c48_i32_69
  let v189 : BitVec 32 := Scalar.addi v188 c0_i32_70
  let v190 : Index := Scalar.indexCast v189
  let c3328 : Index := 3328#32
  ![v190.toNat, 3328]
def k0_off28 (k0_t1 : Fin k0_t1_loop.trips) (c0_i32_72 : BitVec 32) : Fin 2 → Nat :=
  let c0_i32_10 : BitVec 32 := 0#32
  let c1_i32_11 : BitVec 32 := 1#32
  let arg8 : BitVec 32 := Scf.iv c0_i32_10 c1_i32_11 k0_t1
  let c48_i32_71 : BitVec 32 := 48#32
  let v194 : BitVec 32 := Scalar.muli arg8 c48_i32_71
  let v195 : BitVec 32 := Scalar.addi v194 c0_i32_72
  let v196 : Index := Scalar.indexCast v195
  let c3456 : Index := 3456#32
  ![v196.toNat, 3456]
def k0_off29 (k0_t1 : Fin k0_t1_loop.trips) (c0_i32_74 : BitVec 32) : Fin 2 → Nat :=
  let c0_i32_10 : BitVec 32 := 0#32
  let c1_i32_11 : BitVec 32 := 1#32
  let arg8 : BitVec 32 := Scf.iv c0_i32_10 c1_i32_11 k0_t1
  let c48_i32_73 : BitVec 32 := 48#32
  let v200 : BitVec 32 := Scalar.muli arg8 c48_i32_73
  let v201 : BitVec 32 := Scalar.addi v200 c0_i32_74
  let v202 : Index := Scalar.indexCast v201
  let c3584 : Index := 3584#32
  ![v202.toNat, 3584]
def k0_off30 (k0_t1 : Fin k0_t1_loop.trips) (c0_i32_76 : BitVec 32) : Fin 2 → Nat :=
  let c0_i32_10 : BitVec 32 := 0#32
  let c1_i32_11 : BitVec 32 := 1#32
  let arg8 : BitVec 32 := Scf.iv c0_i32_10 c1_i32_11 k0_t1
  let c48_i32_75 : BitVec 32 := 48#32
  let v206 : BitVec 32 := Scalar.muli arg8 c48_i32_75
  let v207 : BitVec 32 := Scalar.addi v206 c0_i32_76
  let v208 : Index := Scalar.indexCast v207
  let c3712 : Index := 3712#32
  ![v208.toNat, 3712]
def k0_off31 (k0_t1 : Fin k0_t1_loop.trips) (c0_i32_78 : BitVec 32) : Fin 2 → Nat :=
  let c0_i32_10 : BitVec 32 := 0#32
  let c1_i32_11 : BitVec 32 := 1#32
  let arg8 : BitVec 32 := Scf.iv c0_i32_10 c1_i32_11 k0_t1
  let c48_i32_77 : BitVec 32 := 48#32
  let v212 : BitVec 32 := Scalar.muli arg8 c48_i32_77
  let v213 : BitVec 32 := Scalar.addi v212 c0_i32_78
  let v214 : Index := Scalar.indexCast v213
  let c3840 : Index := 3840#32
  ![v214.toNat, 3840]
def k0_off32 (k0_t1 : Fin k0_t1_loop.trips) (c0_i32_80 : BitVec 32) : Fin 2 → Nat :=
  let c0_i32_10 : BitVec 32 := 0#32
  let c1_i32_11 : BitVec 32 := 1#32
  let arg8 : BitVec 32 := Scf.iv c0_i32_10 c1_i32_11 k0_t1
  let c48_i32_79 : BitVec 32 := 48#32
  let v218 : BitVec 32 := Scalar.muli arg8 c48_i32_79
  let v219 : BitVec 32 := Scalar.addi v218 c0_i32_80
  let v220 : Index := Scalar.indexCast v219
  let c3968 : Index := 3968#32
  ![v220.toNat, 3968]
def k0_off33 (k0_t1 : Fin k0_t1_loop.trips) (c0_i32_82 : BitVec 32) : Fin 2 → Nat :=
  let c0_i32_10 : BitVec 32 := 0#32
  let c1_i32_11 : BitVec 32 := 1#32
  let arg8 : BitVec 32 := Scf.iv c0_i32_10 c1_i32_11 k0_t1
  let c48_i32_81 : BitVec 32 := 48#32
  let v224 : BitVec 32 := Scalar.muli arg8 c48_i32_81
  let v225 : BitVec 32 := Scalar.addi v224 c0_i32_82
  let v226 : Index := Scalar.indexCast v225
  let c4096 : Index := 4096#32
  ![v226.toNat, 4096]
def k0_off34 (k0_t1 : Fin k0_t1_loop.trips) (c0_i32_84 : BitVec 32) : Fin 2 → Nat :=
  let c0_i32_10 : BitVec 32 := 0#32
  let c1_i32_11 : BitVec 32 := 1#32
  let arg8 : BitVec 32 := Scf.iv c0_i32_10 c1_i32_11 k0_t1
  let c48_i32_83 : BitVec 32 := 48#32
  let v230 : BitVec 32 := Scalar.muli arg8 c48_i32_83
  let v231 : BitVec 32 := Scalar.addi v230 c0_i32_84
  let v232 : Index := Scalar.indexCast v231
  let c4224 : Index := 4224#32
  ![v232.toNat, 4224]
def k0_off35 (k0_t1 : Fin k0_t1_loop.trips) (c0_i32_86 : BitVec 32) : Fin 2 → Nat :=
  let c0_i32_10 : BitVec 32 := 0#32
  let c1_i32_11 : BitVec 32 := 1#32
  let arg8 : BitVec 32 := Scf.iv c0_i32_10 c1_i32_11 k0_t1
  let c48_i32_85 : BitVec 32 := 48#32
  let v236 : BitVec 32 := Scalar.muli arg8 c48_i32_85
  let v237 : BitVec 32 := Scalar.addi v236 c0_i32_86
  let v238 : Index := Scalar.indexCast v237
  let c4352 : Index := 4352#32
  ![v238.toNat, 4352]
def k0_off36 (k0_t1 : Fin k0_t1_loop.trips) (c0_i32_88 : BitVec 32) : Fin 2 → Nat :=
  let c0_i32_10 : BitVec 32 := 0#32
  let c1_i32_11 : BitVec 32 := 1#32
  let arg8 : BitVec 32 := Scf.iv c0_i32_10 c1_i32_11 k0_t1
  let c48_i32_87 : BitVec 32 := 48#32
  let v242 : BitVec 32 := Scalar.muli arg8 c48_i32_87
  let v243 : BitVec 32 := Scalar.addi v242 c0_i32_88
  let v244 : Index := Scalar.indexCast v243
  let c4480 : Index := 4480#32
  ![v244.toNat, 4480]
def k0_off37 (k0_t1 : Fin k0_t1_loop.trips) (c0_i32_90 : BitVec 32) : Fin 2 → Nat :=
  let c0_i32_10 : BitVec 32 := 0#32
  let c1_i32_11 : BitVec 32 := 1#32
  let arg8 : BitVec 32 := Scf.iv c0_i32_10 c1_i32_11 k0_t1
  let c48_i32_89 : BitVec 32 := 48#32
  let v248 : BitVec 32 := Scalar.muli arg8 c48_i32_89
  let v249 : BitVec 32 := Scalar.addi v248 c0_i32_90
  let v250 : Index := Scalar.indexCast v249
  let c4608 : Index := 4608#32
  ![v250.toNat, 4608]
def k0_off38 (k0_t1 : Fin k0_t1_loop.trips) (c0_i32_92 : BitVec 32) : Fin 2 → Nat :=
  let c0_i32_10 : BitVec 32 := 0#32
  let c1_i32_11 : BitVec 32 := 1#32
  let arg8 : BitVec 32 := Scf.iv c0_i32_10 c1_i32_11 k0_t1
  let c48_i32_91 : BitVec 32 := 48#32
  let v254 : BitVec 32 := Scalar.muli arg8 c48_i32_91
  let v255 : BitVec 32 := Scalar.addi v254 c0_i32_92
  let v256 : Index := Scalar.indexCast v255
  let c4736 : Index := 4736#32
  ![v256.toNat, 4736]
def k0_off39 (k0_t1 : Fin k0_t1_loop.trips) (c0_i32_94 : BitVec 32) : Fin 2 → Nat :=
  let c0_i32_10 : BitVec 32 := 0#32
  let c1_i32_11 : BitVec 32 := 1#32
  let arg8 : BitVec 32 := Scf.iv c0_i32_10 c1_i32_11 k0_t1
  let c48_i32_93 : BitVec 32 := 48#32
  let v260 : BitVec 32 := Scalar.muli arg8 c48_i32_93
  let v261 : BitVec 32 := Scalar.addi v260 c0_i32_94
  let v262 : Index := Scalar.indexCast v261
  let c4864 : Index := 4864#32
  ![v262.toNat, 4864]
def k0_off40 (k0_t1 : Fin k0_t1_loop.trips) (c0_i32_96 : BitVec 32) : Fin 2 → Nat :=
  let c0_i32_10 : BitVec 32 := 0#32
  let c1_i32_11 : BitVec 32 := 1#32
  let arg8 : BitVec 32 := Scf.iv c0_i32_10 c1_i32_11 k0_t1
  let c48_i32_95 : BitVec 32 := 48#32
  let v266 : BitVec 32 := Scalar.muli arg8 c48_i32_95
  let v267 : BitVec 32 := Scalar.addi v266 c0_i32_96
  let v268 : Index := Scalar.indexCast v267
  let c4992 : Index := 4992#32
  ![v268.toNat, 4992]
def k0_off41 (k0_t1 : Fin k0_t1_loop.trips) (c0_i32_98 : BitVec 32) : Fin 2 → Nat :=
  let c0_i32_10 : BitVec 32 := 0#32
  let c1_i32_11 : BitVec 32 := 1#32
  let arg8 : BitVec 32 := Scf.iv c0_i32_10 c1_i32_11 k0_t1
  let c48_i32_97 : BitVec 32 := 48#32
  let v272 : BitVec 32 := Scalar.muli arg8 c48_i32_97
  let v273 : BitVec 32 := Scalar.addi v272 c0_i32_98
  let v274 : Index := Scalar.indexCast v273
  let c5120 : Index := 5120#32
  ![v274.toNat, 5120]
def k0_off42 (k0_t1 : Fin k0_t1_loop.trips) (c0_i32_100 : BitVec 32) : Fin 2 → Nat :=
  let c0_i32_10 : BitVec 32 := 0#32
  let c1_i32_11 : BitVec 32 := 1#32
  let arg8 : BitVec 32 := Scf.iv c0_i32_10 c1_i32_11 k0_t1
  let c48_i32_99 : BitVec 32 := 48#32
  let v278 : BitVec 32 := Scalar.muli arg8 c48_i32_99
  let v279 : BitVec 32 := Scalar.addi v278 c0_i32_100
  let v280 : Index := Scalar.indexCast v279
  let c5248 : Index := 5248#32
  ![v280.toNat, 5248]
def k0_off43 (k0_t1 : Fin k0_t1_loop.trips) (c0_i32_102 : BitVec 32) : Fin 2 → Nat :=
  let c0_i32_10 : BitVec 32 := 0#32
  let c1_i32_11 : BitVec 32 := 1#32
  let arg8 : BitVec 32 := Scf.iv c0_i32_10 c1_i32_11 k0_t1
  let c48_i32_101 : BitVec 32 := 48#32
  let v284 : BitVec 32 := Scalar.muli arg8 c48_i32_101
  let v285 : BitVec 32 := Scalar.addi v284 c0_i32_102
  let v286 : Index := Scalar.indexCast v285
  let c5376 : Index := 5376#32
  ![v286.toNat, 5376]
def k0_off44 (k0_t1 : Fin k0_t1_loop.trips) (c0_i32_104 : BitVec 32) : Fin 2 → Nat :=
  let c0_i32_10 : BitVec 32 := 0#32
  let c1_i32_11 : BitVec 32 := 1#32
  let arg8 : BitVec 32 := Scf.iv c0_i32_10 c1_i32_11 k0_t1
  let c48_i32_103 : BitVec 32 := 48#32
  let v290 : BitVec 32 := Scalar.muli arg8 c48_i32_103
  let v291 : BitVec 32 := Scalar.addi v290 c0_i32_104
  let v292 : Index := Scalar.indexCast v291
  let c5504 : Index := 5504#32
  ![v292.toNat, 5504]
def k0_off45 (k0_t1 : Fin k0_t1_loop.trips) (c0_i32_106 : BitVec 32) : Fin 2 → Nat :=
  let c0_i32_10 : BitVec 32 := 0#32
  let c1_i32_11 : BitVec 32 := 1#32
  let arg8 : BitVec 32 := Scf.iv c0_i32_10 c1_i32_11 k0_t1
  let c48_i32_105 : BitVec 32 := 48#32
  let v296 : BitVec 32 := Scalar.muli arg8 c48_i32_105
  let v297 : BitVec 32 := Scalar.addi v296 c0_i32_106
  let v298 : Index := Scalar.indexCast v297
  let c5632 : Index := 5632#32
  ![v298.toNat, 5632]
def k0_off46 (k0_t1 : Fin k0_t1_loop.trips) (c0_i32_108 : BitVec 32) : Fin 2 → Nat :=
  let c0_i32_10 : BitVec 32 := 0#32
  let c1_i32_11 : BitVec 32 := 1#32
  let arg8 : BitVec 32 := Scf.iv c0_i32_10 c1_i32_11 k0_t1
  let c48_i32_107 : BitVec 32 := 48#32
  let v302 : BitVec 32 := Scalar.muli arg8 c48_i32_107
  let v303 : BitVec 32 := Scalar.addi v302 c0_i32_108
  let v304 : Index := Scalar.indexCast v303
  let c5760 : Index := 5760#32
  ![v304.toNat, 5760]
def k0_off47 (k0_t1 : Fin k0_t1_loop.trips) (c0_i32_110 : BitVec 32) : Fin 2 → Nat :=
  let c0_i32_10 : BitVec 32 := 0#32
  let c1_i32_11 : BitVec 32 := 1#32
  let arg8 : BitVec 32 := Scf.iv c0_i32_10 c1_i32_11 k0_t1
  let c48_i32_109 : BitVec 32 := 48#32
  let v308 : BitVec 32 := Scalar.muli arg8 c48_i32_109
  let v309 : BitVec 32 := Scalar.addi v308 c0_i32_110
  let v310 : Index := Scalar.indexCast v309
  let c5888 : Index := 5888#32
  ![v310.toNat, 5888]
def k0_off48 (k0_t1 : Fin k0_t1_loop.trips) (c0_i32_112 : BitVec 32) : Fin 2 → Nat :=
  let c0_i32_10 : BitVec 32 := 0#32
  let c1_i32_11 : BitVec 32 := 1#32
  let arg8 : BitVec 32 := Scf.iv c0_i32_10 c1_i32_11 k0_t1
  let c48_i32_111 : BitVec 32 := 48#32
  let v314 : BitVec 32 := Scalar.muli arg8 c48_i32_111
  let v315 : BitVec 32 := Scalar.addi v314 c0_i32_112
  let v316 : Index := Scalar.indexCast v315
  let c6016 : Index := 6016#32
  ![v316.toNat, 6016]
def k0_off49 (k0_t1 : Fin k0_t1_loop.trips) (c0_i32_114 : BitVec 32) : Fin 2 → Nat :=
  let c0_i32_10 : BitVec 32 := 0#32
  let c1_i32_11 : BitVec 32 := 1#32
  let arg8 : BitVec 32 := Scf.iv c0_i32_10 c1_i32_11 k0_t1
  let c48_i32_113 : BitVec 32 := 48#32
  let v320 : BitVec 32 := Scalar.muli arg8 c48_i32_113
  let v321 : BitVec 32 := Scalar.addi v320 c0_i32_114
  let v322 : Index := Scalar.indexCast v321
  let c6144 : Index := 6144#32
  ![v322.toNat, 6144]
def k0_off50 (k0_t1 : Fin k0_t1_loop.trips) (c0_i32_116 : BitVec 32) : Fin 2 → Nat :=
  let c0_i32_10 : BitVec 32 := 0#32
  let c1_i32_11 : BitVec 32 := 1#32
  let arg8 : BitVec 32 := Scf.iv c0_i32_10 c1_i32_11 k0_t1
  let c48_i32_115 : BitVec 32 := 48#32
  let v326 : BitVec 32 := Scalar.muli arg8 c48_i32_115
  let v327 : BitVec 32 := Scalar.addi v326 c0_i32_116
  let v328 : Index := Scalar.indexCast v327
  let c6272 : Index := 6272#32
  ![v328.toNat, 6272]
def k0_off51 (k0_t1 : Fin k0_t1_loop.trips) (c0_i32_118 : BitVec 32) : Fin 2 → Nat :=
  let c0_i32_10 : BitVec 32 := 0#32
  let c1_i32_11 : BitVec 32 := 1#32
  let arg8 : BitVec 32 := Scf.iv c0_i32_10 c1_i32_11 k0_t1
  let c48_i32_117 : BitVec 32 := 48#32
  let v332 : BitVec 32 := Scalar.muli arg8 c48_i32_117
  let v333 : BitVec 32 := Scalar.addi v332 c0_i32_118
  let v334 : Index := Scalar.indexCast v333
  let c6400 : Index := 6400#32
  ![v334.toNat, 6400]
def k0_off52 (k0_t1 : Fin k0_t1_loop.trips) (c0_i32_120 : BitVec 32) : Fin 2 → Nat :=
  let c0_i32_10 : BitVec 32 := 0#32
  let c1_i32_11 : BitVec 32 := 1#32
  let arg8 : BitVec 32 := Scf.iv c0_i32_10 c1_i32_11 k0_t1
  let c48_i32_119 : BitVec 32 := 48#32
  let v338 : BitVec 32 := Scalar.muli arg8 c48_i32_119
  let v339 : BitVec 32 := Scalar.addi v338 c0_i32_120
  let v340 : Index := Scalar.indexCast v339
  let c6528 : Index := 6528#32
  ![v340.toNat, 6528]
def k0_off53 (k0_t1 : Fin k0_t1_loop.trips) (c0_i32_122 : BitVec 32) : Fin 2 → Nat :=
  let c0_i32_10 : BitVec 32 := 0#32
  let c1_i32_11 : BitVec 32 := 1#32
  let arg8 : BitVec 32 := Scf.iv c0_i32_10 c1_i32_11 k0_t1
  let c48_i32_121 : BitVec 32 := 48#32
  let v344 : BitVec 32 := Scalar.muli arg8 c48_i32_121
  let v345 : BitVec 32 := Scalar.addi v344 c0_i32_122
  let v346 : Index := Scalar.indexCast v345
  let c6656 : Index := 6656#32
  ![v346.toNat, 6656]
def k0_off54 (k0_t1 : Fin k0_t1_loop.trips) (c0_i32_124 : BitVec 32) : Fin 2 → Nat :=
  let c0_i32_10 : BitVec 32 := 0#32
  let c1_i32_11 : BitVec 32 := 1#32
  let arg8 : BitVec 32 := Scf.iv c0_i32_10 c1_i32_11 k0_t1
  let c48_i32_123 : BitVec 32 := 48#32
  let v350 : BitVec 32 := Scalar.muli arg8 c48_i32_123
  let v351 : BitVec 32 := Scalar.addi v350 c0_i32_124
  let v352 : Index := Scalar.indexCast v351
  let c6784 : Index := 6784#32
  ![v352.toNat, 6784]
def k0_off55 (k0_t1 : Fin k0_t1_loop.trips) (c0_i32_126 : BitVec 32) : Fin 2 → Nat :=
  let c0_i32_10 : BitVec 32 := 0#32
  let c1_i32_11 : BitVec 32 := 1#32
  let arg8 : BitVec 32 := Scf.iv c0_i32_10 c1_i32_11 k0_t1
  let c48_i32_125 : BitVec 32 := 48#32
  let v356 : BitVec 32 := Scalar.muli arg8 c48_i32_125
  let v357 : BitVec 32 := Scalar.addi v356 c0_i32_126
  let v358 : Index := Scalar.indexCast v357
  let c6912 : Index := 6912#32
  ![v358.toNat, 6912]
def k0_off56 (k0_t1 : Fin k0_t1_loop.trips) (c0_i32_128 : BitVec 32) : Fin 2 → Nat :=
  let c0_i32_10 : BitVec 32 := 0#32
  let c1_i32_11 : BitVec 32 := 1#32
  let arg8 : BitVec 32 := Scf.iv c0_i32_10 c1_i32_11 k0_t1
  let c48_i32_127 : BitVec 32 := 48#32
  let v362 : BitVec 32 := Scalar.muli arg8 c48_i32_127
  let v363 : BitVec 32 := Scalar.addi v362 c0_i32_128
  let v364 : Index := Scalar.indexCast v363
  let c7040 : Index := 7040#32
  ![v364.toNat, 7040]
def k0_off57 (k0_t1 : Fin k0_t1_loop.trips) (c0_i32_130 : BitVec 32) : Fin 2 → Nat :=
  let c0_i32_10 : BitVec 32 := 0#32
  let c1_i32_11 : BitVec 32 := 1#32
  let arg8 : BitVec 32 := Scf.iv c0_i32_10 c1_i32_11 k0_t1
  let c48_i32_129 : BitVec 32 := 48#32
  let v368 : BitVec 32 := Scalar.muli arg8 c48_i32_129
  let v369 : BitVec 32 := Scalar.addi v368 c0_i32_130
  let v370 : Index := Scalar.indexCast v369
  let c7168 : Index := 7168#32
  ![v370.toNat, 7168]
def k0_off58 (k0_t1 : Fin k0_t1_loop.trips) (c0_i32_132 : BitVec 32) : Fin 2 → Nat :=
  let c0_i32_10 : BitVec 32 := 0#32
  let c1_i32_11 : BitVec 32 := 1#32
  let arg8 : BitVec 32 := Scf.iv c0_i32_10 c1_i32_11 k0_t1
  let c48_i32_131 : BitVec 32 := 48#32
  let v374 : BitVec 32 := Scalar.muli arg8 c48_i32_131
  let v375 : BitVec 32 := Scalar.addi v374 c0_i32_132
  let v376 : Index := Scalar.indexCast v375
  let c7296 : Index := 7296#32
  ![v376.toNat, 7296]
def k0_off59 (k0_t1 : Fin k0_t1_loop.trips) (c0_i32_134 : BitVec 32) : Fin 2 → Nat :=
  let c0_i32_10 : BitVec 32 := 0#32
  let c1_i32_11 : BitVec 32 := 1#32
  let arg8 : BitVec 32 := Scf.iv c0_i32_10 c1_i32_11 k0_t1
  let c48_i32_133 : BitVec 32 := 48#32
  let v380 : BitVec 32 := Scalar.muli arg8 c48_i32_133
  let v381 : BitVec 32 := Scalar.addi v380 c0_i32_134
  let v382 : Index := Scalar.indexCast v381
  let c7424 : Index := 7424#32
  ![v382.toNat, 7424]
def k0_off60 (k0_t1 : Fin k0_t1_loop.trips) (c0_i32_136 : BitVec 32) : Fin 2 → Nat :=
  let c0_i32_10 : BitVec 32 := 0#32
  let c1_i32_11 : BitVec 32 := 1#32
  let arg8 : BitVec 32 := Scf.iv c0_i32_10 c1_i32_11 k0_t1
  let c48_i32_135 : BitVec 32 := 48#32
  let v386 : BitVec 32 := Scalar.muli arg8 c48_i32_135
  let v387 : BitVec 32 := Scalar.addi v386 c0_i32_136
  let v388 : Index := Scalar.indexCast v387
  let c7552 : Index := 7552#32
  ![v388.toNat, 7552]
def k0_off61 (k0_t1 : Fin k0_t1_loop.trips) (c0_i32_138 : BitVec 32) : Fin 2 → Nat :=
  let c0_i32_10 : BitVec 32 := 0#32
  let c1_i32_11 : BitVec 32 := 1#32
  let arg8 : BitVec 32 := Scf.iv c0_i32_10 c1_i32_11 k0_t1
  let c48_i32_137 : BitVec 32 := 48#32
  let v392 : BitVec 32 := Scalar.muli arg8 c48_i32_137
  let v393 : BitVec 32 := Scalar.addi v392 c0_i32_138
  let v394 : Index := Scalar.indexCast v393
  let c7680 : Index := 7680#32
  ![v394.toNat, 7680]
def k0_off62 (k0_t1 : Fin k0_t1_loop.trips) (c0_i32_140 : BitVec 32) : Fin 2 → Nat :=
  let c0_i32_10 : BitVec 32 := 0#32
  let c1_i32_11 : BitVec 32 := 1#32
  let arg8 : BitVec 32 := Scf.iv c0_i32_10 c1_i32_11 k0_t1
  let c48_i32_139 : BitVec 32 := 48#32
  let v398 : BitVec 32 := Scalar.muli arg8 c48_i32_139
  let v399 : BitVec 32 := Scalar.addi v398 c0_i32_140
  let v400 : Index := Scalar.indexCast v399
  let c7808 : Index := 7808#32
  ![v400.toNat, 7808]
def k0_off63 (k0_t1 : Fin k0_t1_loop.trips) (c0_i32_142 : BitVec 32) : Fin 2 → Nat :=
  let c0_i32_10 : BitVec 32 := 0#32
  let c1_i32_11 : BitVec 32 := 1#32
  let arg8 : BitVec 32 := Scf.iv c0_i32_10 c1_i32_11 k0_t1
  let c48_i32_141 : BitVec 32 := 48#32
  let v404 : BitVec 32 := Scalar.muli arg8 c48_i32_141
  let v405 : BitVec 32 := Scalar.addi v404 c0_i32_142
  let v406 : Index := Scalar.indexCast v405
  let c7936 : Index := 7936#32
  ![v406.toNat, 7936]
def k0_off64 (k0_t1 : Fin k0_t1_loop.trips) (c0_i32_144 : BitVec 32) : Fin 2 → Nat :=
  let c0_i32_10 : BitVec 32 := 0#32
  let c1_i32_11 : BitVec 32 := 1#32
  let arg8 : BitVec 32 := Scf.iv c0_i32_10 c1_i32_11 k0_t1
  let c48_i32_143 : BitVec 32 := 48#32
  let v410 : BitVec 32 := Scalar.muli arg8 c48_i32_143
  let v411 : BitVec 32 := Scalar.addi v410 c0_i32_144
  let v412 : Index := Scalar.indexCast v411
  let c8064 : Index := 8064#32
  ![v412.toNat, 8064]
def k0_off65 (k0_t1 : Fin k0_t1_loop.trips) (c0_i32_146 : BitVec 32) : Fin 2 → Nat :=
  let c0_i32_10 : BitVec 32 := 0#32
  let c1_i32_11 : BitVec 32 := 1#32
  let arg8 : BitVec 32 := Scf.iv c0_i32_10 c1_i32_11 k0_t1
  let c48_i32_145 : BitVec 32 := 48#32
  let v416 : BitVec 32 := Scalar.muli arg8 c48_i32_145
  let v417 : BitVec 32 := Scalar.addi v416 c0_i32_146
  let v418 : Index := Scalar.indexCast v417
  let c8192 : Index := 8192#32
  ![v418.toNat, 8192]
def k0_off66 (k0_t1 : Fin k0_t1_loop.trips) (c0_i32_148 : BitVec 32) : Fin 2 → Nat :=
  let c0_i32_10 : BitVec 32 := 0#32
  let c1_i32_11 : BitVec 32 := 1#32
  let arg8 : BitVec 32 := Scf.iv c0_i32_10 c1_i32_11 k0_t1
  let c48_i32_147 : BitVec 32 := 48#32
  let v422 : BitVec 32 := Scalar.muli arg8 c48_i32_147
  let v423 : BitVec 32 := Scalar.addi v422 c0_i32_148
  let v424 : Index := Scalar.indexCast v423
  let c8320 : Index := 8320#32
  ![v424.toNat, 8320]
def k0_off67 (k0_t1 : Fin k0_t1_loop.trips) (c0_i32_150 : BitVec 32) : Fin 2 → Nat :=
  let c0_i32_10 : BitVec 32 := 0#32
  let c1_i32_11 : BitVec 32 := 1#32
  let arg8 : BitVec 32 := Scf.iv c0_i32_10 c1_i32_11 k0_t1
  let c48_i32_149 : BitVec 32 := 48#32
  let v428 : BitVec 32 := Scalar.muli arg8 c48_i32_149
  let v429 : BitVec 32 := Scalar.addi v428 c0_i32_150
  let v430 : Index := Scalar.indexCast v429
  let c8448 : Index := 8448#32
  ![v430.toNat, 8448]
def k0_off68 (k0_t1 : Fin k0_t1_loop.trips) (c0_i32_152 : BitVec 32) : Fin 2 → Nat :=
  let c0_i32_10 : BitVec 32 := 0#32
  let c1_i32_11 : BitVec 32 := 1#32
  let arg8 : BitVec 32 := Scf.iv c0_i32_10 c1_i32_11 k0_t1
  let c48_i32_151 : BitVec 32 := 48#32
  let v434 : BitVec 32 := Scalar.muli arg8 c48_i32_151
  let v435 : BitVec 32 := Scalar.addi v434 c0_i32_152
  let v436 : Index := Scalar.indexCast v435
  let c8576 : Index := 8576#32
  ![v436.toNat, 8576]
def k0_off69 (k0_t1 : Fin k0_t1_loop.trips) (c0_i32_154 : BitVec 32) : Fin 2 → Nat :=
  let c0_i32_10 : BitVec 32 := 0#32
  let c1_i32_11 : BitVec 32 := 1#32
  let arg8 : BitVec 32 := Scf.iv c0_i32_10 c1_i32_11 k0_t1
  let c48_i32_153 : BitVec 32 := 48#32
  let v440 : BitVec 32 := Scalar.muli arg8 c48_i32_153
  let v441 : BitVec 32 := Scalar.addi v440 c0_i32_154
  let v442 : Index := Scalar.indexCast v441
  let c8704 : Index := 8704#32
  ![v442.toNat, 8704]
def k0_off70 (k0_t1 : Fin k0_t1_loop.trips) (c0_i32_156 : BitVec 32) : Fin 2 → Nat :=
  let c0_i32_10 : BitVec 32 := 0#32
  let c1_i32_11 : BitVec 32 := 1#32
  let arg8 : BitVec 32 := Scf.iv c0_i32_10 c1_i32_11 k0_t1
  let c48_i32_155 : BitVec 32 := 48#32
  let v446 : BitVec 32 := Scalar.muli arg8 c48_i32_155
  let v447 : BitVec 32 := Scalar.addi v446 c0_i32_156
  let v448 : Index := Scalar.indexCast v447
  let c8832 : Index := 8832#32
  ![v448.toNat, 8832]
def k0_off71 (k0_t1 : Fin k0_t1_loop.trips) (c0_i32_158 : BitVec 32) : Fin 2 → Nat :=
  let c0_i32_10 : BitVec 32 := 0#32
  let c1_i32_11 : BitVec 32 := 1#32
  let arg8 : BitVec 32 := Scf.iv c0_i32_10 c1_i32_11 k0_t1
  let c48_i32_157 : BitVec 32 := 48#32
  let v452 : BitVec 32 := Scalar.muli arg8 c48_i32_157
  let v453 : BitVec 32 := Scalar.addi v452 c0_i32_158
  let v454 : Index := Scalar.indexCast v453
  let c8960 : Index := 8960#32
  ![v454.toNat, 8960]
def k0_off72 (k0_t1 : Fin k0_t1_loop.trips) (c0_i32_160 : BitVec 32) : Fin 2 → Nat :=
  let c0_i32_10 : BitVec 32 := 0#32
  let c1_i32_11 : BitVec 32 := 1#32
  let arg8 : BitVec 32 := Scf.iv c0_i32_10 c1_i32_11 k0_t1
  let c48_i32_159 : BitVec 32 := 48#32
  let v458 : BitVec 32 := Scalar.muli arg8 c48_i32_159
  let v459 : BitVec 32 := Scalar.addi v458 c0_i32_160
  let v460 : Index := Scalar.indexCast v459
  let c9088 : Index := 9088#32
  ![v460.toNat, 9088]
def k0_off73 (k0_t1 : Fin k0_t1_loop.trips) (c0_i32_162 : BitVec 32) : Fin 2 → Nat :=
  let c0_i32_10 : BitVec 32 := 0#32
  let c1_i32_11 : BitVec 32 := 1#32
  let arg8 : BitVec 32 := Scf.iv c0_i32_10 c1_i32_11 k0_t1
  let c48_i32_161 : BitVec 32 := 48#32
  let v464 : BitVec 32 := Scalar.muli arg8 c48_i32_161
  let v465 : BitVec 32 := Scalar.addi v464 c0_i32_162
  let v466 : Index := Scalar.indexCast v465
  let c9216 : Index := 9216#32
  ![v466.toNat, 9216]
def k0_off74 (k0_t1 : Fin k0_t1_loop.trips) (c0_i32_164 : BitVec 32) : Fin 2 → Nat :=
  let c0_i32_10 : BitVec 32 := 0#32
  let c1_i32_11 : BitVec 32 := 1#32
  let arg8 : BitVec 32 := Scf.iv c0_i32_10 c1_i32_11 k0_t1
  let c48_i32_163 : BitVec 32 := 48#32
  let v470 : BitVec 32 := Scalar.muli arg8 c48_i32_163
  let v471 : BitVec 32 := Scalar.addi v470 c0_i32_164
  let v472 : Index := Scalar.indexCast v471
  let c9344 : Index := 9344#32
  ![v472.toNat, 9344]
def k0_off75 (k0_t1 : Fin k0_t1_loop.trips) (c0_i32_166 : BitVec 32) : Fin 2 → Nat :=
  let c0_i32_10 : BitVec 32 := 0#32
  let c1_i32_11 : BitVec 32 := 1#32
  let arg8 : BitVec 32 := Scf.iv c0_i32_10 c1_i32_11 k0_t1
  let c48_i32_165 : BitVec 32 := 48#32
  let v476 : BitVec 32 := Scalar.muli arg8 c48_i32_165
  let v477 : BitVec 32 := Scalar.addi v476 c0_i32_166
  let v478 : Index := Scalar.indexCast v477
  let c9472 : Index := 9472#32
  ![v478.toNat, 9472]
def k0_off76 (k0_t1 : Fin k0_t1_loop.trips) (c0_i32_168 : BitVec 32) : Fin 2 → Nat :=
  let c0_i32_10 : BitVec 32 := 0#32
  let c1_i32_11 : BitVec 32 := 1#32
  let arg8 : BitVec 32 := Scf.iv c0_i32_10 c1_i32_11 k0_t1
  let c48_i32_167 : BitVec 32 := 48#32
  let v482 : BitVec 32 := Scalar.muli arg8 c48_i32_167
  let v483 : BitVec 32 := Scalar.addi v482 c0_i32_168
  let v484 : Index := Scalar.indexCast v483
  let c9600 : Index := 9600#32
  ![v484.toNat, 9600]
def k0_off77 (k0_t1 : Fin k0_t1_loop.trips) (c0_i32_170 : BitVec 32) : Fin 2 → Nat :=
  let c0_i32_10 : BitVec 32 := 0#32
  let c1_i32_11 : BitVec 32 := 1#32
  let arg8 : BitVec 32 := Scf.iv c0_i32_10 c1_i32_11 k0_t1
  let c48_i32_169 : BitVec 32 := 48#32
  let v488 : BitVec 32 := Scalar.muli arg8 c48_i32_169
  let v489 : BitVec 32 := Scalar.addi v488 c0_i32_170
  let v490 : Index := Scalar.indexCast v489
  let c9728 : Index := 9728#32
  ![v490.toNat, 9728]
def k0_off78 (k0_t1 : Fin k0_t1_loop.trips) (c0_i32_172 : BitVec 32) : Fin 2 → Nat :=
  let c0_i32_10 : BitVec 32 := 0#32
  let c1_i32_11 : BitVec 32 := 1#32
  let arg8 : BitVec 32 := Scf.iv c0_i32_10 c1_i32_11 k0_t1
  let c48_i32_171 : BitVec 32 := 48#32
  let v494 : BitVec 32 := Scalar.muli arg8 c48_i32_171
  let v495 : BitVec 32 := Scalar.addi v494 c0_i32_172
  let v496 : Index := Scalar.indexCast v495
  let c9856 : Index := 9856#32
  ![v496.toNat, 9856]
def k0_off79 (k0_t1 : Fin k0_t1_loop.trips) (c0_i32_174 : BitVec 32) : Fin 2 → Nat :=
  let c0_i32_10 : BitVec 32 := 0#32
  let c1_i32_11 : BitVec 32 := 1#32
  let arg8 : BitVec 32 := Scf.iv c0_i32_10 c1_i32_11 k0_t1
  let c48_i32_173 : BitVec 32 := 48#32
  let v500 : BitVec 32 := Scalar.muli arg8 c48_i32_173
  let v501 : BitVec 32 := Scalar.addi v500 c0_i32_174
  let v502 : Index := Scalar.indexCast v501
  let c9984 : Index := 9984#32
  ![v502.toNat, 9984]
def k0_off80 (k0_t1 : Fin k0_t1_loop.trips) (c0_i32_176 : BitVec 32) : Fin 2 → Nat :=
  let c0_i32_10 : BitVec 32 := 0#32
  let c1_i32_11 : BitVec 32 := 1#32
  let arg8 : BitVec 32 := Scf.iv c0_i32_10 c1_i32_11 k0_t1
  let c48_i32_175 : BitVec 32 := 48#32
  let v506 : BitVec 32 := Scalar.muli arg8 c48_i32_175
  let v507 : BitVec 32 := Scalar.addi v506 c0_i32_176
  let v508 : Index := Scalar.indexCast v507
  let c10112 : Index := 10112#32
  ![v508.toNat, 10112]
def k0_off81 (k0_t1 : Fin k0_t1_loop.trips) (c0_i32_178 : BitVec 32) : Fin 2 → Nat :=
  let c0_i32_10 : BitVec 32 := 0#32
  let c1_i32_11 : BitVec 32 := 1#32
  let arg8 : BitVec 32 := Scf.iv c0_i32_10 c1_i32_11 k0_t1
  let c48_i32_177 : BitVec 32 := 48#32
  let v512 : BitVec 32 := Scalar.muli arg8 c48_i32_177
  let v513 : BitVec 32 := Scalar.addi v512 c0_i32_178
  let v514 : Index := Scalar.indexCast v513
  let c10240 : Index := 10240#32
  ![v514.toNat, 10240]
def k0_off82 (k0_t1 : Fin k0_t1_loop.trips) (c0_i32_180 : BitVec 32) : Fin 2 → Nat :=
  let c0_i32_10 : BitVec 32 := 0#32
  let c1_i32_11 : BitVec 32 := 1#32
  let arg8 : BitVec 32 := Scf.iv c0_i32_10 c1_i32_11 k0_t1
  let c48_i32_179 : BitVec 32 := 48#32
  let v518 : BitVec 32 := Scalar.muli arg8 c48_i32_179
  let v519 : BitVec 32 := Scalar.addi v518 c0_i32_180
  let v520 : Index := Scalar.indexCast v519
  let c10368 : Index := 10368#32
  ![v520.toNat, 10368]
def k0_off83 (k0_t1 : Fin k0_t1_loop.trips) (c0_i32_182 : BitVec 32) : Fin 2 → Nat :=
  let c0_i32_10 : BitVec 32 := 0#32
  let c1_i32_11 : BitVec 32 := 1#32
  let arg8 : BitVec 32 := Scf.iv c0_i32_10 c1_i32_11 k0_t1
  let c48_i32_181 : BitVec 32 := 48#32
  let v524 : BitVec 32 := Scalar.muli arg8 c48_i32_181
  let v525 : BitVec 32 := Scalar.addi v524 c0_i32_182
  let v526 : Index := Scalar.indexCast v525
  let c10496 : Index := 10496#32
  ![v526.toNat, 10496]
def k0_off84 (k0_t1 : Fin k0_t1_loop.trips) (c0_i32_184 : BitVec 32) : Fin 2 → Nat :=
  let c0_i32_10 : BitVec 32 := 0#32
  let c1_i32_11 : BitVec 32 := 1#32
  let arg8 : BitVec 32 := Scf.iv c0_i32_10 c1_i32_11 k0_t1
  let c48_i32_183 : BitVec 32 := 48#32
  let v530 : BitVec 32 := Scalar.muli arg8 c48_i32_183
  let v531 : BitVec 32 := Scalar.addi v530 c0_i32_184
  let v532 : Index := Scalar.indexCast v531
  let c10624 : Index := 10624#32
  ![v532.toNat, 10624]
def k0_off85 (k0_t1 : Fin k0_t1_loop.trips) (c0_i32_186 : BitVec 32) : Fin 2 → Nat :=
  let c0_i32_10 : BitVec 32 := 0#32
  let c1_i32_11 : BitVec 32 := 1#32
  let arg8 : BitVec 32 := Scf.iv c0_i32_10 c1_i32_11 k0_t1
  let c48_i32_185 : BitVec 32 := 48#32
  let v536 : BitVec 32 := Scalar.muli arg8 c48_i32_185
  let v537 : BitVec 32 := Scalar.addi v536 c0_i32_186
  let v538 : Index := Scalar.indexCast v537
  let c10752 : Index := 10752#32
  ![v538.toNat, 10752]
def k0_off86 (k0_t1 : Fin k0_t1_loop.trips) (c0_i32_188 : BitVec 32) : Fin 2 → Nat :=
  let c0_i32_10 : BitVec 32 := 0#32
  let c1_i32_11 : BitVec 32 := 1#32
  let arg8 : BitVec 32 := Scf.iv c0_i32_10 c1_i32_11 k0_t1
  let c48_i32_187 : BitVec 32 := 48#32
  let v542 : BitVec 32 := Scalar.muli arg8 c48_i32_187
  let v543 : BitVec 32 := Scalar.addi v542 c0_i32_188
  let v544 : Index := Scalar.indexCast v543
  let c10880 : Index := 10880#32
  ![v544.toNat, 10880]
def k0_off87 (k0_t1 : Fin k0_t1_loop.trips) (c0_i32_190 : BitVec 32) : Fin 2 → Nat :=
  let c0_i32_10 : BitVec 32 := 0#32
  let c1_i32_11 : BitVec 32 := 1#32
  let arg8 : BitVec 32 := Scf.iv c0_i32_10 c1_i32_11 k0_t1
  let c48_i32_189 : BitVec 32 := 48#32
  let v548 : BitVec 32 := Scalar.muli arg8 c48_i32_189
  let v549 : BitVec 32 := Scalar.addi v548 c0_i32_190
  let v550 : Index := Scalar.indexCast v549
  let c11008 : Index := 11008#32
  ![v550.toNat, 11008]
def k0_off88 (k0_t1 : Fin k0_t1_loop.trips) (c0_i32_192 : BitVec 32) : Fin 2 → Nat :=
  let c0_i32_10 : BitVec 32 := 0#32
  let c1_i32_11 : BitVec 32 := 1#32
  let arg8 : BitVec 32 := Scf.iv c0_i32_10 c1_i32_11 k0_t1
  let c48_i32_191 : BitVec 32 := 48#32
  let v554 : BitVec 32 := Scalar.muli arg8 c48_i32_191
  let v555 : BitVec 32 := Scalar.addi v554 c0_i32_192
  let v556 : Index := Scalar.indexCast v555
  let c11136 : Index := 11136#32
  ![v556.toNat, 11136]
def k0_off89 (k0_t1 : Fin k0_t1_loop.trips) (c0_i32_194 : BitVec 32) : Fin 2 → Nat :=
  let c0_i32_10 : BitVec 32 := 0#32
  let c1_i32_11 : BitVec 32 := 1#32
  let arg8 : BitVec 32 := Scf.iv c0_i32_10 c1_i32_11 k0_t1
  let c48_i32_193 : BitVec 32 := 48#32
  let v560 : BitVec 32 := Scalar.muli arg8 c48_i32_193
  let v561 : BitVec 32 := Scalar.addi v560 c0_i32_194
  let v562 : Index := Scalar.indexCast v561
  let c11264 : Index := 11264#32
  ![v562.toNat, 11264]
def k0_off90 (k0_t1 : Fin k0_t1_loop.trips) (c0_i32_196 : BitVec 32) : Fin 2 → Nat :=
  let c0_i32_10 : BitVec 32 := 0#32
  let c1_i32_11 : BitVec 32 := 1#32
  let arg8 : BitVec 32 := Scf.iv c0_i32_10 c1_i32_11 k0_t1
  let c48_i32_195 : BitVec 32 := 48#32
  let v566 : BitVec 32 := Scalar.muli arg8 c48_i32_195
  let v567 : BitVec 32 := Scalar.addi v566 c0_i32_196
  let v568 : Index := Scalar.indexCast v567
  let c11392 : Index := 11392#32
  ![v568.toNat, 11392]
def k0_off91 (k0_t1 : Fin k0_t1_loop.trips) (c0_i32_198 : BitVec 32) : Fin 2 → Nat :=
  let c0_i32_10 : BitVec 32 := 0#32
  let c1_i32_11 : BitVec 32 := 1#32
  let arg8 : BitVec 32 := Scf.iv c0_i32_10 c1_i32_11 k0_t1
  let c48_i32_197 : BitVec 32 := 48#32
  let v572 : BitVec 32 := Scalar.muli arg8 c48_i32_197
  let v573 : BitVec 32 := Scalar.addi v572 c0_i32_198
  let v574 : Index := Scalar.indexCast v573
  let c11520 : Index := 11520#32
  ![v574.toNat, 11520]
def k0_off92 (k0_t1 : Fin k0_t1_loop.trips) (c0_i32_200 : BitVec 32) : Fin 2 → Nat :=
  let c0_i32_10 : BitVec 32 := 0#32
  let c1_i32_11 : BitVec 32 := 1#32
  let arg8 : BitVec 32 := Scf.iv c0_i32_10 c1_i32_11 k0_t1
  let c48_i32_199 : BitVec 32 := 48#32
  let v578 : BitVec 32 := Scalar.muli arg8 c48_i32_199
  let v579 : BitVec 32 := Scalar.addi v578 c0_i32_200
  let v580 : Index := Scalar.indexCast v579
  let c11648 : Index := 11648#32
  ![v580.toNat, 11648]
def k0_off93 (k0_t1 : Fin k0_t1_loop.trips) (c0_i32_202 : BitVec 32) : Fin 2 → Nat :=
  let c0_i32_10 : BitVec 32 := 0#32
  let c1_i32_11 : BitVec 32 := 1#32
  let arg8 : BitVec 32 := Scf.iv c0_i32_10 c1_i32_11 k0_t1
  let c48_i32_201 : BitVec 32 := 48#32
  let v584 : BitVec 32 := Scalar.muli arg8 c48_i32_201
  let v585 : BitVec 32 := Scalar.addi v584 c0_i32_202
  let v586 : Index := Scalar.indexCast v585
  let c11776 : Index := 11776#32
  ![v586.toNat, 11776]
def k0_off94 (k0_t1 : Fin k0_t1_loop.trips) (c0_i32_204 : BitVec 32) : Fin 2 → Nat :=
  let c0_i32_10 : BitVec 32 := 0#32
  let c1_i32_11 : BitVec 32 := 1#32
  let arg8 : BitVec 32 := Scf.iv c0_i32_10 c1_i32_11 k0_t1
  let c48_i32_203 : BitVec 32 := 48#32
  let v590 : BitVec 32 := Scalar.muli arg8 c48_i32_203
  let v591 : BitVec 32 := Scalar.addi v590 c0_i32_204
  let v592 : Index := Scalar.indexCast v591
  let c11904 : Index := 11904#32
  ![v592.toNat, 11904]
def k0_off95 (k0_t1 : Fin k0_t1_loop.trips) (c0_i32_206 : BitVec 32) : Fin 2 → Nat :=
  let c0_i32_10 : BitVec 32 := 0#32
  let c1_i32_11 : BitVec 32 := 1#32
  let arg8 : BitVec 32 := Scf.iv c0_i32_10 c1_i32_11 k0_t1
  let c48_i32_205 : BitVec 32 := 48#32
  let v596 : BitVec 32 := Scalar.muli arg8 c48_i32_205
  let v597 : BitVec 32 := Scalar.addi v596 c0_i32_206
  let v598 : Index := Scalar.indexCast v597
  let c12032 : Index := 12032#32
  ![v598.toNat, 12032]
def k0_off96 (k0_t1 : Fin k0_t1_loop.trips) (c0_i32_208 : BitVec 32) : Fin 2 → Nat :=
  let c0_i32_10 : BitVec 32 := 0#32
  let c1_i32_11 : BitVec 32 := 1#32
  let arg8 : BitVec 32 := Scf.iv c0_i32_10 c1_i32_11 k0_t1
  let c48_i32_207 : BitVec 32 := 48#32
  let v602 : BitVec 32 := Scalar.muli arg8 c48_i32_207
  let v603 : BitVec 32 := Scalar.addi v602 c0_i32_208
  let v604 : Index := Scalar.indexCast v603
  let c12160 : Index := 12160#32
  ![v604.toNat, 12160]
def k0_off97 (k0_t1 : Fin k0_t1_loop.trips) (c0_i32_210 : BitVec 32) : Fin 2 → Nat :=
  let c0_i32_10 : BitVec 32 := 0#32
  let c1_i32_11 : BitVec 32 := 1#32
  let arg8 : BitVec 32 := Scf.iv c0_i32_10 c1_i32_11 k0_t1
  let c48_i32_209 : BitVec 32 := 48#32
  let v608 : BitVec 32 := Scalar.muli arg8 c48_i32_209
  let v609 : BitVec 32 := Scalar.addi v608 c0_i32_210
  let v610 : Index := Scalar.indexCast v609
  let c12288 : Index := 12288#32
  ![v610.toNat, 12288]
def k0_off98 (k0_t1 : Fin k0_t1_loop.trips) (c0_i32_212 : BitVec 32) : Fin 2 → Nat :=
  let c0_i32_10 : BitVec 32 := 0#32
  let c1_i32_11 : BitVec 32 := 1#32
  let arg8 : BitVec 32 := Scf.iv c0_i32_10 c1_i32_11 k0_t1
  let c48_i32_211 : BitVec 32 := 48#32
  let v614 : BitVec 32 := Scalar.muli arg8 c48_i32_211
  let v615 : BitVec 32 := Scalar.addi v614 c0_i32_212
  let v616 : Index := Scalar.indexCast v615
  let c12416 : Index := 12416#32
  ![v616.toNat, 12416]
def k0_off99 (k0_t1 : Fin k0_t1_loop.trips) (c0_i32_214 : BitVec 32) : Fin 2 → Nat :=
  let c0_i32_10 : BitVec 32 := 0#32
  let c1_i32_11 : BitVec 32 := 1#32
  let arg8 : BitVec 32 := Scf.iv c0_i32_10 c1_i32_11 k0_t1
  let c48_i32_213 : BitVec 32 := 48#32
  let v620 : BitVec 32 := Scalar.muli arg8 c48_i32_213
  let v621 : BitVec 32 := Scalar.addi v620 c0_i32_214
  let v622 : Index := Scalar.indexCast v621
  let c12544 : Index := 12544#32
  ![v622.toNat, 12544]
def k0_off100 (k0_t1 : Fin k0_t1_loop.trips) (c0_i32_216 : BitVec 32) : Fin 2 → Nat :=
  let c0_i32_10 : BitVec 32 := 0#32
  let c1_i32_11 : BitVec 32 := 1#32
  let arg8 : BitVec 32 := Scf.iv c0_i32_10 c1_i32_11 k0_t1
  let c48_i32_215 : BitVec 32 := 48#32
  let v626 : BitVec 32 := Scalar.muli arg8 c48_i32_215
  let v627 : BitVec 32 := Scalar.addi v626 c0_i32_216
  let v628 : Index := Scalar.indexCast v627
  let c12672 : Index := 12672#32
  ![v628.toNat, 12672]
def k0_off101 (k0_t1 : Fin k0_t1_loop.trips) (c0_i32_218 : BitVec 32) : Fin 2 → Nat :=
  let c0_i32_10 : BitVec 32 := 0#32
  let c1_i32_11 : BitVec 32 := 1#32
  let arg8 : BitVec 32 := Scf.iv c0_i32_10 c1_i32_11 k0_t1
  let c48_i32_217 : BitVec 32 := 48#32
  let v632 : BitVec 32 := Scalar.muli arg8 c48_i32_217
  let v633 : BitVec 32 := Scalar.addi v632 c0_i32_218
  let v634 : Index := Scalar.indexCast v633
  let c12800 : Index := 12800#32
  ![v634.toNat, 12800]
def k0_off102 (k0_t1 : Fin k0_t1_loop.trips) (c0_i32_220 : BitVec 32) : Fin 2 → Nat :=
  let c0_i32_10 : BitVec 32 := 0#32
  let c1_i32_11 : BitVec 32 := 1#32
  let arg8 : BitVec 32 := Scf.iv c0_i32_10 c1_i32_11 k0_t1
  let c48_i32_219 : BitVec 32 := 48#32
  let v638 : BitVec 32 := Scalar.muli arg8 c48_i32_219
  let v639 : BitVec 32 := Scalar.addi v638 c0_i32_220
  let v640 : Index := Scalar.indexCast v639
  let c12928 : Index := 12928#32
  ![v640.toNat, 12928]
def k0_off103 (k0_t1 : Fin k0_t1_loop.trips) (c0_i32_222 : BitVec 32) : Fin 2 → Nat :=
  let c0_i32_10 : BitVec 32 := 0#32
  let c1_i32_11 : BitVec 32 := 1#32
  let arg8 : BitVec 32 := Scf.iv c0_i32_10 c1_i32_11 k0_t1
  let c48_i32_221 : BitVec 32 := 48#32
  let v644 : BitVec 32 := Scalar.muli arg8 c48_i32_221
  let v645 : BitVec 32 := Scalar.addi v644 c0_i32_222
  let v646 : Index := Scalar.indexCast v645
  let c13056 : Index := 13056#32
  ![v646.toNat, 13056]
def k0_off104 (k0_t1 : Fin k0_t1_loop.trips) (c0_i32_224 : BitVec 32) : Fin 2 → Nat :=
  let c0_i32_10 : BitVec 32 := 0#32
  let c1_i32_11 : BitVec 32 := 1#32
  let arg8 : BitVec 32 := Scf.iv c0_i32_10 c1_i32_11 k0_t1
  let c48_i32_223 : BitVec 32 := 48#32
  let v650 : BitVec 32 := Scalar.muli arg8 c48_i32_223
  let v651 : BitVec 32 := Scalar.addi v650 c0_i32_224
  let v652 : Index := Scalar.indexCast v651
  let c13184 : Index := 13184#32
  ![v652.toNat, 13184]
def k0_off105 (k0_t1 : Fin k0_t1_loop.trips) (c0_i32_226 : BitVec 32) : Fin 2 → Nat :=
  let c0_i32_10 : BitVec 32 := 0#32
  let c1_i32_11 : BitVec 32 := 1#32
  let arg8 : BitVec 32 := Scf.iv c0_i32_10 c1_i32_11 k0_t1
  let c48_i32_225 : BitVec 32 := 48#32
  let v656 : BitVec 32 := Scalar.muli arg8 c48_i32_225
  let v657 : BitVec 32 := Scalar.addi v656 c0_i32_226
  let v658 : Index := Scalar.indexCast v657
  let c13312 : Index := 13312#32
  ![v658.toNat, 13312]
def k0_off106 (k0_t1 : Fin k0_t1_loop.trips) (c0_i32_228 : BitVec 32) : Fin 2 → Nat :=
  let c0_i32_10 : BitVec 32 := 0#32
  let c1_i32_11 : BitVec 32 := 1#32
  let arg8 : BitVec 32 := Scf.iv c0_i32_10 c1_i32_11 k0_t1
  let c48_i32_227 : BitVec 32 := 48#32
  let v662 : BitVec 32 := Scalar.muli arg8 c48_i32_227
  let v663 : BitVec 32 := Scalar.addi v662 c0_i32_228
  let v664 : Index := Scalar.indexCast v663
  let c13440 : Index := 13440#32
  ![v664.toNat, 13440]
def k0_off107 (k0_t1 : Fin k0_t1_loop.trips) (c0_i32_230 : BitVec 32) : Fin 2 → Nat :=
  let c0_i32_10 : BitVec 32 := 0#32
  let c1_i32_11 : BitVec 32 := 1#32
  let arg8 : BitVec 32 := Scf.iv c0_i32_10 c1_i32_11 k0_t1
  let c48_i32_229 : BitVec 32 := 48#32
  let v668 : BitVec 32 := Scalar.muli arg8 c48_i32_229
  let v669 : BitVec 32 := Scalar.addi v668 c0_i32_230
  let v670 : Index := Scalar.indexCast v669
  let c13568 : Index := 13568#32
  ![v670.toNat, 13568]
def k0_off108 (k0_t1 : Fin k0_t1_loop.trips) (c0_i32_232 : BitVec 32) : Fin 2 → Nat :=
  let c0_i32_10 : BitVec 32 := 0#32
  let c1_i32_11 : BitVec 32 := 1#32
  let arg8 : BitVec 32 := Scf.iv c0_i32_10 c1_i32_11 k0_t1
  let c48_i32_231 : BitVec 32 := 48#32
  let v674 : BitVec 32 := Scalar.muli arg8 c48_i32_231
  let v675 : BitVec 32 := Scalar.addi v674 c0_i32_232
  let v676 : Index := Scalar.indexCast v675
  let c13696 : Index := 13696#32
  ![v676.toNat, 13696]
def k0_off109 (k0_t1 : Fin k0_t1_loop.trips) (c0_i32_234 : BitVec 32) : Fin 2 → Nat :=
  let c0_i32_10 : BitVec 32 := 0#32
  let c1_i32_11 : BitVec 32 := 1#32
  let arg8 : BitVec 32 := Scf.iv c0_i32_10 c1_i32_11 k0_t1
  let c48_i32_233 : BitVec 32 := 48#32
  let v680 : BitVec 32 := Scalar.muli arg8 c48_i32_233
  let v681 : BitVec 32 := Scalar.addi v680 c0_i32_234
  let v682 : Index := Scalar.indexCast v681
  let c13824 : Index := 13824#32
  ![v682.toNat, 13824]
def k0_off110 (k0_t1 : Fin k0_t1_loop.trips) (c0_i32_236 : BitVec 32) : Fin 2 → Nat :=
  let c0_i32_10 : BitVec 32 := 0#32
  let c1_i32_11 : BitVec 32 := 1#32
  let arg8 : BitVec 32 := Scf.iv c0_i32_10 c1_i32_11 k0_t1
  let c48_i32_235 : BitVec 32 := 48#32
  let v686 : BitVec 32 := Scalar.muli arg8 c48_i32_235
  let v687 : BitVec 32 := Scalar.addi v686 c0_i32_236
  let v688 : Index := Scalar.indexCast v687
  let c13952 : Index := 13952#32
  ![v688.toNat, 13952]
def k0_off111 (k0_t1 : Fin k0_t1_loop.trips) (c0_i32_238 : BitVec 32) : Fin 2 → Nat :=
  let c0_i32_10 : BitVec 32 := 0#32
  let c1_i32_11 : BitVec 32 := 1#32
  let arg8 : BitVec 32 := Scf.iv c0_i32_10 c1_i32_11 k0_t1
  let c48_i32_237 : BitVec 32 := 48#32
  let v692 : BitVec 32 := Scalar.muli arg8 c48_i32_237
  let v693 : BitVec 32 := Scalar.addi v692 c0_i32_238
  let v694 : Index := Scalar.indexCast v693
  let c14080 : Index := 14080#32
  ![v694.toNat, 14080]
def k0_off112 (k0_t1 : Fin k0_t1_loop.trips) (c0_i32_240 : BitVec 32) : Fin 2 → Nat :=
  let c0_i32_10 : BitVec 32 := 0#32
  let c1_i32_11 : BitVec 32 := 1#32
  let arg8 : BitVec 32 := Scf.iv c0_i32_10 c1_i32_11 k0_t1
  let c48_i32_239 : BitVec 32 := 48#32
  let v698 : BitVec 32 := Scalar.muli arg8 c48_i32_239
  let v699 : BitVec 32 := Scalar.addi v698 c0_i32_240
  let v700 : Index := Scalar.indexCast v699
  let c14208 : Index := 14208#32
  ![v700.toNat, 14208]
def k0_off113 (k0_t1 : Fin k0_t1_loop.trips) (c0_i32_242 : BitVec 32) : Fin 2 → Nat :=
  let c0_i32_10 : BitVec 32 := 0#32
  let c1_i32_11 : BitVec 32 := 1#32
  let arg8 : BitVec 32 := Scf.iv c0_i32_10 c1_i32_11 k0_t1
  let c48_i32_241 : BitVec 32 := 48#32
  let v704 : BitVec 32 := Scalar.muli arg8 c48_i32_241
  let v705 : BitVec 32 := Scalar.addi v704 c0_i32_242
  let v706 : Index := Scalar.indexCast v705
  let c14336 : Index := 14336#32
  ![v706.toNat, 14336]
def k0_off114 (k0_t1 : Fin k0_t1_loop.trips) (c0_i32_244 : BitVec 32) : Fin 2 → Nat :=
  let c0_i32_10 : BitVec 32 := 0#32
  let c1_i32_11 : BitVec 32 := 1#32
  let arg8 : BitVec 32 := Scf.iv c0_i32_10 c1_i32_11 k0_t1
  let c48_i32_243 : BitVec 32 := 48#32
  let v710 : BitVec 32 := Scalar.muli arg8 c48_i32_243
  let v711 : BitVec 32 := Scalar.addi v710 c0_i32_244
  let v712 : Index := Scalar.indexCast v711
  let c14464 : Index := 14464#32
  ![v712.toNat, 14464]
def k0_off115 (k0_t1 : Fin k0_t1_loop.trips) (c0_i32_246 : BitVec 32) : Fin 2 → Nat :=
  let c0_i32_10 : BitVec 32 := 0#32
  let c1_i32_11 : BitVec 32 := 1#32
  let arg8 : BitVec 32 := Scf.iv c0_i32_10 c1_i32_11 k0_t1
  let c48_i32_245 : BitVec 32 := 48#32
  let v716 : BitVec 32 := Scalar.muli arg8 c48_i32_245
  let v717 : BitVec 32 := Scalar.addi v716 c0_i32_246
  let v718 : Index := Scalar.indexCast v717
  let c14592 : Index := 14592#32
  ![v718.toNat, 14592]
def k0_off116 (k0_t1 : Fin k0_t1_loop.trips) (c0_i32_248 : BitVec 32) : Fin 2 → Nat :=
  let c0_i32_10 : BitVec 32 := 0#32
  let c1_i32_11 : BitVec 32 := 1#32
  let arg8 : BitVec 32 := Scf.iv c0_i32_10 c1_i32_11 k0_t1
  let c48_i32_247 : BitVec 32 := 48#32
  let v722 : BitVec 32 := Scalar.muli arg8 c48_i32_247
  let v723 : BitVec 32 := Scalar.addi v722 c0_i32_248
  let v724 : Index := Scalar.indexCast v723
  let c14720 : Index := 14720#32
  ![v724.toNat, 14720]
def k0_off117 (k0_t1 : Fin k0_t1_loop.trips) (c0_i32_250 : BitVec 32) : Fin 2 → Nat :=
  let c0_i32_10 : BitVec 32 := 0#32
  let c1_i32_11 : BitVec 32 := 1#32
  let arg8 : BitVec 32 := Scf.iv c0_i32_10 c1_i32_11 k0_t1
  let c48_i32_249 : BitVec 32 := 48#32
  let v728 : BitVec 32 := Scalar.muli arg8 c48_i32_249
  let v729 : BitVec 32 := Scalar.addi v728 c0_i32_250
  let v730 : Index := Scalar.indexCast v729
  let c14848 : Index := 14848#32
  ![v730.toNat, 14848]
def k0_off118 (k0_t1 : Fin k0_t1_loop.trips) (c0_i32_252 : BitVec 32) : Fin 2 → Nat :=
  let c0_i32_10 : BitVec 32 := 0#32
  let c1_i32_11 : BitVec 32 := 1#32
  let arg8 : BitVec 32 := Scf.iv c0_i32_10 c1_i32_11 k0_t1
  let c48_i32_251 : BitVec 32 := 48#32
  let v734 : BitVec 32 := Scalar.muli arg8 c48_i32_251
  let v735 : BitVec 32 := Scalar.addi v734 c0_i32_252
  let v736 : Index := Scalar.indexCast v735
  let c14976 : Index := 14976#32
  ![v736.toNat, 14976]
def k0_off119 (k0_t1 : Fin k0_t1_loop.trips) (c0_i32_254 : BitVec 32) : Fin 2 → Nat :=
  let c0_i32_10 : BitVec 32 := 0#32
  let c1_i32_11 : BitVec 32 := 1#32
  let arg8 : BitVec 32 := Scf.iv c0_i32_10 c1_i32_11 k0_t1
  let c48_i32_253 : BitVec 32 := 48#32
  let v740 : BitVec 32 := Scalar.muli arg8 c48_i32_253
  let v741 : BitVec 32 := Scalar.addi v740 c0_i32_254
  let v742 : Index := Scalar.indexCast v741
  let c15104 : Index := 15104#32
  ![v742.toNat, 15104]
def k0_off120 (k0_t1 : Fin k0_t1_loop.trips) (c0_i32_256 : BitVec 32) : Fin 2 → Nat :=
  let c0_i32_10 : BitVec 32 := 0#32
  let c1_i32_11 : BitVec 32 := 1#32
  let arg8 : BitVec 32 := Scf.iv c0_i32_10 c1_i32_11 k0_t1
  let c48_i32_255 : BitVec 32 := 48#32
  let v746 : BitVec 32 := Scalar.muli arg8 c48_i32_255
  let v747 : BitVec 32 := Scalar.addi v746 c0_i32_256
  let v748 : Index := Scalar.indexCast v747
  let c15232 : Index := 15232#32
  ![v748.toNat, 15232]
def k0_off121 (k0_t1 : Fin k0_t1_loop.trips) (c0_i32_258 : BitVec 32) : Fin 2 → Nat :=
  let c0_i32_10 : BitVec 32 := 0#32
  let c1_i32_11 : BitVec 32 := 1#32
  let arg8 : BitVec 32 := Scf.iv c0_i32_10 c1_i32_11 k0_t1
  let c48_i32_257 : BitVec 32 := 48#32
  let v752 : BitVec 32 := Scalar.muli arg8 c48_i32_257
  let v753 : BitVec 32 := Scalar.addi v752 c0_i32_258
  let v754 : Index := Scalar.indexCast v753
  let c15360 : Index := 15360#32
  ![v754.toNat, 15360]
def k0_off122 (k0_t1 : Fin k0_t1_loop.trips) (c0_i32_260 : BitVec 32) : Fin 2 → Nat :=
  let c0_i32_10 : BitVec 32 := 0#32
  let c1_i32_11 : BitVec 32 := 1#32
  let arg8 : BitVec 32 := Scf.iv c0_i32_10 c1_i32_11 k0_t1
  let c48_i32_259 : BitVec 32 := 48#32
  let v758 : BitVec 32 := Scalar.muli arg8 c48_i32_259
  let v759 : BitVec 32 := Scalar.addi v758 c0_i32_260
  let v760 : Index := Scalar.indexCast v759
  let c15488 : Index := 15488#32
  ![v760.toNat, 15488]
def k0_off123 (k0_t1 : Fin k0_t1_loop.trips) (c0_i32_262 : BitVec 32) : Fin 2 → Nat :=
  let c0_i32_10 : BitVec 32 := 0#32
  let c1_i32_11 : BitVec 32 := 1#32
  let arg8 : BitVec 32 := Scf.iv c0_i32_10 c1_i32_11 k0_t1
  let c48_i32_261 : BitVec 32 := 48#32
  let v764 : BitVec 32 := Scalar.muli arg8 c48_i32_261
  let v765 : BitVec 32 := Scalar.addi v764 c0_i32_262
  let v766 : Index := Scalar.indexCast v765
  let c15616 : Index := 15616#32
  ![v766.toNat, 15616]
def k0_off124 (k0_t1 : Fin k0_t1_loop.trips) (c0_i32_264 : BitVec 32) : Fin 2 → Nat :=
  let c0_i32_10 : BitVec 32 := 0#32
  let c1_i32_11 : BitVec 32 := 1#32
  let arg8 : BitVec 32 := Scf.iv c0_i32_10 c1_i32_11 k0_t1
  let c48_i32_263 : BitVec 32 := 48#32
  let v770 : BitVec 32 := Scalar.muli arg8 c48_i32_263
  let v771 : BitVec 32 := Scalar.addi v770 c0_i32_264
  let v772 : Index := Scalar.indexCast v771
  let c15744 : Index := 15744#32
  ![v772.toNat, 15744]
def k0_off125 (k0_t1 : Fin k0_t1_loop.trips) (c0_i32_266 : BitVec 32) : Fin 2 → Nat :=
  let c0_i32_10 : BitVec 32 := 0#32
  let c1_i32_11 : BitVec 32 := 1#32
  let arg8 : BitVec 32 := Scf.iv c0_i32_10 c1_i32_11 k0_t1
  let c48_i32_265 : BitVec 32 := 48#32
  let v776 : BitVec 32 := Scalar.muli arg8 c48_i32_265
  let v777 : BitVec 32 := Scalar.addi v776 c0_i32_266
  let v778 : Index := Scalar.indexCast v777
  let c15872 : Index := 15872#32
  ![v778.toNat, 15872]
def k0_off126 (k0_t1 : Fin k0_t1_loop.trips) (c0_i32_268 : BitVec 32) : Fin 2 → Nat :=
  let c0_i32_10 : BitVec 32 := 0#32
  let c1_i32_11 : BitVec 32 := 1#32
  let arg8 : BitVec 32 := Scf.iv c0_i32_10 c1_i32_11 k0_t1
  let c48_i32_267 : BitVec 32 := 48#32
  let v782 : BitVec 32 := Scalar.muli arg8 c48_i32_267
  let v783 : BitVec 32 := Scalar.addi v782 c0_i32_268
  let v784 : Index := Scalar.indexCast v783
  let c16000 : Index := 16000#32
  ![v784.toNat, 16000]
def k0_off127 (k0_t1 : Fin k0_t1_loop.trips) (c0_i32_270 : BitVec 32) : Fin 2 → Nat :=
  let c0_i32_10 : BitVec 32 := 0#32
  let c1_i32_11 : BitVec 32 := 1#32
  let arg8 : BitVec 32 := Scf.iv c0_i32_10 c1_i32_11 k0_t1
  let c48_i32_269 : BitVec 32 := 48#32
  let v788 : BitVec 32 := Scalar.muli arg8 c48_i32_269
  let v789 : BitVec 32 := Scalar.addi v788 c0_i32_270
  let v790 : Index := Scalar.indexCast v789
  let c16128 : Index := 16128#32
  ![v790.toNat, 16128]
def k0_off128 (k0_t1 : Fin k0_t1_loop.trips) (c0_i32_272 : BitVec 32) : Fin 2 → Nat :=
  let c0_i32_10 : BitVec 32 := 0#32
  let c1_i32_11 : BitVec 32 := 1#32
  let arg8 : BitVec 32 := Scf.iv c0_i32_10 c1_i32_11 k0_t1
  let c48_i32_271 : BitVec 32 := 48#32
  let v794 : BitVec 32 := Scalar.muli arg8 c48_i32_271
  let v795 : BitVec 32 := Scalar.addi v794 c0_i32_272
  let v796 : Index := Scalar.indexCast v795
  let c16256 : Index := 16256#32
  ![v796.toNat, 16256]
def k0_off129 (i : grid0.Coords) (k0_t1 : Fin k0_t1_loop.trips) (c0_i32_1046 : BitVec 32) (c0_i32_1047 : BitVec 32) : Fin 2 → Nat :=
  let arg0 : BitVec 32 := BitVec.ofNat 32 (i 0).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c16_i32 : BitVec 32 := 16#32
  let v20 : BitVec 32 := Scalar.muli v19 c16_i32
  let c0_i32_10 : BitVec 32 := 0#32
  let c1_i32_11 : BitVec 32 := 1#32
  let arg8 : BitVec 32 := Scf.iv c0_i32_10 c1_i32_11 k0_t1
  let c4_i32_1045 : BitVec 32 := 4#32
  let v2345 : BitVec 32 := Scalar.muli arg8 c4_i32_1045
  let v2346 : BitVec 32 := Scalar.addi v20 v2345
  let v2347 : BitVec 32 := Scalar.addi v2346 c0_i32_1046
  let v2348 : BitVec 32 := Scalar.addi v2347 c0_i32_1047
  let v2349 : Index := Scalar.indexCast v2348
  let c0_1048 : Index := 0#32
  ![v2349.toNat, 0]
def k0_off130 (k0_t1 : Fin k0_t1_loop.trips) (c0_i32_1044 : BitVec 32) : Fin 2 → Nat :=
  let c0_i32_10 : BitVec 32 := 0#32
  let c1_i32_11 : BitVec 32 := 1#32
  let arg8 : BitVec 32 := Scf.iv c0_i32_10 c1_i32_11 k0_t1
  let c2_i32_1042 : BitVec 32 := 2#32
  let v2342 : BitVec 32 := Scalar.muli arg8 c2_i32_1042
  let c32_i32_1043 : BitVec 32 := 32#32
  let v2343 : BitVec 32 := Scalar.muli v2342 c32_i32_1043
  let v2344 : BitVec 32 := Scalar.addi v2343 c0_i32_1044
  let v2361 : Index := Scalar.indexCast v2344
  let c0_1053 : Index := 0#32
  ![v2361.toNat, 0]
def k0_off131 (k0_t1 : Fin k0_t1_loop.trips) (c0_i32_1044 : BitVec 32) (c0_i32_1060 : BitVec 32) : Fin 2 → Nat :=
  let c0_i32_10 : BitVec 32 := 0#32
  let c1_i32_11 : BitVec 32 := 1#32
  let arg8 : BitVec 32 := Scf.iv c0_i32_10 c1_i32_11 k0_t1
  let c2_i32_1042 : BitVec 32 := 2#32
  let v2342 : BitVec 32 := Scalar.muli arg8 c2_i32_1042
  let c32_i32_1043 : BitVec 32 := 32#32
  let v2343 : BitVec 32 := Scalar.muli v2342 c32_i32_1043
  let v2344 : BitVec 32 := Scalar.addi v2343 c0_i32_1044
  let v2394 : BitVec 32 := Scalar.addi v2344 c0_i32_1060
  let v2395 : Index := Scalar.indexCast v2394
  let c0_1061 : Index := 0#32
  ![v2395.toNat, 0]
def k0_off132 (k0_t1 : Fin k0_t1_loop.trips) (c0_i32_1044 : BitVec 32) (c0_i32_1070 : BitVec 32) : Fin 2 → Nat :=
  let c0_i32_10 : BitVec 32 := 0#32
  let c1_i32_11 : BitVec 32 := 1#32
  let arg8 : BitVec 32 := Scf.iv c0_i32_10 c1_i32_11 k0_t1
  let c2_i32_1042 : BitVec 32 := 2#32
  let v2342 : BitVec 32 := Scalar.muli arg8 c2_i32_1042
  let c32_i32_1043 : BitVec 32 := 32#32
  let v2343 : BitVec 32 := Scalar.muli v2342 c32_i32_1043
  let v2344 : BitVec 32 := Scalar.addi v2343 c0_i32_1044
  let v2436 : BitVec 32 := Scalar.addi v2344 c0_i32_1070
  let v2437 : Index := Scalar.indexCast v2436
  let c128_1071 : Index := 128#32
  ![v2437.toNat, 128]
def k0_off133 (k0_t1 : Fin k0_t1_loop.trips) (c0_i32_1044 : BitVec 32) : Fin 2 → Nat :=
  let c0_i32_10 : BitVec 32 := 0#32
  let c1_i32_11 : BitVec 32 := 1#32
  let arg8 : BitVec 32 := Scf.iv c0_i32_10 c1_i32_11 k0_t1
  let c2_i32_1042 : BitVec 32 := 2#32
  let v2342 : BitVec 32 := Scalar.muli arg8 c2_i32_1042
  let c32_i32_1043 : BitVec 32 := 32#32
  let v2343 : BitVec 32 := Scalar.muli v2342 c32_i32_1043
  let v2344 : BitVec 32 := Scalar.addi v2343 c0_i32_1044
  let v2448 : Index := Scalar.indexCast v2344
  let c128_1074 : Index := 128#32
  ![v2448.toNat, 128]
def k0_off134 (k0_t1 : Fin k0_t1_loop.trips) (c0_i32_1044 : BitVec 32) (c0_i32_1083 : BitVec 32) : Fin 2 → Nat :=
  let c0_i32_10 : BitVec 32 := 0#32
  let c1_i32_11 : BitVec 32 := 1#32
  let arg8 : BitVec 32 := Scf.iv c0_i32_10 c1_i32_11 k0_t1
  let c2_i32_1042 : BitVec 32 := 2#32
  let v2342 : BitVec 32 := Scalar.muli arg8 c2_i32_1042
  let c32_i32_1043 : BitVec 32 := 32#32
  let v2343 : BitVec 32 := Scalar.muli v2342 c32_i32_1043
  let v2344 : BitVec 32 := Scalar.addi v2343 c0_i32_1044
  let v2481 : BitVec 32 := Scalar.addi v2344 c0_i32_1083
  let v2482 : Index := Scalar.indexCast v2481
  let c256_1084 : Index := 256#32
  ![v2482.toNat, 256]
def k0_off135 (k0_t1 : Fin k0_t1_loop.trips) (c0_i32_1044 : BitVec 32) (c0_i32_1094 : BitVec 32) : Fin 2 → Nat :=
  let c0_i32_10 : BitVec 32 := 0#32
  let c1_i32_11 : BitVec 32 := 1#32
  let arg8 : BitVec 32 := Scf.iv c0_i32_10 c1_i32_11 k0_t1
  let c2_i32_1042 : BitVec 32 := 2#32
  let v2342 : BitVec 32 := Scalar.muli arg8 c2_i32_1042
  let c32_i32_1043 : BitVec 32 := 32#32
  let v2343 : BitVec 32 := Scalar.muli v2342 c32_i32_1043
  let v2344 : BitVec 32 := Scalar.addi v2343 c0_i32_1044
  let v2523 : BitVec 32 := Scalar.addi v2344 c0_i32_1094
  let v2524 : Index := Scalar.indexCast v2523
  let c384_1095 : Index := 384#32
  ![v2524.toNat, 384]
def k0_off136 (k0_t1 : Fin k0_t1_loop.trips) (c0_i32_1044 : BitVec 32) : Fin 2 → Nat :=
  let c0_i32_10 : BitVec 32 := 0#32
  let c1_i32_11 : BitVec 32 := 1#32
  let arg8 : BitVec 32 := Scf.iv c0_i32_10 c1_i32_11 k0_t1
  let c2_i32_1042 : BitVec 32 := 2#32
  let v2342 : BitVec 32 := Scalar.muli arg8 c2_i32_1042
  let c32_i32_1043 : BitVec 32 := 32#32
  let v2343 : BitVec 32 := Scalar.muli v2342 c32_i32_1043
  let v2344 : BitVec 32 := Scalar.addi v2343 c0_i32_1044
  let v2535 : Index := Scalar.indexCast v2344
  let c256_1098 : Index := 256#32
  ![v2535.toNat, 256]
def k0_off137 (k0_t1 : Fin k0_t1_loop.trips) (c0_i32_1044 : BitVec 32) (c0_i32_1107 : BitVec 32) : Fin 2 → Nat :=
  let c0_i32_10 : BitVec 32 := 0#32
  let c1_i32_11 : BitVec 32 := 1#32
  let arg8 : BitVec 32 := Scf.iv c0_i32_10 c1_i32_11 k0_t1
  let c2_i32_1042 : BitVec 32 := 2#32
  let v2342 : BitVec 32 := Scalar.muli arg8 c2_i32_1042
  let c32_i32_1043 : BitVec 32 := 32#32
  let v2343 : BitVec 32 := Scalar.muli v2342 c32_i32_1043
  let v2344 : BitVec 32 := Scalar.addi v2343 c0_i32_1044
  let v2568 : BitVec 32 := Scalar.addi v2344 c0_i32_1107
  let v2569 : Index := Scalar.indexCast v2568
  let c512_1108 : Index := 512#32
  ![v2569.toNat, 512]
def k0_off138 (k0_t1 : Fin k0_t1_loop.trips) (c0_i32_1044 : BitVec 32) (c0_i32_1118 : BitVec 32) : Fin 2 → Nat :=
  let c0_i32_10 : BitVec 32 := 0#32
  let c1_i32_11 : BitVec 32 := 1#32
  let arg8 : BitVec 32 := Scf.iv c0_i32_10 c1_i32_11 k0_t1
  let c2_i32_1042 : BitVec 32 := 2#32
  let v2342 : BitVec 32 := Scalar.muli arg8 c2_i32_1042
  let c32_i32_1043 : BitVec 32 := 32#32
  let v2343 : BitVec 32 := Scalar.muli v2342 c32_i32_1043
  let v2344 : BitVec 32 := Scalar.addi v2343 c0_i32_1044
  let v2610 : BitVec 32 := Scalar.addi v2344 c0_i32_1118
  let v2611 : Index := Scalar.indexCast v2610
  let c640_1119 : Index := 640#32
  ![v2611.toNat, 640]
def k0_off139 (k0_t1 : Fin k0_t1_loop.trips) (c0_i32_1044 : BitVec 32) : Fin 2 → Nat :=
  let c0_i32_10 : BitVec 32 := 0#32
  let c1_i32_11 : BitVec 32 := 1#32
  let arg8 : BitVec 32 := Scf.iv c0_i32_10 c1_i32_11 k0_t1
  let c2_i32_1042 : BitVec 32 := 2#32
  let v2342 : BitVec 32 := Scalar.muli arg8 c2_i32_1042
  let c32_i32_1043 : BitVec 32 := 32#32
  let v2343 : BitVec 32 := Scalar.muli v2342 c32_i32_1043
  let v2344 : BitVec 32 := Scalar.addi v2343 c0_i32_1044
  let v2622 : Index := Scalar.indexCast v2344
  let c384_1122 : Index := 384#32
  ![v2622.toNat, 384]
def k0_off140 (k0_t1 : Fin k0_t1_loop.trips) (c0_i32_1044 : BitVec 32) (c0_i32_1131 : BitVec 32) : Fin 2 → Nat :=
  let c0_i32_10 : BitVec 32 := 0#32
  let c1_i32_11 : BitVec 32 := 1#32
  let arg8 : BitVec 32 := Scf.iv c0_i32_10 c1_i32_11 k0_t1
  let c2_i32_1042 : BitVec 32 := 2#32
  let v2342 : BitVec 32 := Scalar.muli arg8 c2_i32_1042
  let c32_i32_1043 : BitVec 32 := 32#32
  let v2343 : BitVec 32 := Scalar.muli v2342 c32_i32_1043
  let v2344 : BitVec 32 := Scalar.addi v2343 c0_i32_1044
  let v2655 : BitVec 32 := Scalar.addi v2344 c0_i32_1131
  let v2656 : Index := Scalar.indexCast v2655
  let c768_1132 : Index := 768#32
  ![v2656.toNat, 768]
def k0_off141 (k0_t1 : Fin k0_t1_loop.trips) (c0_i32_1044 : BitVec 32) (c0_i32_1142 : BitVec 32) : Fin 2 → Nat :=
  let c0_i32_10 : BitVec 32 := 0#32
  let c1_i32_11 : BitVec 32 := 1#32
  let arg8 : BitVec 32 := Scf.iv c0_i32_10 c1_i32_11 k0_t1
  let c2_i32_1042 : BitVec 32 := 2#32
  let v2342 : BitVec 32 := Scalar.muli arg8 c2_i32_1042
  let c32_i32_1043 : BitVec 32 := 32#32
  let v2343 : BitVec 32 := Scalar.muli v2342 c32_i32_1043
  let v2344 : BitVec 32 := Scalar.addi v2343 c0_i32_1044
  let v2697 : BitVec 32 := Scalar.addi v2344 c0_i32_1142
  let v2698 : Index := Scalar.indexCast v2697
  let c896_1143 : Index := 896#32
  ![v2698.toNat, 896]
def k0_off142 (k0_t1 : Fin k0_t1_loop.trips) (c0_i32_1044 : BitVec 32) : Fin 2 → Nat :=
  let c0_i32_10 : BitVec 32 := 0#32
  let c1_i32_11 : BitVec 32 := 1#32
  let arg8 : BitVec 32 := Scf.iv c0_i32_10 c1_i32_11 k0_t1
  let c2_i32_1042 : BitVec 32 := 2#32
  let v2342 : BitVec 32 := Scalar.muli arg8 c2_i32_1042
  let c32_i32_1043 : BitVec 32 := 32#32
  let v2343 : BitVec 32 := Scalar.muli v2342 c32_i32_1043
  let v2344 : BitVec 32 := Scalar.addi v2343 c0_i32_1044
  let v2709 : Index := Scalar.indexCast v2344
  let c512_1146 : Index := 512#32
  ![v2709.toNat, 512]
def k0_off143 (k0_t1 : Fin k0_t1_loop.trips) (c0_i32_1044 : BitVec 32) (c0_i32_1155 : BitVec 32) : Fin 2 → Nat :=
  let c0_i32_10 : BitVec 32 := 0#32
  let c1_i32_11 : BitVec 32 := 1#32
  let arg8 : BitVec 32 := Scf.iv c0_i32_10 c1_i32_11 k0_t1
  let c2_i32_1042 : BitVec 32 := 2#32
  let v2342 : BitVec 32 := Scalar.muli arg8 c2_i32_1042
  let c32_i32_1043 : BitVec 32 := 32#32
  let v2343 : BitVec 32 := Scalar.muli v2342 c32_i32_1043
  let v2344 : BitVec 32 := Scalar.addi v2343 c0_i32_1044
  let v2742 : BitVec 32 := Scalar.addi v2344 c0_i32_1155
  let v2743 : Index := Scalar.indexCast v2742
  let c1024_1156 : Index := 1024#32
  ![v2743.toNat, 1024]
def k0_off144 (k0_t1 : Fin k0_t1_loop.trips) (c0_i32_1044 : BitVec 32) (c0_i32_1166 : BitVec 32) : Fin 2 → Nat :=
  let c0_i32_10 : BitVec 32 := 0#32
  let c1_i32_11 : BitVec 32 := 1#32
  let arg8 : BitVec 32 := Scf.iv c0_i32_10 c1_i32_11 k0_t1
  let c2_i32_1042 : BitVec 32 := 2#32
  let v2342 : BitVec 32 := Scalar.muli arg8 c2_i32_1042
  let c32_i32_1043 : BitVec 32 := 32#32
  let v2343 : BitVec 32 := Scalar.muli v2342 c32_i32_1043
  let v2344 : BitVec 32 := Scalar.addi v2343 c0_i32_1044
  let v2784 : BitVec 32 := Scalar.addi v2344 c0_i32_1166
  let v2785 : Index := Scalar.indexCast v2784
  let c1152_1167 : Index := 1152#32
  ![v2785.toNat, 1152]
def k0_off145 (k0_t1 : Fin k0_t1_loop.trips) (c0_i32_1044 : BitVec 32) : Fin 2 → Nat :=
  let c0_i32_10 : BitVec 32 := 0#32
  let c1_i32_11 : BitVec 32 := 1#32
  let arg8 : BitVec 32 := Scf.iv c0_i32_10 c1_i32_11 k0_t1
  let c2_i32_1042 : BitVec 32 := 2#32
  let v2342 : BitVec 32 := Scalar.muli arg8 c2_i32_1042
  let c32_i32_1043 : BitVec 32 := 32#32
  let v2343 : BitVec 32 := Scalar.muli v2342 c32_i32_1043
  let v2344 : BitVec 32 := Scalar.addi v2343 c0_i32_1044
  let v2796 : Index := Scalar.indexCast v2344
  let c640_1170 : Index := 640#32
  ![v2796.toNat, 640]
def k0_off146 (k0_t1 : Fin k0_t1_loop.trips) (c0_i32_1044 : BitVec 32) (c0_i32_1178 : BitVec 32) : Fin 2 → Nat :=
  let c0_i32_10 : BitVec 32 := 0#32
  let c1_i32_11 : BitVec 32 := 1#32
  let arg8 : BitVec 32 := Scf.iv c0_i32_10 c1_i32_11 k0_t1
  let c2_i32_1042 : BitVec 32 := 2#32
  let v2342 : BitVec 32 := Scalar.muli arg8 c2_i32_1042
  let c32_i32_1043 : BitVec 32 := 32#32
  let v2343 : BitVec 32 := Scalar.muli v2342 c32_i32_1043
  let v2344 : BitVec 32 := Scalar.addi v2343 c0_i32_1044
  let v2829 : BitVec 32 := Scalar.addi v2344 c0_i32_1178
  let v2830 : Index := Scalar.indexCast v2829
  let c1280_1179 : Index := 1280#32
  ![v2830.toNat, 1280]
def k0_off147 (k0_t1 : Fin k0_t1_loop.trips) (c0_i32_1044 : BitVec 32) (c0_i32_1189 : BitVec 32) : Fin 2 → Nat :=
  let c0_i32_10 : BitVec 32 := 0#32
  let c1_i32_11 : BitVec 32 := 1#32
  let arg8 : BitVec 32 := Scf.iv c0_i32_10 c1_i32_11 k0_t1
  let c2_i32_1042 : BitVec 32 := 2#32
  let v2342 : BitVec 32 := Scalar.muli arg8 c2_i32_1042
  let c32_i32_1043 : BitVec 32 := 32#32
  let v2343 : BitVec 32 := Scalar.muli v2342 c32_i32_1043
  let v2344 : BitVec 32 := Scalar.addi v2343 c0_i32_1044
  let v2871 : BitVec 32 := Scalar.addi v2344 c0_i32_1189
  let v2872 : Index := Scalar.indexCast v2871
  let c1408_1190 : Index := 1408#32
  ![v2872.toNat, 1408]
def k0_off148 (k0_t1 : Fin k0_t1_loop.trips) (c0_i32_1044 : BitVec 32) : Fin 2 → Nat :=
  let c0_i32_10 : BitVec 32 := 0#32
  let c1_i32_11 : BitVec 32 := 1#32
  let arg8 : BitVec 32 := Scf.iv c0_i32_10 c1_i32_11 k0_t1
  let c2_i32_1042 : BitVec 32 := 2#32
  let v2342 : BitVec 32 := Scalar.muli arg8 c2_i32_1042
  let c32_i32_1043 : BitVec 32 := 32#32
  let v2343 : BitVec 32 := Scalar.muli v2342 c32_i32_1043
  let v2344 : BitVec 32 := Scalar.addi v2343 c0_i32_1044
  let v2883 : Index := Scalar.indexCast v2344
  let c768_1193 : Index := 768#32
  ![v2883.toNat, 768]
def k0_off149 (k0_t1 : Fin k0_t1_loop.trips) (c0_i32_1044 : BitVec 32) (c0_i32_1201 : BitVec 32) : Fin 2 → Nat :=
  let c0_i32_10 : BitVec 32 := 0#32
  let c1_i32_11 : BitVec 32 := 1#32
  let arg8 : BitVec 32 := Scf.iv c0_i32_10 c1_i32_11 k0_t1
  let c2_i32_1042 : BitVec 32 := 2#32
  let v2342 : BitVec 32 := Scalar.muli arg8 c2_i32_1042
  let c32_i32_1043 : BitVec 32 := 32#32
  let v2343 : BitVec 32 := Scalar.muli v2342 c32_i32_1043
  let v2344 : BitVec 32 := Scalar.addi v2343 c0_i32_1044
  let v2916 : BitVec 32 := Scalar.addi v2344 c0_i32_1201
  let v2917 : Index := Scalar.indexCast v2916
  let c1536_1202 : Index := 1536#32
  ![v2917.toNat, 1536]
def k0_off150 (k0_t1 : Fin k0_t1_loop.trips) (c0_i32_1044 : BitVec 32) (c0_i32_1212 : BitVec 32) : Fin 2 → Nat :=
  let c0_i32_10 : BitVec 32 := 0#32
  let c1_i32_11 : BitVec 32 := 1#32
  let arg8 : BitVec 32 := Scf.iv c0_i32_10 c1_i32_11 k0_t1
  let c2_i32_1042 : BitVec 32 := 2#32
  let v2342 : BitVec 32 := Scalar.muli arg8 c2_i32_1042
  let c32_i32_1043 : BitVec 32 := 32#32
  let v2343 : BitVec 32 := Scalar.muli v2342 c32_i32_1043
  let v2344 : BitVec 32 := Scalar.addi v2343 c0_i32_1044
  let v2958 : BitVec 32 := Scalar.addi v2344 c0_i32_1212
  let v2959 : Index := Scalar.indexCast v2958
  let c1664_1213 : Index := 1664#32
  ![v2959.toNat, 1664]
def k0_off151 (k0_t1 : Fin k0_t1_loop.trips) (c0_i32_1044 : BitVec 32) : Fin 2 → Nat :=
  let c0_i32_10 : BitVec 32 := 0#32
  let c1_i32_11 : BitVec 32 := 1#32
  let arg8 : BitVec 32 := Scf.iv c0_i32_10 c1_i32_11 k0_t1
  let c2_i32_1042 : BitVec 32 := 2#32
  let v2342 : BitVec 32 := Scalar.muli arg8 c2_i32_1042
  let c32_i32_1043 : BitVec 32 := 32#32
  let v2343 : BitVec 32 := Scalar.muli v2342 c32_i32_1043
  let v2344 : BitVec 32 := Scalar.addi v2343 c0_i32_1044
  let v2970 : Index := Scalar.indexCast v2344
  let c896_1216 : Index := 896#32
  ![v2970.toNat, 896]
def k0_off152 (k0_t1 : Fin k0_t1_loop.trips) (c0_i32_1044 : BitVec 32) (c0_i32_1224 : BitVec 32) : Fin 2 → Nat :=
  let c0_i32_10 : BitVec 32 := 0#32
  let c1_i32_11 : BitVec 32 := 1#32
  let arg8 : BitVec 32 := Scf.iv c0_i32_10 c1_i32_11 k0_t1
  let c2_i32_1042 : BitVec 32 := 2#32
  let v2342 : BitVec 32 := Scalar.muli arg8 c2_i32_1042
  let c32_i32_1043 : BitVec 32 := 32#32
  let v2343 : BitVec 32 := Scalar.muli v2342 c32_i32_1043
  let v2344 : BitVec 32 := Scalar.addi v2343 c0_i32_1044
  let v3003 : BitVec 32 := Scalar.addi v2344 c0_i32_1224
  let v3004 : Index := Scalar.indexCast v3003
  let c1792_1225 : Index := 1792#32
  ![v3004.toNat, 1792]
def k0_off153 (k0_t1 : Fin k0_t1_loop.trips) (c0_i32_1044 : BitVec 32) (c0_i32_1235 : BitVec 32) : Fin 2 → Nat :=
  let c0_i32_10 : BitVec 32 := 0#32
  let c1_i32_11 : BitVec 32 := 1#32
  let arg8 : BitVec 32 := Scf.iv c0_i32_10 c1_i32_11 k0_t1
  let c2_i32_1042 : BitVec 32 := 2#32
  let v2342 : BitVec 32 := Scalar.muli arg8 c2_i32_1042
  let c32_i32_1043 : BitVec 32 := 32#32
  let v2343 : BitVec 32 := Scalar.muli v2342 c32_i32_1043
  let v2344 : BitVec 32 := Scalar.addi v2343 c0_i32_1044
  let v3045 : BitVec 32 := Scalar.addi v2344 c0_i32_1235
  let v3046 : Index := Scalar.indexCast v3045
  let c1920_1236 : Index := 1920#32
  ![v3046.toNat, 1920]
def k0_cond2 (i : grid0.Coords) : BitVec 1 :=
  let arg0 : BitVec 32 := BitVec.ofNat 32 (i 0).val
  let c63_i32 : BitVec 32 := 63#32
  let v27 : BitVec 1 := Scalar.cmpi .eq arg0 c63_i32
  let v28 : BitVec 32 := Scalar.extui v27
  let c0_i32_13 : BitVec 32 := 0#32
  let v29 : BitVec 1 := Scalar.cmpi .ne v28 c0_i32_13
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PrepReferenceIdeal.lean ====
abbrev S12288x16384 : Shape := ⟨2, ![12288, 16384]⟩
abbrev S16384x1024 : Shape := ⟨2, ![16384, 1024]⟩
abbrev S1024x128 : Shape := ⟨2, ![1024, 128]⟩
abbrev S8x128 : Shape := ⟨2, ![8, 128]⟩
abbrev S1x12288x16384 : Shape := ⟨3, ![1, 12288, 16384]⟩
abbrev S1 : Shape := ⟨1, ![1]⟩
abbrev S1x1x1 : Shape := ⟨3, ![1, 1, 1]⟩

abbrev nBuf : Space → Nat
  | .hbm => 4
  | .vmem => 2
  | .smem => 0
  | _ => 0

abbrev bufTy : (tb : Table) → Fin (tcTables nBuf tb) → BufTy
  | .hbm, ⟨0, _⟩ => ⟨S12288x16384, .bf16⟩
  | .hbm, ⟨1, _⟩ => ⟨S16384x1024, .i8⟩
  | .hbm, ⟨2, _⟩ => ⟨S1024x128, .fp8e4m3⟩
  | .hbm, ⟨3, _⟩ => ⟨S8x128, .f32⟩
  | .local _ .vmem, ⟨0, _⟩ => ⟨S12288x16384, .bf16⟩
  | .local _ .vmem, ⟨1, _⟩ => ⟨S8x128, .f32⟩
  | _, _ => ⟨S12288x16384, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S12288x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Body.Runs.lean ====
/- The idealized kernel: what the runs of the idealized kernel share: @main up to the region, the windows' blocks, the branch conditions over the grid, the memrefs. (The text follows the generated frame modules of a kernel with named outputs; the scales, which an odd point stores over what the even point before it left, and the MXFP8 outputs are held at contents that nothing names.) -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 193 = 0 :=
  (fun t => by
    have ht : t.val < 193 := Nat.lt_of_lt_of_eq t.isLt N_0
    have e0 : (grid0.coords t 0).val = t.val / 1 % 193 := Pipeline.Grid.coords_val t 0 (by decide) rfl
    simp only [cond0_0, e0]
    word_cmp
   : ∀ t : Fin grid0.N, cond0_0 (grid0.coords t) ↔ t.val % 193 = 0)

/-- The condition of the body's `scf.if` 1 (`k0_h2`), from the grid coordinates (the skeleton's scalar
    chain substituted). -/
abbrev cond0_1 (i : grid0.Coords) : Prop := k0_cond2 i = 1#1
/-- It holds at points 16, 32, 48, 64, 80, 96, 112, 128, 144, 160, 176 and 192 only — decided over the grid. -/
theorem hcond0_1 : ∀ t : Fin cfg0.N, cond0_1 (grid0.coords t) ↔ (t.val % 193 = 16 ∨ t.val % 193 = 32 ∨ t.val % 193 = 48 ∨ t.val % 193 = 64 ∨ t.val % 193 = 80 ∨ t.val % 193 = 96 ∨ t.val % 193 = 112 ∨ t.val % 193 = 128 ∨ t.val % 193 = 144 ∨ t.val % 193 = 160 ∨ t.val % 193 = 176 ∨ t.val % 193 = 192) :=
  (by decide +kernel : ∀ t : Fin grid0.N, cond0_1 (grid0.coords t) ↔ (t.val % 193 = 16 ∨ t.val % 193 = 32 ∨ t.val % 193 = 48 ∨ t.val % 193 = 64 ∨ t.val % 193 = 80 ∨ t.val % 193 = 96 ∨ t.val % 193 = 112 ∨ t.val % 193 = 128 ∨ t.val % 193 = 144 ∨ t.val % 193 = 160 ∨ t.val % 193 = 176 ∨ t.val % 193 = 192))

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an output stored at every point, under no condition). -/
theorem liveAt0_6 : ∀ t : Fin cfg0.N, cfg0.idle 6 (grid0.coords t) = false := fun _ => rfl
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cfg0.idle 8 (grid0.coords t) = false := by decide +kernel

/-! ## The kernel body on any staging memrefs: a subtype the run finds -/

/-- One staging buffer of output window 6, through which its contents are stated (`View.read_writes_of_cover`: the
    choice does not matter). -/
abbrev VO0_6 : View sig .tc .vmem S1024x512 .i8 := (Memref.whole cc0_stg6_0 : Memref sig .tc .vmem S1024x512 .i8).view
/-- One staging buffer of output window 8, through which its contents are stated (`View.read_writes_of_cover`: the
    choice does not matter). -/
abbrev VO0_8 : View sig .tc .vmem S1024x2048 .bf16 := (Memref.whole cc0_stg8_0 : Memref sig .tc .vmem S1024x2048 .bf16).view
/-- Each window's current staging memref at point `t`, spelled as the pipeline passes it (`bodyAt0`), and its wholeness. -/
abbrev ms0_0 (t : Fin cfg0.N) : Memref sig .tc .smem S1x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x512 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x2048 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x2048 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x64 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1024x1024 .bf16 := Memref.whole cc0_scratch0
abbrev scM0_1 : Memref sig .tc .vmem S1024x2048 .f32 := Memref.whole cc0_scratch1
/-- The scratch `arg12` the kernel carries between points, as a view: what it holds is stated through it. -/
abbrev VS0_0 : View sig .tc .vmem S1024x1024 .bf16 := scM0_0.view
/-- The scratch `arg13` the kernel carries between points, as a view: what it holds is stated through it. -/
abbrev VS0_1 : View sig .tc .vmem S1024x2048 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.Body.RunA.lean ====
/- The idealized kernel: the run of the body at the first point: the pieces that the codes and the two scratches end with. -/
module

public import proofs.«01_k».proof.Proof.Body.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 14208000 in
/-- What the body's stores leave in each output's staging memref, as pieces (last first) IN CASE A (`scf.if` 0 taken, `scf.if` 1 not taken: points 0), WITH the
    proof that on whole staging memrefs — the inputs' at their contents, the outputs it leaves idle (8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also output 7's buffer at contents `x7`, handed back with its pieces written (`L7`, which read `x7`), and the FORGOTTEN outputs' (9, 10) at anything, handed back at some contents nothing names. -/
noncomputable def kernelRun0_A (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : cond0_0 i) (hc1 : ¬cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) :
    Σ' (L6 : List (View.Piece (Elt F) S1024x512 .i8)), Σ' (L8 : List (View.Piece (Elt F) S1024x2048 .bf16)), Σ' (LS0 : List (View.Piece (Elt F) S1024x1024 .bf16)), Σ' (LS1 : List (View.Piece (Elt F) S1024x2048 .f32)), { L7 : Vec F S1024x128 .fp8e4m3 → List (View.Piece (Elt F) S1024x128 .fp8e4m3) //
      ∀ (xi8 : Vec F S1024x2048 .bf16) (x7 : Vec F S1024x128 .fp8e4m3) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x7 ∗ owns (c : Thread nD τ) arg9 fullShare xi8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f (L7 x7)) ∗ owns (c : Thread nD τ) arg9 fullShare xi8 ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0_main i arg1 harg1 arg2 harg2 arg3 harg3 arg4 harg4 arg5 harg5 arg6 harg6 arg7 harg7 arg8 harg8 arg9 harg9 arg10 harg10 arg11 harg11 arg12 harg12 arg13 harg13) K } := by
  refine ⟨?_, [], ?_, ?_, ?_, fun xi8 x7 E K => ?run⟩
  case run =>
    simp only [cc0_main_eq_skeleton]; unfold cc0_main_skel
    simp only [k0_part820_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part821_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part822_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part823_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part824_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part825_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part826_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part827_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part828_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part543_eq_skeleton, k0_part544_eq_skeleton, k0_part545_eq_skeleton, k0_part546_eq_skeleton, k0_part547_eq_skeleton, k0_part548_eq_skeleton, k0_part549_eq_skeleton, k0_part550_eq_skeleton, k0_part551_eq_skeleton, k0_part552_eq_skeleton, k0_part553_eq_skeleton, k0_part554_eq_skeleton, k0_part555_eq_skeleton, k0_part556_eq_skeleton, k0_part829_eq_skeleton, k0_part557_eq_skeleton, k0_part558_eq_skeleton, k0_part559_eq_skeleton, k0_part560_eq_skeleton, k0_part561_eq_skeleton, k0_part562_eq_skeleton, k0_part563_eq_skeleton, k0_part564_eq_skeleton, k0_part565_eq_skeleton, k0_part566_eq_skeleton, k0_part567_eq_skeleton, k0_part568_eq_skeleton, k0_part569_eq_skeleton, k0_part570_eq_skeleton, k0_part571_eq_skeleton, k0_part572_eq_skeleton, k0_part573_eq_skeleton, k0_part574_eq_skeleton, k0_part575_eq_skeleton, k0_part576_eq_skeleton, k0_part577_eq_skeleton, k0_part578_eq_skeleton, k0_part579_eq_skeleton, k0_part580_eq_skeleton, k0_part581_eq_skeleton, k0_part582_eq_skeleton, k0_part583_eq_skeleton, k0_part584_eq_skeleton, k0_part585_eq_skeleton, k0_part586_eq_skeleton, k0_part587_eq_skeleton, k0_part588_eq_skeleton, k0_part589_eq_skeleton, k0_part590_eq_skeleton, k0_part591_eq_skeleton, k0_part592_eq_skeleton, k0_part593_eq_skeleton, k0_part594_eq_skeleton, k0_part595_eq_skeleton, k0_part596_eq_skeleton, k0_part597_eq_skeleton, k0_part598_eq_skeleton, k0_part599_eq_skeleton, k0_part600_eq_skeleton, k0_part601_eq_skeleton, k0_part602_eq_skeleton, k0_part603_eq_skeleton, k0_part604_eq_skeleton, k0_part605_eq_skeleton, k0_part606_eq_skeleton, k0_part607_eq_skeleton, k0_part608_eq_skeleton, k0_part609_eq_skeleton, k0_part610_eq_skeleton, k0_part611_eq_skeleton, k0_part612_eq_skeleton, k0_part613_eq_skeleton, k0_part614_eq_skeleton, k0_part615_eq_skeleton, k0_part616_eq_skeleton, k0_part830_eq_skeleton, k0_part617_eq_skeleton, k0_part618_eq_skeleton, k0_part619_eq_skeleton, k0_part620_eq_skeleton, k0_part621_eq_skeleton, k0_part622_eq_skeleton, k0_part623_eq_skeleton, k0_part624_eq_skeleton, k0_part625_eq_skeleton, k0_part626_eq_skeleton, k0_part627_eq_skeleton, k0_part628_eq_skeleton, k0_part629_eq_skeleton, k0_part630_eq_skeleton, k0_part631_eq_skeleton, k0_part632_eq_skeleton, k0_part633_eq_skeleton, k0_part634_eq_skeleton, k0_part635_eq_skeleton, k0_part636_eq_skeleton, k0_part637_eq_skeleton, k0_part638_eq_skeleton, k0_part639_eq_skeleton, k0_part640_eq_skeleton, k0_part641_eq_skeleton, k0_part642_eq_skeleton, k0_part643_eq_skeleton, k0_part644_eq_skeleton, k0_part645_eq_skeleton, k0_part646_eq_skeleton, k0_part647_eq_skeleton, k0_part648_eq_skeleton, k0_part649_eq_skeleton, k0_part650_eq_skeleton, k0_part651_eq_skeleton, k0_part652_eq_skeleton, k0_part653_eq_skeleton, k0_part654_eq_skeleton, k0_part655_eq_skeleton, k0_part656_eq_skeleton, k0_part657_eq_skeleton, k0_part658_eq_skeleton, k0_part659_eq_skeleton, k0_part660_eq_skeleton, k0_part661_eq_skeleton, k0_part662_eq_skeleton, k0_part663_eq_skeleton, k0_part664_eq_skeleton, k0_part665_eq_skeleton, k0_part666_eq_skeleton, k0_part667_eq_skeleton, k0_part668_eq_skeleton, k0_part669_eq_skeleton, k0_part670_eq_skeleton, k0_part671_eq_skeleton, k0_part672_eq_skeleton, k0_part673_eq_skeleton, k0_part674_eq_skeleton, k0_part675_eq_skeleton, k0_part676_eq_skeleton, k0_part831_eq_skeleton, k0_part677_eq_skeleton, k0_part678_eq_skeleton, k0_part679_eq_skeleton, k0_part680_eq_skeleton, k0_part681_eq_skeleton, k0_part682_eq_skeleton, k0_part683_eq_skeleton, k0_part684_eq_skeleton, k0_part685_eq_skeleton, k0_part686_eq_skeleton, k0_part687_eq_skeleton, k0_part688_eq_skeleton, k0_part689_eq_skeleton, k0_part690_eq_skeleton, k0_part691_eq_skeleton, k0_part692_eq_skeleton, k0_part693_eq_skeleton, k0_part694_eq_skeleton, k0_part695_eq_skeleton, k0_part696_eq_skeleton, k0_part697_eq_skeleton, k0_part698_eq_skeleton, k0_part699_eq_skeleton, k0_part700_eq_skeleton, k0_part701_eq_skeleton, k0_part702_eq_skeleton, k0_part703_eq_skeleton, k0_part704_eq_skeleton, k0_part705_eq_skeleton, k0_part706_eq_skeleton, k0_part707_eq_skeleton, k0_part708_eq_skeleton, k0_part709_eq_skeleton, k0_part710_eq_skeleton, k0_part711_eq_skeleton, k0_part712_eq_skeleton, k0_part713_eq_skeleton, k0_part714_eq_skeleton, k0_part715_eq_skeleton, k0_part716_eq_skeleton, k0_part717_eq_skeleton, k0_part718_eq_skeleton, k0_part719_eq_skeleton, k0_part720_eq_skeleton, k0_part721_eq_skeleton, k0_part722_eq_skeleton, k0_part723_eq_skeleton, k0_part724_eq_skeleton, k0_part725_eq_skeleton, k0_part726_eq_skeleton, k0_part727_eq_skeleton, k0_part728_eq_skeleton, k0_part729_eq_skeleton, k0_part730_eq_skeleton, k0_part731_eq_skeleton, k0_part732_eq_skeleton, k0_part733_eq_skeleton, k0_part734_eq_skeleton, k0_part735_eq_skeleton, k0_part736_eq_skeleton, k0_part832_eq_skeleton, k0_part737_eq_skeleton, k0_part738_eq_skeleton, k0_part739_eq_skeleton, k0_part740_eq_skeleton, k0_part741_eq_skeleton, k0_part742_eq_skeleton, k0_part743_eq_skeleton, k0_part744_eq_skeleton, k0_part745_eq_skeleton, k0_part746_eq_skeleton, k0_part747_eq_skeleton, k0_part748_eq_skeleton, k0_part749_eq_skeleton, k0_part750_eq_skeleton, k0_part751_eq_skeleton, k0_part752_eq_skeleton, k0_part753_eq_skeleton, k0_part754_eq_skeleton, k0_part755_eq_skeleton, k0_part756_eq_skeleton, k0_part757_eq_skeleton, k0_part758_eq_skeleton, k0_part759_eq_skeleton, k0_part760_eq_skeleton, k0_part761_eq_skeleton, k0_part762_eq_skeleton, k0_part763_eq_skeleton, k0_part764_eq_skeleton, k0_part765_eq_skeleton, k0_part766_eq_skeleton, k0_part767_eq_skeleton, k0_part768_eq_skeleton, k0_part769_eq_skeleton, k0_part770_eq_skeleton, k0_part771_eq_skeleton, k0_part772_eq_skeleton, k0_part773_eq_skeleton, k0_part774_eq_skeleton, k0_part775_eq_skeleton, k0_part776_eq_skeleton, k0_part777_eq_skeleton, k0_part778_eq_skeleton, k0_part779_eq_skeleton, k0_part780_eq_skeleton, k0_part781_eq_skeleton, k0_part782_eq_skeleton, k0_part783_eq_skeleton, k0_part784_eq_skeleton, k0_part785_eq_skeleton, k0_part786_eq_skeleton, k0_part787_eq_skeleton, k0_part788_eq_skeleton, k0_part789_eq_skeleton, k0_part790_eq_skeleton, k0_part791_eq_skeleton, k0_part792_eq_skeleton, k0_part793_eq_skeleton, k0_part794_eq_skeleton, k0_part795_eq_skeleton, k0_part796_eq_skeleton, k0_part797_eq_skeleton, k0_part798_eq_skeleton, k0_part799_eq_skeleton, k0_part800_eq_skeleton, k0_part801_eq_skeleton, k0_part802_eq_skeleton, k0_part803_eq_skeleton, k0_part804_eq_skeleton, k0_part805_eq_skeleton, k0_part806_eq_skeleton, k0_part807_eq_skeleton, k0_part808_eq_skeleton, k0_part809_eq_skeleton, k0_part810_eq_skeleton, k0_part811_eq_skeleton, k0_part812_eq_skeleton, k0_part813_eq_skeleton, k0_part814_eq_skeleton, k0_part815_eq_skeleton, k0_part816_eq_skeleton, k0_part817_eq_skeleton, k0_part818_eq_skeleton, k0_part819_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]
    · iexists _; isplitr; · ipureintro; exact harg9.read_unread _
      iexact H8
    isplitl [H9]
    · iexists _, _; isplitr; swap; · iexact H9
      ipureintro; rfl
    isplitl [H10]
    · iexists _, _; isplitr; swap; · iexact H10
      ipureintro; rfl
    isplitl [HS0]; · iexists _; iexact HS0
    iexists _; iexact HS1

end Cert.KernelIdeal.Gen

end
-- ==== Proof.Body.RunB.lean ====
/- The idealized kernel: the run of the body at a point that ends no row block. -/
module

public import proofs.«01_k».proof.Proof.Body.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 14184000 in
/-- What the body's stores leave in each output's staging memref, as pieces (last first) IN CASE B (`scf.if` 0 not taken, `scf.if` 1 not taken: points 1, 2, … 191: 180 of 193), WITH the
    proof that on whole staging memrefs — the inputs' at their contents, the outputs it leaves idle (8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also output 7's buffer at contents `x7`, handed back with its pieces written (`L7`, which read `x7`), and the FORGOTTEN outputs' (9, 10) at anything, handed back at some contents nothing names. -/
noncomputable def kernelRun0_B (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : ¬cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) (xs0 : Vec F S1024x1024 .bf16) (xs1 : Vec F S1024x2048 .f32) :
    Σ' (L6 : List (View.Piece (Elt F) S1024x512 .i8)), Σ' (L8 : List (View.Piece (Elt F) S1024x2048 .bf16)), Σ' (LS0 : List (View.Piece (Elt F) S1024x1024 .bf16)), Σ' (LS1 : List (View.Piece (Elt F) S1024x2048 .f32)), { L7 : Vec F S1024x128 .fp8e4m3 → List (View.Piece (Elt F) S1024x128 .fp8e4m3) //
      ∀ (xi8 : Vec F S1024x2048 .bf16) (x7 : Vec F S1024x128 .fp8e4m3) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x7 ∗ owns (c : Thread nD τ) arg9 fullShare xi8 ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f (L7 x7)) ∗ owns (c : Thread nD τ) arg9 fullShare xi8 ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0_main i arg1 harg1 arg2 harg2 arg3 harg3 arg4 harg4 arg5 harg5 arg6 harg6 arg7 harg7 arg8 harg8 arg9 harg9 arg10 harg10 arg11 harg11 arg12 harg12 arg13 harg13) K } := by
  refine ⟨?_, [], ?_, ?_, ?_, fun xi8 x7 E K => ?run⟩
  case run =>
    simp only [cc0_main_eq_skeleton]; unfold cc0_main_skel
    simp only [k0_part820_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part821_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part822_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part823_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part824_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part825_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part826_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part827_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part828_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part543_eq_skeleton, k0_part544_eq_skeleton, k0_part545_eq_skeleton, k0_part546_eq_skeleton, k0_part547_eq_skeleton, k0_part548_eq_skeleton, k0_part549_eq_skeleton, k0_part550_eq_skeleton, k0_part551_eq_skeleton, k0_part552_eq_skeleton, k0_part553_eq_skeleton, k0_part554_eq_skeleton, k0_part555_eq_skeleton, k0_part556_eq_skeleton, k0_part829_eq_skeleton, k0_part557_eq_skeleton, k0_part558_eq_skeleton, k0_part559_eq_skeleton, k0_part560_eq_skeleton, k0_part561_eq_skeleton, k0_part562_eq_skeleton, k0_part563_eq_skeleton, k0_part564_eq_skeleton, k0_part565_eq_skeleton, k0_part566_eq_skeleton, k0_part567_eq_skeleton, k0_part568_eq_skeleton, k0_part569_eq_skeleton, k0_part570_eq_skeleton, k0_part571_eq_skeleton, k0_part572_eq_skeleton, k0_part573_eq_skeleton, k0_part574_eq_skeleton, k0_part575_eq_skeleton, k0_part576_eq_skeleton, k0_part577_eq_skeleton, k0_part578_eq_skeleton, k0_part579_eq_skeleton, k0_part580_eq_skeleton, k0_part581_eq_skeleton, k0_part582_eq_skeleton, k0_part583_eq_skeleton, k0_part584_eq_skeleton, k0_part585_eq_skeleton, k0_part586_eq_skeleton, k0_part587_eq_skeleton, k0_part588_eq_skeleton, k0_part589_eq_skeleton, k0_part590_eq_skeleton, k0_part591_eq_skeleton, k0_part592_eq_skeleton, k0_part593_eq_skeleton, k0_part594_eq_skeleton, k0_part595_eq_skeleton, k0_part596_eq_skeleton, k0_part597_eq_skeleton, k0_part598_eq_skeleton, k0_part599_eq_skeleton, k0_part600_eq_skeleton, k0_part601_eq_skeleton, k0_part602_eq_skeleton, k0_part603_eq_skeleton, k0_part604_eq_skeleton, k0_part605_eq_skeleton, k0_part606_eq_skeleton, k0_part607_eq_skeleton, k0_part608_eq_skeleton, k0_part609_eq_skeleton, k0_part610_eq_skeleton, k0_part611_eq_skeleton, k0_part612_eq_skeleton, k0_part613_eq_skeleton, k0_part614_eq_skeleton, k0_part615_eq_skeleton, k0_part616_eq_skeleton, k0_part830_eq_skeleton, k0_part617_eq_skeleton, k0_part618_eq_skeleton, k0_part619_eq_skeleton, k0_part620_eq_skeleton, k0_part621_eq_skeleton, k0_part622_eq_skeleton, k0_part623_eq_skeleton, k0_part624_eq_skeleton, k0_part625_eq_skeleton, k0_part626_eq_skeleton, k0_part627_eq_skeleton, k0_part628_eq_skeleton, k0_part629_eq_skeleton, k0_part630_eq_skeleton, k0_part631_eq_skeleton, k0_part632_eq_skeleton, k0_part633_eq_skeleton, k0_part634_eq_skeleton, k0_part635_eq_skeleton, k0_part636_eq_skeleton, k0_part637_eq_skeleton, k0_part638_eq_skeleton, k0_part639_eq_skeleton, k0_part640_eq_skeleton, k0_part641_eq_skeleton, k0_part642_eq_skeleton, k0_part643_eq_skeleton, k0_part644_eq_skeleton, k0_part645_eq_skeleton, k0_part646_eq_skeleton, k0_part647_eq_skeleton, k0_part648_eq_skeleton, k0_part649_eq_skeleton, k0_part650_eq_skeleton, k0_part651_eq_skeleton, k0_part652_eq_skeleton, k0_part653_eq_skeleton, k0_part654_eq_skeleton, k0_part655_eq_skeleton, k0_part656_eq_skeleton, k0_part657_eq_skeleton, k0_part658_eq_skeleton, k0_part659_eq_skeleton, k0_part660_eq_skeleton, k0_part661_eq_skeleton, k0_part662_eq_skeleton, k0_part663_eq_skeleton, k0_part664_eq_skeleton, k0_part665_eq_skeleton, k0_part666_eq_skeleton, k0_part667_eq_skeleton, k0_part668_eq_skeleton, k0_part669_eq_skeleton, k0_part670_eq_skeleton, k0_part671_eq_skeleton, k0_part672_eq_skeleton, k0_part673_eq_skeleton, k0_part674_eq_skeleton, k0_part675_eq_skeleton, k0_part676_eq_skeleton, k0_part831_eq_skeleton, k0_part677_eq_skeleton, k0_part678_eq_skeleton, k0_part679_eq_skeleton, k0_part680_eq_skeleton, k0_part681_eq_skeleton, k0_part682_eq_skeleton, k0_part683_eq_skeleton, k0_part684_eq_skeleton, k0_part685_eq_skeleton, k0_part686_eq_skeleton, k0_part687_eq_skeleton, k0_part688_eq_skeleton, k0_part689_eq_skeleton, k0_part690_eq_skeleton, k0_part691_eq_skeleton, k0_part692_eq_skeleton, k0_part693_eq_skeleton, k0_part694_eq_skeleton, k0_part695_eq_skeleton, k0_part696_eq_skeleton, k0_part697_eq_skeleton, k0_part698_eq_skeleton, k0_part699_eq_skeleton, k0_part700_eq_skeleton, k0_part701_eq_skeleton, k0_part702_eq_skeleton, k0_part703_eq_skeleton, k0_part704_eq_skeleton, k0_part705_eq_skeleton, k0_part706_eq_skeleton, k0_part707_eq_skeleton, k0_part708_eq_skeleton, k0_part709_eq_skeleton, k0_part710_eq_skeleton, k0_part711_eq_skeleton, k0_part712_eq_skeleton, k0_part713_eq_skeleton, k0_part714_eq_skeleton, k0_part715_eq_skeleton, k0_part716_eq_skeleton, k0_part717_eq_skeleton, k0_part718_eq_skeleton, k0_part719_eq_skeleton, k0_part720_eq_skeleton, k0_part721_eq_skeleton, k0_part722_eq_skeleton, k0_part723_eq_skeleton, k0_part724_eq_skeleton, k0_part725_eq_skeleton, k0_part726_eq_skeleton, k0_part727_eq_skeleton, k0_part728_eq_skeleton, k0_part729_eq_skeleton, k0_part730_eq_skeleton, k0_part731_eq_skeleton, k0_part732_eq_skeleton, k0_part733_eq_skeleton, k0_part734_eq_skeleton, k0_part735_eq_skeleton, k0_part736_eq_skeleton, k0_part832_eq_skeleton, k0_part737_eq_skeleton, k0_part738_eq_skeleton, k0_part739_eq_skeleton, k0_part740_eq_skeleton, k0_part741_eq_skeleton, k0_part742_eq_skeleton, k0_part743_eq_skeleton, k0_part744_eq_skeleton, k0_part745_eq_skeleton, k0_part746_eq_skeleton, k0_part747_eq_skeleton, k0_part748_eq_skeleton, k0_part749_eq_skeleton, k0_part750_eq_skeleton, k0_part751_eq_skeleton, k0_part752_eq_skeleton, k0_part753_eq_skeleton, k0_part754_eq_skeleton, k0_part755_eq_skeleton, k0_part756_eq_skeleton, k0_part757_eq_skeleton, k0_part758_eq_skeleton, k0_part759_eq_skeleton, k0_part760_eq_skeleton, k0_part761_eq_skeleton, k0_part762_eq_skeleton, k0_part763_eq_skeleton, k0_part764_eq_skeleton, k0_part765_eq_skeleton, k0_part766_eq_skeleton, k0_part767_eq_skeleton, k0_part768_eq_skeleton, k0_part769_eq_skeleton, k0_part770_eq_skeleton, k0_part771_eq_skeleton, k0_part772_eq_skeleton, k0_part773_eq_skeleton, k0_part774_eq_skeleton, k0_part775_eq_skeleton, k0_part776_eq_skeleton, k0_part777_eq_skeleton, k0_part778_eq_skeleton, k0_part779_eq_skeleton, k0_part780_eq_skeleton, k0_part781_eq_skeleton, k0_part782_eq_skeleton, k0_part783_eq_skeleton, k0_part784_eq_skeleton, k0_part785_eq_skeleton, k0_part786_eq_skeleton, k0_part787_eq_skeleton, k0_part788_eq_skeleton, k0_part789_eq_skeleton, k0_part790_eq_skeleton, k0_part791_eq_skeleton, k0_part792_eq_skeleton, k0_part793_eq_skeleton, k0_part794_eq_skeleton, k0_part795_eq_skeleton, k0_part796_eq_skeleton, k0_part797_eq_skeleton, k0_part798_eq_skeleton, k0_part799_eq_skeleton, k0_part800_eq_skeleton, k0_part801_eq_skeleton, k0_part802_eq_skeleton, k0_part803_eq_skeleton, k0_part804_eq_skeleton, k0_part805_eq_skeleton, k0_part806_eq_skeleton, k0_part807_eq_skeleton, k0_part808_eq_skeleton, k0_part809_eq_skeleton, k0_part810_eq_skeleton, k0_part811_eq_skeleton, k0_part812_eq_skeleton, k0_part813_eq_skeleton, k0_part814_eq_skeleton, k0_part815_eq_skeleton, k0_part816_eq_skeleton, k0_part817_eq_skeleton, k0_part818_eq_skeleton, k0_part819_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg12.eq_unread hfs0; obtain rfl := harg13.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]
    · iexists _; isplitr; · ipureintro; exact harg9.read_unread _
      iexact H8
    isplitl [H9]
    · iexists _, _; isplitr; swap; · iexact H9
      ipureintro; rfl
    isplitl [H10]
    · iexists _, _; isplitr; swap; · iexact H10
      ipureintro; rfl
    isplitl [HS0]; · iexists _; iexact HS0
    iexists _; iexact HS1

end Cert.KernelIdeal.Gen

end
-- ==== Proof.Body.RunC.lean ====
/- The idealized kernel: the run of the body at a point that ends a row block: there dx is stored, too. -/
module

public import proofs.«01_k».proof.Proof.Body.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 14308000 in
/-- What the body's stores leave in each output's staging memref, as pieces (last first) IN CASE C (`scf.if` 0 not taken, `scf.if` 1 taken: points 16, 32, … 192: 12 of 193), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also output 7's buffer at contents `x7`, handed back with its pieces written (`L7`, which read `x7`), and the FORGOTTEN outputs' (9, 10) at anything, handed back at some contents nothing names. -/
noncomputable def kernelRun0_C (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) (xs0 : Vec F S1024x1024 .bf16) (xs1 : Vec F S1024x2048 .f32) :
    Σ' (L6 : List (View.Piece (Elt F) S1024x512 .i8)), Σ' (L8 : List (View.Piece (Elt F) S1024x2048 .bf16)), Σ' (LS0 : List (View.Piece (Elt F) S1024x1024 .bf16)), Σ' (LS1 : List (View.Piece (Elt F) S1024x2048 .f32)), { L7 : Vec F S1024x128 .fp8e4m3 → List (View.Piece (Elt F) S1024x128 .fp8e4m3) //
      ∀ (x7 : Vec F S1024x128 .fp8e4m3) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f (L7 x7)) ∗ (∃ f, arg9.view.loc (c : Thread nD τ) ↦[arg9.view.set]{fullShare} arg9.view.writes (Elt F) f L8) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0_main i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun x7 E K => ?run⟩
  case run =>
    simp only [cc0_main_eq_skeleton]; unfold cc0_main_skel
    simp only [k0_part820_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part821_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part822_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part823_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part824_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part825_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part826_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part827_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part828_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part543_eq_skeleton, k0_part544_eq_skeleton, k0_part545_eq_skeleton, k0_part546_eq_skeleton, k0_part547_eq_skeleton, k0_part548_eq_skeleton, k0_part549_eq_skeleton, k0_part550_eq_skeleton, k0_part551_eq_skeleton, k0_part552_eq_skeleton, k0_part553_eq_skeleton, k0_part554_eq_skeleton, k0_part555_eq_skeleton, k0_part556_eq_skeleton, k0_part829_eq_skeleton, k0_part557_eq_skeleton, k0_part558_eq_skeleton, k0_part559_eq_skeleton, k0_part560_eq_skeleton, k0_part561_eq_skeleton, k0_part562_eq_skeleton, k0_part563_eq_skeleton, k0_part564_eq_skeleton, k0_part565_eq_skeleton, k0_part566_eq_skeleton, k0_part567_eq_skeleton, k0_part568_eq_skeleton, k0_part569_eq_skeleton, k0_part570_eq_skeleton, k0_part571_eq_skeleton, k0_part572_eq_skeleton, k0_part573_eq_skeleton, k0_part574_eq_skeleton, k0_part575_eq_skeleton, k0_part576_eq_skeleton, k0_part577_eq_skeleton, k0_part578_eq_skeleton, k0_part579_eq_skeleton, k0_part580_eq_skeleton, k0_part581_eq_skeleton, k0_part582_eq_skeleton, k0_part583_eq_skeleton, k0_part584_eq_skeleton, k0_part585_eq_skeleton, k0_part586_eq_skeleton, k0_part587_eq_skeleton, k0_part588_eq_skeleton, k0_part589_eq_skeleton, k0_part590_eq_skeleton, k0_part591_eq_skeleton, k0_part592_eq_skeleton, k0_part593_eq_skeleton, k0_part594_eq_skeleton, k0_part595_eq_skeleton, k0_part596_eq_skeleton, k0_part597_eq_skeleton, k0_part598_eq_skeleton, k0_part599_eq_skeleton, k0_part600_eq_skeleton, k0_part601_eq_skeleton, k0_part602_eq_skeleton, k0_part603_eq_skeleton, k0_part604_eq_skeleton, k0_part605_eq_skeleton, k0_part606_eq_skeleton, k0_part607_eq_skeleton, k0_part608_eq_skeleton, k0_part609_eq_skeleton, k0_part610_eq_skeleton, k0_part611_eq_skeleton, k0_part612_eq_skeleton, k0_part613_eq_skeleton, k0_part614_eq_skeleton, k0_part615_eq_skeleton, k0_part616_eq_skeleton, k0_part830_eq_skeleton, k0_part617_eq_skeleton, k0_part618_eq_skeleton, k0_part619_eq_skeleton, k0_part620_eq_skeleton, k0_part621_eq_skeleton, k0_part622_eq_skeleton, k0_part623_eq_skeleton, k0_part624_eq_skeleton, k0_part625_eq_skeleton, k0_part626_eq_skeleton, k0_part627_eq_skeleton, k0_part628_eq_skeleton, k0_part629_eq_skeleton, k0_part630_eq_skeleton, k0_part631_eq_skeleton, k0_part632_eq_skeleton, k0_part633_eq_skeleton, k0_part634_eq_skeleton, k0_part635_eq_skeleton, k0_part636_eq_skeleton, k0_part637_eq_skeleton, k0_part638_eq_skeleton, k0_part639_eq_skeleton, k0_part640_eq_skeleton, k0_part641_eq_skeleton, k0_part642_eq_skeleton, k0_part643_eq_skeleton, k0_part644_eq_skeleton, k0_part645_eq_skeleton, k0_part646_eq_skeleton, k0_part647_eq_skeleton, k0_part648_eq_skeleton, k0_part649_eq_skeleton, k0_part650_eq_skeleton, k0_part651_eq_skeleton, k0_part652_eq_skeleton, k0_part653_eq_skeleton, k0_part654_eq_skeleton, k0_part655_eq_skeleton, k0_part656_eq_skeleton, k0_part657_eq_skeleton, k0_part658_eq_skeleton, k0_part659_eq_skeleton, k0_part660_eq_skeleton, k0_part661_eq_skeleton, k0_part662_eq_skeleton, k0_part663_eq_skeleton, k0_part664_eq_skeleton, k0_part665_eq_skeleton, k0_part666_eq_skeleton, k0_part667_eq_skeleton, k0_part668_eq_skeleton, k0_part669_eq_skeleton, k0_part670_eq_skeleton, k0_part671_eq_skeleton, k0_part672_eq_skeleton, k0_part673_eq_skeleton, k0_part674_eq_skeleton, k0_part675_eq_skeleton, k0_part676_eq_skeleton, k0_part831_eq_skeleton, k0_part677_eq_skeleton, k0_part678_eq_skeleton, k0_part679_eq_skeleton, k0_part680_eq_skeleton, k0_part681_eq_skeleton, k0_part682_eq_skeleton, k0_part683_eq_skeleton, k0_part684_eq_skeleton, k0_part685_eq_skeleton, k0_part686_eq_skeleton, k0_part687_eq_skeleton, k0_part688_eq_skeleton, k0_part689_eq_skeleton, k0_part690_eq_skeleton, k0_part691_eq_skeleton, k0_part692_eq_skeleton, k0_part693_eq_skeleton, k0_part694_eq_skeleton, k0_part695_eq_skeleton, k0_part696_eq_skeleton, k0_part697_eq_skeleton, k0_part698_eq_skeleton, k0_part699_eq_skeleton, k0_part700_eq_skeleton, k0_part701_eq_skeleton, k0_part702_eq_skeleton, k0_part703_eq_skeleton, k0_part704_eq_skeleton, k0_part705_eq_skeleton, k0_part706_eq_skeleton, k0_part707_eq_skeleton, k0_part708_eq_skeleton, k0_part709_eq_skeleton, k0_part710_eq_skeleton, k0_part711_eq_skeleton, k0_part712_eq_skeleton, k0_part713_eq_skeleton, k0_part714_eq_skeleton, k0_part715_eq_skeleton, k0_part716_eq_skeleton, k0_part717_eq_skeleton, k0_part718_eq_skeleton, k0_part719_eq_skeleton, k0_part720_eq_skeleton, k0_part721_eq_skeleton, k0_part722_eq_skeleton, k0_part723_eq_skeleton, k0_part724_eq_skeleton, k0_part725_eq_skeleton, k0_part726_eq_skeleton, k0_part727_eq_skeleton, k0_part728_eq_skeleton, k0_part729_eq_skeleton, k0_part730_eq_skeleton, k0_part731_eq_skeleton, k0_part732_eq_skeleton, k0_part733_eq_skeleton, k0_part734_eq_skeleton, k0_part735_eq_skeleton, k0_part736_eq_skeleton, k0_part832_eq_skeleton, k0_part737_eq_skeleton, k0_part738_eq_skeleton, k0_part739_eq_skeleton, k0_part740_eq_skeleton, k0_part741_eq_skeleton, k0_part742_eq_skeleton, k0_part743_eq_skeleton, k0_part744_eq_skeleton, k0_part745_eq_skeleton, k0_part746_eq_skeleton, k0_part747_eq_skeleton, k0_part748_eq_skeleton, k0_part749_eq_skeleton, k0_part750_eq_skeleton, k0_part751_eq_skeleton, k0_part752_eq_skeleton, k0_part753_eq_skeleton, k0_part754_eq_skeleton, k0_part755_eq_skeleton, k0_part756_eq_skeleton, k0_part757_eq_skeleton, k0_part758_eq_skeleton, k0_part759_eq_skeleton, k0_part760_eq_skeleton, k0_part761_eq_skeleton, k0_part762_eq_skeleton, k0_part763_eq_skeleton, k0_part764_eq_skeleton, k0_part765_eq_skeleton, k0_part766_eq_skeleton, k0_part767_eq_skeleton, k0_part768_eq_skeleton, k0_part769_eq_skeleton, k0_part770_eq_skeleton, k0_part771_eq_skeleton, k0_part772_eq_skeleton, k0_part773_eq_skeleton, k0_part774_eq_skeleton, k0_part775_eq_skeleton, k0_part776_eq_skeleton, k0_part777_eq_skeleton, k0_part778_eq_skeleton, k0_part779_eq_skeleton, k0_part780_eq_skeleton, k0_part781_eq_skeleton, k0_part782_eq_skeleton, k0_part783_eq_skeleton, k0_part784_eq_skeleton, k0_part785_eq_skeleton, k0_part786_eq_skeleton, k0_part787_eq_skeleton, k0_part788_eq_skeleton, k0_part789_eq_skeleton, k0_part790_eq_skeleton, k0_part791_eq_skeleton, k0_part792_eq_skeleton, k0_part793_eq_skeleton, k0_part794_eq_skeleton, k0_part795_eq_skeleton, k0_part796_eq_skeleton, k0_part797_eq_skeleton, k0_part798_eq_skeleton, k0_part799_eq_skeleton, k0_part800_eq_skeleton, k0_part801_eq_skeleton, k0_part802_eq_skeleton, k0_part803_eq_skeleton, k0_part804_eq_skeleton, k0_part805_eq_skeleton, k0_part806_eq_skeleton, k0_part807_eq_skeleton, k0_part808_eq_skeleton, k0_part809_eq_skeleton, k0_part810_eq_skeleton, k0_part811_eq_skeleton, k0_part812_eq_skeleton, k0_part813_eq_skeleton, k0_part814_eq_skeleton, k0_part815_eq_skeleton, k0_part816_eq_skeleton, k0_part817_eq_skeleton, k0_part818_eq_skeleton, k0_part819_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg12.eq_unread hfs0; obtain rfl := harg13.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]
    · iexists _, _; isplitr; swap; · iexact H9
      ipureintro; rfl
    isplitl [H10]
    · iexists _, _; isplitr; swap; · iexact H10
      ipureintro; rfl
    isplitl [HS0]; · iexists _; iexact HS0
    iexists _; iexact HS1

end Cert.KernelIdeal.Gen

end
-- ==== Proof.Val.Unit.lean ====
/- One unit of the kernel's quantiser — 32 rows, eight tiles of 128 lanes — as functions of the loaded tiles. -/
module

public import proofs.«01_k».proof.Proof.Gen.KernelIdeal

@[expose] public section

set_option maxRecDepth 16384

noncomputable section

namespace Cert.KernelIdeal.Unit

open Cert.KernelIdeal Cert.KernelIdeal.Gen Idealize.ShloMosaic

variable {F : FTy → Type} [FloatOps F]

/-- The lane of each element. -/
def lane : IVec S32x128 32 := iota .tc S32x128 32 [1] iota_S32x128_d1_w32

/-- The lane of each word. -/
def lane8 : IVec S8x128 32 := iota .tc S8x128 32 [1] iota_S8x128_d1_w32

/-- Lane `l` takes lane `idx l`. -/
def perm (x : FVec F S32x128 .f32) (idx : IVec S32x128 32) : FVec F S32x128 .f32 :=
  dynamicGather 1 x (shapeCast S32x128 (shapeCast S32x128x1 idx shapeCasts_S32x128_S32x128x1) shapeCasts_S32x128x1_S32x128)

/-- The magnitudes of a tile. -/
def absT (x : FVec F S32x128 .bf16) : FVec F S32x128 .f32 := extf .f32 (absf x) bitsLt_bf16_f32

/-- The test of lane bit `k`. -/
def bitClear (k : BitVec 32) : IVec S32x128 1 := cmpi .eq (andi lane (broadcast S32x128 k)) (broadcast S32x128 0#32)

/-- Halve two tiles over lane bit `k`: lanes with the bit clear go on with `a`, the others with `b`. -/
def merge (k : BitVec 32) (a b : FVec F S32x128 .f32) : FVec F S32x128 .f32 :=
  maximumf (select (bitClear k) a b) (perm (select (bitClear k) b a) (xori lane (broadcast S32x128 k)))

/-- The block maxima of eight tiles, block 8t + r in the lanes 16r + 2t and 16r + 2t + 1. -/
def maxT (x : Fin 8 → FVec F S32x128 .bf16) : FVec F S32x128 .f32 :=
  let m := merge 2#32 (merge 4#32 (merge 8#32 (absT (x 0)) (absT (x 4))) (merge 8#32 (absT (x 2)) (absT (x 6))))
    (merge 4#32 (merge 8#32 (absT (x 1)) (absT (x 5))) (merge 8#32 (absT (x 3)) (absT (x 7))))
  maximumf m (perm m (xori lane (broadcast S32x128 1#32)))

/-- The block scales. -/
def scaleT (g : F .f32) (A : FVec F S32x128 .f32) : FVec F S32x128 .f32 :=
  extf .f32 (truncf .fp8e4m3 (minimumf (broadcast S32x128 (Scalar.ofBits .f32 0x43E00000#32))
    (maximumf (broadcast S32x128 (Scalar.ofBits .f32 0x00000000#32))
      (divf A (broadcast S32x128 (Scalar.mulf (Scalar.ofBits .f32 0x40C00000#32) g))))) bitsLt_fp8e4m3_f32) bitsLt_fp8e4m3_f32

/-- The effective scales. -/
def effT (g : F .f32) (s : FVec F S32x128 .f32) : FVec F S32x128 .f32 := mulf s (broadcast S32x128 g)

/-- The reciprocals of the effective scales. -/
def invT (e : FVec F S32x128 .f32) : FVec F S32x128 .f32 :=
  select (cmpf .ogt e (broadcast S32x128 (Scalar.ofBits .f32 0x00000000#32)))
    (divf (broadcast S32x128 (Scalar.ofBits .f32 0x3C800000#32))
      (select (cmpf .ogt e (broadcast S32x128 (Scalar.ofBits .f32 0x00000000#32))) e (broadcast S32x128 (Scalar.ofBits .f32 0x3F800000#32))))
    (broadcast S32x128 (Scalar.ofBits .f32 0x00000000#32))

/-- The scales times 64. -/
def swT (s : FVec F S32x128 .f32) : FVec F S32x128 .f32 := mulf s (broadcast S32x128 (Scalar.ofBits .f32 0x42800000#32))

/-- The lanes that hold what belongs to tile `t` (`k` = 2t). -/
def pick (k : BitVec 32) : IVec S32x128 32 := ori (andi lane (broadcast S32x128 112#32)) (broadcast S32x128 k)

/-- Clipped magnitudes plus their power-of-two companion. -/
def hT (x : FVec F S32x128 .bf16) (inv : FVec F S32x128 .f32) : FVec F S32x128 .f32 :=
  addf (minimumf (mulf (absT x) inv) (broadcast S32x128 (Scalar.ofBits .f32 0x3DC00000#32)))
    (maximumf (minimumf (mulf (absT x) inv) (broadcast S32x128 (Scalar.ofBits .f32 0x3DC00000#32)))
      (broadcast S32x128 (Scalar.ofBits .f32 0x3C800000#32)))

/-- Stochastic rounding to two significant bits. -/
def roundT (h : FVec F S32x128 .f32) (w : IVec S32x128 32) : FVec F S32x128 .f32 :=
  let c1 := cmpf .olt h (broadcast S32x128 (Scalar.ofBits .f32 0x3D000000#32))
  let c2 := cmpf .olt h (broadcast S32x128 (Scalar.ofBits .f32 0x3D800000#32))
  let c3 := cmpf .olt h (broadcast S32x128 (Scalar.ofBits .f32 0x3E000000#32))
  let st := select c1 (broadcast S32x128 (Scalar.ofBits .f32 0x3C000000#32)) (select c2 (broadcast S32x128 (Scalar.ofBits .f32 0x3C800000#32))
    (select c3 (broadcast S32x128 (Scalar.ofBits .f32 0x3D000000#32)) (broadcast S32x128 (Scalar.ofBits .f32 0x3D800000#32))))
  let iv := select c1 (broadcast S32x128 (Scalar.ofBits .f32 0x43000000#32)) (select c2 (broadcast S32x128 (Scalar.ofBits .f32 0x42800000#32))
    (select c3 (broadcast S32x128 (Scalar.ofBits .f32 0x42000000#32)) (broadcast S32x128 (Scalar.ofBits .f32 0x41800000#32))))
  let n := mulf h iv
  let lo := floor n
  mulf (select (cmpf .olt (uitofp .f32 (shrui w (broadcast S32x128 8#32))) (mulf (subf n lo) (broadcast S32x128 (Scalar.ofBits .f32 0x4B800000#32))))
    (addf lo (broadcast S32x128 (Scalar.ofBits .f32 0x3F800000#32))) lo) st

/-- The quantised tile in units of 2⁻⁶: elements `x`, reciprocals `inv`, random words `w`. -/
def qT (x : FVec F S32x128 .bf16) (inv : FVec F S32x128 .f32) (w : IVec S32x128 32) : FVec F S32x128 .bf16 :=
  let r : FVec F S32x128 .bf16 := truncf .bf16 (roundT (hT x inv) w) bitsLt_bf16_f32
  let q := minimumf (mulf r (broadcast S32x128 (Scalar.ofBits .bf16 0x3F00#16))) (subf r (broadcast S32x128 (Scalar.ofBits .bf16 0x3C80#16)))
  select (cmpf .olt x (broadcast S32x128 (Scalar.ofBits .bf16 0x0000#16))) (subf (broadcast S32x128 (Scalar.ofBits .bf16 0x0000#16)) q) q

/-- The dequantised tile. -/
def dyvT (q : FVec F S32x128 .bf16) (sw : FVec F S32x128 .f32) : FVec F S32x128 .bf16 :=
  shapeCast S32x128 (mulf q (truncf .bf16 sw bitsLt_bf16_f32)) shapeCasts_S32x128_S32x128

/-- The bytes of the quantised tile. -/
def byteT (q : FVec F S32x128 .bf16) : IVec S32x128 8 :=
  let a : FVec F S32x128 .f32 := mulf (absf (extf .f32 q bitsLt_bf16_f32)) (broadcast S32x128 (Scalar.ofBits .f32 0x43000000#32))
  let v := select (cmpf .olt a (broadcast S32x128 (Scalar.ofBits .f32 0x40800000#32))) a
    (select (cmpf .olt a (broadcast S32x128 (Scalar.ofBits .f32 0x41000000#32)))
      (addf (mulf a (broadcast S32x128 (Scalar.ofBits .f32 0x3F000000#32))) (broadcast S32x128 (Scalar.ofBits .f32 0x40000000#32)))
      (addf (mulf a (broadcast S32x128 (Scalar.ofBits .f32 0x3E800000#32))) (broadcast S32x128 (Scalar.ofBits .f32 0x40800000#32))))
  let i := shli (fptosi 32 v) (broadcast S32x128 2#32)
  trunci 8 (select (cmpf .olt q (broadcast S32x128 (Scalar.ofBits .bf16 0x0000#16))) (ori i (broadcast S32x128 128#32)) i) natLt_8_32

/-- The words of four nibbles. -/
def wordT (b : IVec S32x128 8) : IVec S8x128 32 :=
  let w : IVec S8x128 32 := bitcast S8x128 32 b bitcasts_S32x128_w8_S8x128_w32
  let m := andi (shrui w (broadcast S8x128 2#32)) (broadcast S8x128 117901063#32)
  ori m (andi (andi (shrui w (broadcast S8x128 4#32)) (addi m (broadcast S8x128 117901063#32))) (broadcast S8x128 134744072#32))

/-- The packed codes of two tiles. -/
def packT (a b : IVec S8x128 32) : IVec S32x128 8 :=
  let even := cmpi .eq (andi lane8 (broadcast S8x128 1#32)) (broadcast S8x128 0#32)
  let idx := ori (shli (andi lane8 (broadcast S8x128 63#32)) (broadcast S8x128 1#32)) (shrsi lane8 (broadcast S8x128 6#32))
  let p := ori (select even a (dynamicRotate 1 1#32 none b rotates_S8x128_d1))
    (shli (select even (dynamicRotate 1 127#32 none a rotates_S8x128_d1) b) (broadcast S8x128 4#32))
  bitcast S32x128 8 (dynamicGather 1 p (shapeCast S8x128 (shapeCast S8x128x1 idx shapeCasts_S8x128_S8x128x1) shapeCasts_S8x128x1_S8x128))
    bitcasts_S8x128_w32_S32x128_w8

/-! ## The unit -/

/-- Twice the tile's number, as a word. -/
def two (t : Fin 8) : BitVec 32 := BitVec.ofNat 32 (2 * t.val)

/-- The scales of a unit. -/
def uS (g : F .f32) (x : Fin 8 → FVec F S32x128 .bf16) : FVec F S32x128 .f32 := scaleT g (maxT x)

/-- The quantised tile `t` of a unit. -/
def uQ (g : F .f32) (x : Fin 8 → FVec F S32x128 .bf16) (w : Fin 8 → IVec S32x128 32) (t : Fin 8) : FVec F S32x128 .bf16 :=
  qT (x t) (perm (invT (effT g (uS g x))) (pick (two t))) (w t)

/-- The dequantised tile `t` of a unit. -/
def uD (g : F .f32) (x : Fin 8 → FVec F S32x128 .bf16) (w : Fin 8 → IVec S32x128 32) (t : Fin 8) : FVec F S32x128 .bf16 :=
  dyvT (uQ g x w t) (perm (swT (uS g x)) (pick (two t)))

/-- The packed codes `p` of a unit: of the tiles 2p and 2p + 1. -/
def uC (g : F .f32) (x : Fin 8 → FVec F S32x128 .bf16) (w : Fin 8 → IVec S32x128 32) (p : Fin 4) : IVec S32x128 8 :=
  packT (wordT (byteT (uQ g x w ⟨2 * p.val, by omega⟩))) (wordT (byteT (uQ g x w ⟨2 * p.val + 1, by omega⟩)))

end Cert.KernelIdeal.Unit

end
-- ==== Proof.Val.Pieces.lean ====
/- The pieces that the runs of the body store, as unit functions of the loaded tiles. -/
module

public import proofs.«01_k».proof.Proof.Gen.KernelIdeal.Skeleton
public import proofs.«01_k».proof.Proof.Val.Unit

@[expose] public section

set_option maxRecDepth 16384

noncomputable section

namespace Cert.KernelIdeal.Unit

open Cert.KernelIdeal Cert.KernelIdeal.Gen Idealize.ShloMosaic Idealize.ShloMosaic.TcCoe Idealize.SL.Sem

variable {F : FTy → Type} [FloatOps F]

theorem inbX (u : Fin 32) (t : Fin 8) : ∀ a, (![32 * u.val, 128 * t.val] : Fin 2 → Nat) a + S32x128.size a ≤ S1024x1024.size a := by
  intro a; fin_cases a
  · show 32 * u.val + 32 ≤ 1024; omega
  · show 128 * t.val + 128 ≤ 1024; omega

theorem inbC (u : Fin 32) (p : Fin 4) : ∀ a, (![32 * u.val, 128 * p.val] : Fin 2 → Nat) a + S32x128.size a ≤ S1024x512.size a := by
  intro a; fin_cases a
  · show 32 * u.val + 32 ≤ 1024; omega
  · show 128 * p.val + 128 ≤ 512; omega

theorem inbA (r : Fin 4) : ∀ a, (![256 * r.val, 0] : Fin 2 → Nat) a + S256x2048.size a ≤ S1024x2048.size a := by
  intro a; fin_cases a
  · show 256 * r.val + 256 ≤ 1024; omega
  · show 0 + 2048 ≤ 2048; omega

theorem inbD (r : Fin 4) : ∀ a, (![256 * r.val, 0] : Fin 2 → Nat) a + S256x1024.size a ≤ S1024x1024.size a := by
  intro a; fin_cases a
  · show 256 * r.val + 256 ≤ 1024; omega
  · show 0 + 1024 ≤ 1024; omega

/-- The place of tile `t` of unit `u`. -/
def rX (u : Fin 32) (t : Fin 8) : Rect S1024x1024 := Rect.unit ![32 * u.val, 128 * t.val] S32x128.size (inbX u t)

/-- The place of the packed codes `p` of unit `u`. -/
def rC (u : Fin 32) (p : Fin 4) : Rect S1024x512 := Rect.unit ![32 * u.val, 128 * p.val] S32x128.size (inbC u p)

/-- Quarter `r` of the accumulator's rows. -/
def rAcc (r : Fin 4) : Rect S1024x2048 := Rect.unit ![256 * r.val, 0] S256x2048.size (inbA r)

/-- Quarter `r` of the dequantised block's rows. -/
def rDq (r : Fin 4) : Rect S1024x1024 := Rect.unit ![256 * r.val, 0] S256x1024.size (inbD r)

/-- Tile `t` of unit `u`, loaded. -/
def ldT {sp : Space} {e : EltTy} (v : View sig .tc sp S1024x1024 e) (f : v.ty.Contents (Elt F)) (u : Fin 32) (t : Fin 8) : Vec F S32x128 e :=
  v.readAt (Elt F) (rX u t).toLoadRect f

/-- The one element of a loaded scalar. -/
def ldG {sp : Space} (v : View sig .tc sp S1x1 .f32) (f : v.ty.Contents (Elt F)) : F .f32 :=
  v.readAt (Elt F) (Rect.unit (s := S1x1) ![0, 0] S1x1.size inb_S1x1_S1x1_0_0).toLoadRect f (Shape.Idx.first (by decide))

/-- The pieces of the codes, the last stored first. -/
def piecesC (g : F .f32) (x : Fin 32 → Fin 8 → FVec F S32x128 .bf16) (w : Fin 32 → Fin 8 → IVec S32x128 32) : List (View.Piece (Elt F) S1024x512 .i8) :=
  (List.finRange 32).reverse.flatMap fun u => (List.finRange 4).reverse.map fun p => ⟨rC u p, uC g (x u) (w u) p⟩

/-- The pieces of the dequantised tiles of the first `n` units, the last stored first. -/
def piecesD (n : Nat) (h : n ≤ 32) (g : F .f32) (x : Fin 32 → Fin 8 → FVec F S32x128 .bf16) (w : Fin 32 → Fin 8 → IVec S32x128 32) :
    List (View.Piece (Elt F) S1024x1024 .bf16) :=
  (List.finRange n).reverse.flatMap fun u => (List.finRange 8).reverse.map fun t =>
    ⟨rX (u.castLE h) t, uD g (x (u.castLE h)) (w (u.castLE h)) t⟩

/-- One quarter's accumulation. -/
def mmT (a : FVec F S256x2048 .f32) (d : FVec F S256x1024 .bf16) (w : FVec F S1024x2048 .bf16) : FVec F S256x2048 .f32 :=
  shapeCast S256x2048 (addf a (matmul dot_S256x1024_S1024x2048_S256x2048_1_0_0_1_n_n none d w (constant S256x2048 .f32 0x00000000#32))) shapeCasts_S256x2048_S256x2048

/-- The loaded block of `w`. -/
def ldW {sp : Space} (v : View sig .tc sp S1024x2048 .bf16) (f : v.ty.Contents (Elt F)) : Vec F S1024x2048 .bf16 :=
  v.readAt (Elt F) (Rect.unit (s := S1024x2048) ![0, 0] S1024x2048.size inb_S1024x2048_S1024x2048_0_0).toLoadRect f

/-- The pieces of the accumulator, the last stored first. -/
def piecesA (a : Fin 4 → FVec F S256x2048 .f32) (d : Fin 4 → FVec F S256x1024 .bf16) (w : FVec F S1024x2048 .bf16) : List (View.Piece (Elt F) S1024x2048 .f32) :=
  (List.finRange 4).reverse.map fun r => ⟨rAcc r, mmT (a r) (d r) w⟩

/-- The zero accumulator, stored whole. -/
def zeroA : View.Piece (Elt F) S1024x2048 .f32 :=
  ⟨Rect.unit (s := S1024x2048) ![0, 0] S1024x2048.size inb_S1024x2048_S1024x2048_0_0,
    shapeCast S1024x2048 (broadcast S1024x2048 (Scalar.ofBits .f32 0x00000000#32 : F .f32)) shapeCasts_S1024x2048_S1024x2048⟩

/-- The zero block, stored whole. -/
def zeroD : View.Piece (Elt F) S1024x1024 .bf16 :=
  ⟨Rect.unit (s := S1024x1024) ![0, 0] S1024x1024.size inb_S1024x1024_S1024x1024_0_0,
    shapeCast S1024x1024 (broadcast S1024x1024 (Scalar.ofBits .bf16 0x0000#16 : F .bf16)) shapeCasts_S1024x1024_S1024x1024⟩

/-- What quarter `r` reads of the dequantised block at the first point: the zero block under the tiles of the units before. -/
def dA {sp : Space} (v : View sig .tc sp S1024x1024 .bf16) (g : F .f32) (x : Fin 32 → Fin 8 → FVec F S32x128 .bf16) (w : Fin 32 → Fin 8 → IVec S32x128 32)
    (r : Fin 4) : FVec F S256x1024 .bf16 :=
  v.readCov (piecesD (8 * r.val) (by omega) g x w ++ [zeroD]) (rDq r).toLoadRect

/-- The accumulator's pieces at the first point. -/
def piecesA0 {sp : Space} (v : View sig .tc sp S1024x2048 .f32) (d : Fin 4 → FVec F S256x1024 .bf16) (w : FVec F S1024x2048 .bf16) : List (View.Piece (Elt F) S1024x2048 .f32) :=
  (List.finRange 4).foldl (fun L r => ⟨rAcc r, mmT (v.readCov L (rAcc r).toLoadRect) (d r) w⟩ :: L) [zeroA]

/-! ## The scales' window, two points to a block -/

theorem inbS (u : Fin 32) : ∀ a, (![32 * u.val, 0] : Fin 2 → Nat) a + S32x128.size a ≤ S1024x128.size a := by
  intro a; fin_cases a
  · show 32 * u.val + 32 ≤ 1024; omega
  · show 0 + 128 ≤ 128; omega

/-- The place of the scales of unit `u`. -/
def rS (u : Fin 32) : Rect S1024x128 := Rect.unit ![32 * u.val, 0] S32x128.size (inbS u)

/-- Whether the point is the second of its pair, as the body computes it. -/
def oddB (i : grid0.Coords) : BitVec 1 :=
  let v6 : BitVec 32 := Scalar.select (Scalar.cmpi .eq 2#32 0#32) 1#32 2#32
  let v7 : BitVec 32 := Scalar.remsi (Scalar.minsi (BitVec.ofNat 32 (i 0).val) 191#32) v6
  Scalar.cmpi .eq (Scalar.select (Scalar.andi (Scalar.xori (Scalar.cmpi .slt v7 0#32) (Scalar.cmpi .slt v6 0#32)) (Scalar.cmpi .ne v7 0#32))
    (Scalar.addi v7 v6) v7) 1#32

/-- The lane that each scale comes from. -/
def natI : IVec S32x128 32 :=
  ori (shli (andi lane (broadcast S32x128 7#32)) (broadcast S32x128 4#32))
    (shli (andi (shrsi lane (broadcast S32x128 3#32)) (broadcast S32x128 7#32)) (broadcast S32x128 1#32))

/-- The scales stored over `old`: at the second point of a pair the lower lanes stay. -/
def storeS (o : BitVec 1) (s : FVec F S32x128 .f32) (old : FVec F S32x128 .fp8e4m3) : FVec F S32x128 .fp8e4m3 :=
  select (andi (cmpi .slt lane (broadcast S32x128 64#32)) (broadcast S32x128 o))
    (shapeCast S32x128 old shapeCasts_S32x128_S32x128) (truncf .fp8e4m3 (perm s natI) bitsLt_fp8e4m3_f32)

/-- The pieces of the scales, the last stored first, over the contents `old` of each unit's place. -/
def piecesS (o : BitVec 1) (g : F .f32) (x : Fin 32 → Fin 8 → FVec F S32x128 .bf16) (old : Fin 32 → FVec F S32x128 .fp8e4m3) :
    List (View.Piece (Elt F) S1024x128 .fp8e4m3) :=
  (List.finRange 32).reverse.map fun u => ⟨rS u, storeS o (uS g (x u)) (old u)⟩

/-- The place of unit `u`, loaded. -/
def ldS {sp : Space} (v : View sig .tc sp S1024x128 .fp8e4m3) (f : v.ty.Contents (Elt F)) (u : Fin 32) : FVec F S32x128 .fp8e4m3 :=
  v.readAt (Elt F) (rS u).toLoadRect f

end Cert.KernelIdeal.Unit

end
-- ==== Proof.Body.Scales.lean ====
/- The scales the idealized kernel leaves in output 7's staging buffer after each point: the lower lanes of a pair's second point stay as the first left them. -/
module

public import proofs.«01_k».proof.Proof.Body.Runs
public import proofs.«01_k».proof.Proof.Val.Pieces

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window BodyObligation cellOf)
open Cert.KernelIdeal.Unit

variable {F : FTy → Type} [FloatOps F]

variable (m : (ℓ : Loc nD τ sig) → Buf (Elt F) ℓ)

/-- One staging buffer of output window 7, through which its contents are stated. -/
abbrev VO0_7 : View sig .tc .vmem S1024x128 .fp8e4m3 := (Memref.whole cc0_stg7_0 : Memref sig .tc .vmem S1024x128 .fp8e4m3).view

theorem liveAt0_7 : ∀ t : Fin cfg0.N, cfg0.idle 7 (grid0.coords t) = false := fun _ => rfl

theorem mem_piecesS (o : BitVec 1) (g : F .f32) (x : Fin 32 → Fin 8 → FVec F S32x128 .bf16) (old : Fin 32 → FVec F S32x128 .fp8e4m3) (u : Fin 32) :
    (⟨rS u, storeS o (uS g (x u)) (old u)⟩ : View.Piece (Elt F) S1024x128 .fp8e4m3) ∈ piecesS o g x old := by
  simp only [piecesS, List.mem_map, List.mem_reverse, List.mem_finRange, true_and]
  exact ⟨u, rfl⟩

theorem mem_rS (y : S1024x128.Idx) (h : (y 0).val / 32 < 32) : y ∈ (rS ⟨(y 0).val / 32, h⟩).set := by
  have h1 : (y 1).val < 128 := (y 1).isLt
  refine (Rect.mem_set_unit (inb := inbS _)).2 fun a => ?_
  match a with
    | ⟨0, _⟩ => show 32 * ((y 0).val / 32) ≤ (y 0).val ∧ (y 0).val < 32 * ((y 0).val / 32) + 32; omega
    | ⟨1, _⟩ => show 0 ≤ (y 1).val ∧ (y 1).val < 0 + 128; omega

/-- The pieces of the scales cover the block. -/
theorem coverS (o : BitVec 1) (g : F .f32) (x : Fin 32 → Fin 8 → FVec F S32x128 .bf16) (old : Fin 32 → FVec F S32x128 .fp8e4m3) (y : S1024x128.Idx) :
    ∃ p ∈ piecesS o g x old, y ∈ p.1.set := by
  have h0 : (y 0).val < 1024 := (y 0).isLt
  exact ⟨_, mem_piecesS o g x old ⟨(y 0).val / 32, by omega⟩, mem_rS y (by omega)⟩

/-- At the first point of a pair nothing of what lies there stays. -/
theorem storeS_even (s : FVec F S32x128 .f32) (old old' : FVec F S32x128 .fp8e4m3) : storeS 0#1 s old = storeS 0#1 s old' := by
  have hz : ∀ a : BitVec 1, IntOp.andi a 0#1 = 0#1 := by decide
  funext k
  show Scalar.select (IntOp.andi _ 0#1) _ _ = Scalar.select (IntOp.andi _ 0#1) _ _
  rw [hz]
  rfl

theorem piecesS_even (g : F .f32) (x : Fin 32 → Fin 8 → FVec F S32x128 .bf16) (old old' : Fin 32 → FVec F S32x128 .fp8e4m3) :
    piecesS 0#1 g x old = piecesS 0#1 g x old' := by
  unfold piecesS
  refine congrArg (fun f => List.map f _) (funext fun u => ?_)
  exact congrArg (fun v => (⟨rS u, v⟩ : View.Piece (Elt F) S1024x128 .fp8e4m3)) (storeS_even _ _ _)

/-- What point `t` stores, over the contents `y`. -/
def scL (c : Dev nD) (t : Fin cfg0.N) (y : Vec F S1024x128 .fp8e4m3) : List (View.Piece (Elt F) S1024x128 .fp8e4m3) :=
  piecesS (oddB (grid0.coords t)) (ldG (ms0_0 t).view ((hs0_0 t).unread (iblk m c 0 t))) (ldT (ms0_2 t).view ((hs0_2 t).unread (iblk m c 2 t)))
    (ldS (ms0_7 t).view ((hs0_7 t).unread y))

/-- The buffer after point `t`, if it held `y` before. -/
def scOut (c : Dev nD) (t : Fin cfg0.N) (y : Vec F S1024x128 .fp8e4m3) : Vec F S1024x128 .fp8e4m3 :=
  VO0_7.read (Elt F) (VO0_7.writes (Elt F) VO0_7.junk (scL m c t y))

/-- The buffer after point `n`. -/
def scAt (c : Dev nD) : (n : ℕ) → n < cfg0.N → Vec F S1024x128 .fp8e4m3
  | 0, hn => scOut m c ⟨0, hn⟩ (VO0_7.read (Elt F) VO0_7.junk)
  | n + 1, hn => scOut m c ⟨n + 1, hn⟩ (scAt c n (Nat.lt_of_succ_lt hn))

/-- At the first point of a pair the buffer does not depend on what it held. -/
theorem scOut_even (c : Dev nD) (t : Fin cfg0.N) (h : oddB (grid0.coords t) = 0#1) (y y' : Vec F S1024x128 .fp8e4m3) :
    scOut m c t y = scOut m c t y' := by
  unfold scOut scL
  rw [h, piecesS_even _ _ _ (ldS (ms0_7 t).view ((hs0_7 t).unread y'))]

/-- A point is the first of its pair, or the block was not written back at the point before. -/
theorem even_or_kept : ∀ t : Fin cfg0.N, oddB (grid0.coords t) = 0#1 ∨
    (t.val ≠ 0 ∧ (cfg0.win 7).flush ⟨t.val - 1, Nat.lt_of_le_of_lt (Nat.sub_le _ _) t.isLt⟩ = false) := by decide +kernel

theorem noFetch0_7 (t : Fin cfg0.N) : (cfg0.win 7).fetch t = false := (cfg0.win 7).fetch_out rfl t

end Cert.KernelIdeal.Gen

end
-- ==== Proof.Val.PiecesA.lean ====
/- The pieces of case A. -/
module

public import proofs.«01_k».proof.Proof.Body.RunA
public import proofs.«01_k».proof.Proof.Val.Pieces

@[expose] public section

set_option maxRecDepth 16384

noncomputable section

namespace Cert.KernelIdeal.Unit

open Cert.KernelIdeal Cert.KernelIdeal.Gen Idealize.ShloMosaic Idealize.ShloMosaic.TcCoe Idealize.SL.Sem

variable {F : FTy → Type} [FloatOps F]

/-- The codes. -/
theorem runA_C (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : cond0_0 i) (hc1 : ¬cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).1 = piecesC (ldG arg1.view (harg1.unread x0)) (ldT arg3.view (harg3.unread x2)) (ldT arg4.view (harg4.unread x3)) := by
  sl_kernel_rfl

/-- The scales, over the contents `x7`. -/
theorem runA_S (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : cond0_0 i) (hc1 : ¬cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) (x7 : Vec F S1024x128 .fp8e4m3) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.1 x7 = piecesS (oddB i) (ldG arg1.view (harg1.unread x0)) (ldT arg3.view (harg3.unread x2)) (ldS arg8.view (harg8.unread x7)) := by
  sl_kernel_rfl

/-- The dequantised block. -/
theorem runA_D (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : cond0_0 i) (hc1 : ¬cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1 = piecesD 32 le_rfl (ldG arg1.view (harg1.unread x0)) (ldT arg3.view (harg3.unread x2)) (ldT arg4.view (harg4.unread x3)) ++ [zeroD] := by
  sl_kernel_rfl

/-- The accumulator. -/
theorem runA_A (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : cond0_0 i) (hc1 : ¬cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1 = piecesA0 arg13.view (dA arg12.view (ldG arg1.view (harg1.unread x0)) (ldT arg3.view (harg3.unread x2)) (ldT arg4.view (harg4.unread x3))) (ldW arg5.view (harg5.unread x4)) := by
  sl_kernel_rfl

end Cert.KernelIdeal.Unit

end
-- ==== Proof.Val.PiecesB.lean ====
/- The pieces of case B. -/
module

public import proofs.«01_k».proof.Proof.Body.RunB
public import proofs.«01_k».proof.Proof.Val.Pieces

@[expose] public section

set_option maxRecDepth 16384

noncomputable section

namespace Cert.KernelIdeal.Unit

open Cert.KernelIdeal Cert.KernelIdeal.Gen Idealize.ShloMosaic Idealize.ShloMosaic.TcCoe Idealize.SL.Sem

variable {F : FTy → Type} [FloatOps F]

/-- The codes. -/
theorem runB_C (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : ¬cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) (xs0 : Vec F S1024x1024 .bf16) (xs1 : Vec F S1024x2048 .f32) :
    (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).1 = piecesC (ldG arg1.view (harg1.unread x0)) (ldT arg3.view (harg3.unread x2)) (ldT arg4.view (harg4.unread x3)) := by
  sl_kernel_rfl

/-- The scales, over the contents `x7`. -/
theorem runB_S (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : ¬cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) (xs0 : Vec F S1024x1024 .bf16) (xs1 : Vec F S1024x2048 .f32) (x7 : Vec F S1024x128 .fp8e4m3) :
    (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.2.2.1 x7 = piecesS (oddB i) (ldG arg1.view (harg1.unread x0)) (ldT arg3.view (harg3.unread x2)) (ldS arg8.view (harg8.unread x7)) := by
  sl_kernel_rfl

/-- The dequantised block. -/
theorem runB_D (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : ¬cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) (xs0 : Vec F S1024x1024 .bf16) (xs1 : Vec F S1024x2048 .f32) :
    (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.1 = piecesD 32 le_rfl (ldG arg1.view (harg1.unread x0)) (ldT arg3.view (harg3.unread x2)) (ldT arg4.view (harg4.unread x3)) := by
  sl_kernel_rfl

/-- The accumulator. -/
theorem runB_A (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : ¬cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) (xs0 : Vec F S1024x1024 .bf16) (xs1 : Vec F S1024x2048 .f32) :
    (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.2.1 = piecesA (fun r => arg13.view.readAt (Elt F) (rAcc r).toLoadRect (harg13.unread xs1)) (fun r => arg12.view.readAt (Elt F) (rDq r).toLoadRect (harg12.unread xs0)) (ldW arg5.view (harg5.unread x4)) := by
  sl_kernel_rfl

end Cert.KernelIdeal.Unit

end
-- ==== Proof.Val.PiecesC.lean ====
/- The pieces of case C. -/
module

public import proofs.«01_k».proof.Proof.Body.RunC
public import proofs.«01_k».proof.Proof.Val.Pieces

@[expose] public section

set_option maxRecDepth 16384

noncomputable section

namespace Cert.KernelIdeal.Unit

open Cert.KernelIdeal Cert.KernelIdeal.Gen Idealize.ShloMosaic Idealize.ShloMosaic.TcCoe Idealize.SL.Sem

variable {F : FTy → Type} [FloatOps F]

/-- The codes. -/
theorem runC_C (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) (xs0 : Vec F S1024x1024 .bf16) (xs1 : Vec F S1024x2048 .f32) :
    (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).1 = piecesC (ldG arg1.view (harg1.unread x0)) (ldT arg3.view (harg3.unread x2)) (ldT arg4.view (harg4.unread x3)) := by
  sl_kernel_rfl

/-- The scales, over the contents `x7`. -/
theorem runC_S (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) (xs0 : Vec F S1024x1024 .bf16) (xs1 : Vec F S1024x2048 .f32) (x7 : Vec F S1024x128 .fp8e4m3) :
    (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.2.2.1 x7 = piecesS (oddB i) (ldG arg1.view (harg1.unread x0)) (ldT arg3.view (harg3.unread x2)) (ldS arg8.view (harg8.unread x7)) := by
  sl_kernel_rfl

/-- The dequantised block. -/
theorem runC_D (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) (xs0 : Vec F S1024x1024 .bf16) (xs1 : Vec F S1024x2048 .f32) :
    (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.1 = piecesD 32 le_rfl (ldG arg1.view (harg1.unread x0)) (ldT arg3.view (harg3.unread x2)) (ldT arg4.view (harg4.unread x3)) := by
  sl_kernel_rfl

/-- The accumulator. -/
theorem runC_A (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) (xs0 : Vec F S1024x1024 .bf16) (xs1 : Vec F S1024x2048 .f32) :
    (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.2.1 = zeroA :: piecesA (fun r => arg13.view.readAt (Elt F) (rAcc r).toLoadRect (harg13.unread xs1)) (fun r => arg12.view.readAt (Elt F) (rDq r).toLoadRect (harg12.unread xs0)) (ldW arg5.view (harg5.unread x4)) := by
  sl_kernel_rfl

/-- The gradient. -/
theorem runC_X (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) (xs0 : Vec F S1024x1024 .bf16) (xs1 : Vec F S1024x2048 .f32) :
    (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).2.1 = (pb_k0_t1 Variants.none c none i arg1 harg1 arg2 harg2 arg3 harg3 arg4 harg4 arg5 harg5 arg6 harg6 arg7 harg7 arg8 harg8 arg9 harg9 arg10 harg10 arg11 harg11 arg12 harg12 arg13 harg13 (ldG arg1.view (harg1.unread x0)) hc1 (ldG arg2.view (harg2.unread x1)) (harg6.unread x5)
      (arg13.view.writes (Elt F) arg13.view.junk (piecesA (fun r => arg13.view.readAt (Elt F) (rAcc r).toLoadRect (harg13.unread xs1)) (fun r => arg12.view.readAt (Elt F) (rDq r).toLoadRect (harg12.unread xs0)) (ldW arg5.view (harg5.unread x4))))
      (Scf.trips k0_t1_loop.lb k0_t1_loop.ub k0_t1_loop.st)).1 := by
  sl_kernel_rfl

end Cert.KernelIdeal.Unit

end
-- ==== Proof.Body.Frame.lean ====
/- The idealized kernel: the frame of the idealized kernel with dx, the codes and the scales NAMED: what they and the scratches hold after each point, the proof data, the body obligation and the run. -/
module

public import proofs.«01_k».proof.Proof.Body.RunC
public import proofs.«01_k».proof.Proof.Body.Scales
public import proofs.«01_k».proof.Proof.Val.PiecesA
public import proofs.«01_k».proof.Proof.Val.PiecesB
public import proofs.«01_k».proof.Proof.Val.PiecesC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Cert.KernelIdeal.Unit
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 6 tile its block (128 stores of `S32x128`, checked by the kernel's evaluation: Lib/Ring.lean `Piece.tiledL`, linear in the pieces, through a loop's `@[irreducible]` trip theorem too), so they cover it. -/
theorem cover0_A_6 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : cond0_0 i) (hc1 : ¬cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) (y : S1024x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).1 S32x128.size (by sl_kernel_rfl) y

/-- What case A leaves in output 6's staging buffer: its pieces read back over junk. -/
def out0_A_6 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : cond0_0 i) (hc1 : ¬cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) : Vec F S1024x512 .i8 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).1)

/-- Case A stores nothing into output 8 (the window is idle at its points and not written back there):
    no pieces — a placeholder (junk read back) that nothing consults, since at these points the window is neither
    written back nor read at the next point (Lib/Pipeline.lean "Idle points"). -/
def out0_A_8 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : cond0_0 i) (hc1 : ¬cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) : Vec F S1024x2048 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.1)

/-- Case A's pieces for scratch `arg12`, which the kernel carries between points, cover it: one of them a store of the WHOLE buffer (Lib/Ring.lean `sl_whole_mem`). -/
theorem scover0_A_0 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : cond0_0 i) (hc1 : ¬cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) (y : S1024x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1 (by sl_whole_mem) y

/-- What case A leaves in scratch `arg12`: its pieces read back over junk. -/
def sout0_A_0 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : cond0_0 i) (hc1 : ¬cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) : Vec F S1024x1024 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1)

/-- Case A's pieces for scratch `arg13`, which the kernel carries between points, cover it: one of them a store of the WHOLE buffer (Lib/Ring.lean `sl_whole_mem`). -/
theorem scover0_A_1 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : cond0_0 i) (hc1 : ¬cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) (y : S1024x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1 (by sl_whole_mem) y

/-- What case A leaves in scratch `arg13`: its pieces read back over junk. -/
def sout0_A_1 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : cond0_0 i) (hc1 : ¬cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) : Vec F S1024x2048 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1)

/-- Case B's pieces for output 6 tile its block (128 stores of `S32x128`, checked by the kernel's evaluation: Lib/Ring.lean `Piece.tiledL`, linear in the pieces, through a loop's `@[irreducible]` trip theorem too), so they cover it. -/
theorem cover0_B_6 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : ¬cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) (xs0 : Vec F S1024x1024 .bf16) (xs1 : Vec F S1024x2048 .f32) (y : S1024x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).1 S32x128.size (by sl_kernel_rfl) y

/-- What case B leaves in output 6's staging buffer: its pieces read back over junk. -/
def out0_B_6 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : ¬cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) (xs0 : Vec F S1024x1024 .bf16) (xs1 : Vec F S1024x2048 .f32) : Vec F S1024x512 .i8 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).1)

/-- Case B stores nothing into output 8 (the window is idle at its points and not written back there):
    no pieces — a placeholder (junk read back) that nothing consults, since at these points the window is neither
    written back nor read at the next point (Lib/Pipeline.lean "Idle points"). -/
def out0_B_8 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : ¬cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) (xs0 : Vec F S1024x1024 .bf16) (xs1 : Vec F S1024x2048 .f32) : Vec F S1024x2048 .bf16 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).2.1)

/-- Case B's pieces for scratch `arg12`, which the kernel carries between points, cover it: 256 pieces of `S32x128` tiling it (Lib/Ring.lean `Piece.tiledL`). -/
theorem scover0_B_0 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : ¬cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) (xs0 : Vec F S1024x1024 .bf16) (xs1 : Vec F S1024x2048 .f32) (y : S1024x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.1 S32x128.size (by sl_kernel_rfl) y

/-- What case B leaves in scratch `arg12`: its pieces read back over junk. -/
def sout0_B_0 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : ¬cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) (xs0 : Vec F S1024x1024 .bf16) (xs1 : Vec F S1024x2048 .f32) : Vec F S1024x1024 .bf16 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.1)

/-- Case B's pieces for scratch `arg13`, which the kernel carries between points, cover it: 4 pieces of `S256x2048` tiling it (Lib/Ring.lean `Piece.tiledL`). -/
theorem scover0_B_1 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : ¬cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) (xs0 : Vec F S1024x1024 .bf16) (xs1 : Vec F S1024x2048 .f32) (y : S1024x2048.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.2.1 S256x2048.size (by sl_kernel_rfl) y

/-- What case B leaves in scratch `arg13`: its pieces read back over junk. -/
def sout0_B_1 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : ¬cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) (xs0 : Vec F S1024x1024 .bf16) (xs1 : Vec F S1024x2048 .f32) : Vec F S1024x2048 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.2.1)

/-- Case C's pieces for output 6 tile its block (128 stores of `S32x128`, checked by the kernel's evaluation: Lib/Ring.lean `Piece.tiledL`, linear in the pieces, through a loop's `@[irreducible]` trip theorem too), so they cover it. -/
theorem cover0_C_6 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) (xs0 : Vec F S1024x1024 .bf16) (xs1 : Vec F S1024x2048 .f32) (y : S1024x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).1 S32x128.size (by sl_kernel_rfl) y

/-- What case C leaves in output 6's staging buffer: its pieces read back over junk. -/
def out0_C_6 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) (xs0 : Vec F S1024x1024 .bf16) (xs1 : Vec F S1024x2048 .f32) : Vec F S1024x512 .i8 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).1)

/-- Case C's pieces for output 8 tile its block (512 stores of `S32x128`, checked by the kernel's evaluation: Lib/Ring.lean `Piece.tiledL`, linear in the pieces, through a loop's `@[irreducible]` trip theorem too), so they cover it. -/
theorem cover0_C_8 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) (xs0 : Vec F S1024x1024 .bf16) (xs1 : Vec F S1024x2048 .f32) (y : S1024x2048.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).2.1 S32x128.size (by sl_kernel_rfl) y

/-- What case C leaves in output 8's staging buffer: its pieces read back over junk. -/
def out0_C_8 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) (xs0 : Vec F S1024x1024 .bf16) (xs1 : Vec F S1024x2048 .f32) : Vec F S1024x2048 .bf16 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).2.1)

/-- Case C's pieces for scratch `arg12`, which the kernel carries between points, cover it: 256 pieces of `S32x128` tiling it (Lib/Ring.lean `Piece.tiledL`). -/
theorem scover0_C_0 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) (xs0 : Vec F S1024x1024 .bf16) (xs1 : Vec F S1024x2048 .f32) (y : S1024x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.1 S32x128.size (by sl_kernel_rfl) y

/-- What case C leaves in scratch `arg12`: its pieces read back over junk. -/
def sout0_C_0 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) (xs0 : Vec F S1024x1024 .bf16) (xs1 : Vec F S1024x2048 .f32) : Vec F S1024x1024 .bf16 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.1)

/-- Case C's pieces for scratch `arg13`, which the kernel carries between points, cover it: one of them a store of the WHOLE buffer (Lib/Ring.lean `sl_whole_mem`). -/
theorem scover0_C_1 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) (xs0 : Vec F S1024x1024 .bf16) (xs1 : Vec F S1024x2048 .f32) (y : S1024x2048.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.2.1, y ∈ pc.1.set :=
  View.cover_of_wholeMem (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.2.1 (by sl_whole_mem) y

/-- What case C leaves in scratch `arg13`: its pieces read back over junk. -/
def sout0_C_1 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : cond0_1 i)
    (x0 : Vec F S1x1 .f32) (x1 : Vec F S1x1 .f32) (x2 : Vec F S1024x1024 .bf16) (x3 : Vec F S1024x1024 .i32) (x4 : Vec F S1024x2048 .bf16) (x5 : Vec F S1024x2048 .bf16) (xs0 : Vec F S1024x1024 .bf16) (xs1 : Vec F S1024x2048 .f32) : Vec F S1024x2048 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x512 .i8 × Vec F S1024x2048 .bf16 × Vec F S1024x1024 .bf16 × Vec F S1024x2048 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 193 = 0 then
      if h1 : ((n + 1) % 193 = 16 ∨ (n + 1) % 193 = 32 ∨ (n + 1) % 193 = 48 ∨ (n + 1) % 193 = 64 ∨ (n + 1) % 193 = 80 ∨ (n + 1) % 193 = 96 ∨ (n + 1) % 193 = 112 ∨ (n + 1) % 193 = 128 ∨ (n + 1) % 193 = 144 ∨ (n + 1) % 193 = 160 ∨ (n + 1) % 193 = 176 ∨ (n + 1) % 193 = 192) then
        False.elim (by have hN : n + 1 < 193 := lt_of_lt_of_eq hn (show cfg0.N = 193 from N_0); omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : ((n + 1) % 193 = 16 ∨ (n + 1) % 193 = 32 ∨ (n + 1) % 193 = 48 ∨ (n + 1) % 193 = 64 ∨ (n + 1) % 193 = 80 ∨ (n + 1) % 193 = 96 ∨ (n + 1) % 193 = 112 ∨ (n + 1) % 193 = 128 ∨ (n + 1) % 193 = 144 ∨ (n + 1) % 193 = 160 ∨ (n + 1) % 193 = 176 ∨ (n + 1) % 193 = 192) then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 193 = 0) (h1 : ¬(t.val % 193 = 16 ∨ t.val % 193 = 32 ∨ t.val % 193 = 48 ∨ t.val % 193 = 64 ∨ t.val % 193 = 80 ∨ t.val % 193 = 96 ∨ t.val % 193 = 112 ∨ t.val % 193 = 128 ∨ t.val % 193 = 144 ∨ t.val % 193 = 160 ∨ t.val % 193 = 176 ∨ t.val % 193 = 192)) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 193 = 0) (h1 : ¬(t.val % 193 = 16 ∨ t.val % 193 = 32 ∨ t.val % 193 = 48 ∨ t.val % 193 = 64 ∨ t.val % 193 = 80 ∨ t.val % 193 = 96 ∨ t.val % 193 = 112 ∨ t.val % 193 = 128 ∨ t.val % 193 = 144 ∨ t.val % 193 = 160 ∨ t.val % 193 = 176 ∨ t.val % 193 = 192)) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 193 = 0) (h1 : (t.val % 193 = 16 ∨ t.val % 193 = 32 ∨ t.val % 193 = 48 ∨ t.val % 193 = 64 ∨ t.val % 193 = 80 ∨ t.val % 193 = 96 ∨ t.val % 193 = 112 ∨ t.val % 193 = 128 ∨ t.val % 193 = 144 ∨ t.val % 193 = 160 ∨ t.val % 193 = 176 ∨ t.val % 193 = 192)) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The output windows this certificate FORGETS (9, 10): nothing reads what the kernel leaves in them, so nothing
    of it is named (Lib/Pipeline/Dat.lean `Dat.toRForget`). -/
def forgets0 : Fin 11 → Bool := fun w => w.val == 9 || w.val == 10
theorem forgets0_6 : forgets0 (6 : Fin 11) = false := by decide
theorem forgets0_7 : forgets0 (7 : Fin 11) = false := by decide
theorem forgets0_8 : forgets0 (8 : Fin 11) = false := by decide

/-- The proof data of the one pipeline on core `c`: the arrays as the region finds them (`V`); after the body at
    point `t` each input's buffer at its block and the NAMED outputs' at `outsAt0` (the forgotten at `Dat.unnamed`); the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => scAt m c t.val t.isLt
    | ⟨8, _⟩ => (outsAt0 m c t.val t.isLt).2.1
    | ⟨9, h⟩ => Pipeline.Dat.unnamed (cfg := cfg0) ⟨9, h⟩ t
    | ⟨10, h⟩ => Pipeline.Dat.unnamed (cfg := cfg0) ⟨10, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = scAt m c t.val t.isLt := by dsimp only [dats]
theorem after0_8 (c : Dev nD) (t : Fin cfg0.N) : (dats m 0 c).after 8 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Over what the body finds in output 7's buffer at a point, the point leaves `scAt`. -/
theorem scOut_before (c : Dev nD) (t : Fin cfg0.N) (d) : scOut m c t ((dats m 0 c).before 7 t d) = scAt m c t.val t.isLt := by
  rcases even_or_kept t with h | ⟨h0, hf⟩
  · obtain ⟨n, hn⟩ := t
    cases n with
    | zero => exact scOut_even m c _ h _ _
    | succ n => exact scOut_even m c _ h _ _
  · rw [(dats m 0 c).before_of_pos 7 t h0 (noFetch0_7 t), if_neg (by rw [hf]; exact Bool.false_ne_true)]
    obtain ⟨n, hn⟩ := t
    cases n with
    | zero => exact absurd rfl h0
    | succ n =>
      show scOut m c ⟨n + 1, hn⟩ ((dats m 0 c).after 7 ⟨n, Nat.lt_of_succ_lt hn⟩) = _
      rw [after0_7]
      rfl

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (∃ d, owns (c : Thread nD τ) (ms0_9 t) fullShare d)
    ∗ (∃ d, owns (c : Thread nD τ) (ms0_10 t) fullShare d))

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 193 := lt_of_lt_of_eq t.isLt (show cfg0.N = 193 from N_0)
  by_cases h0 : t.val % 193 = 0
  · by_cases h1 : (t.val % 193 = 16 ∨ t.val % 193 = 32 ∨ t.val % 193 = 48 ∨ t.val % 193 = 64 ∨ t.val % 193 = 80 ∨ t.val % 193 = 96 ∨ t.val % 193 = 112 ∨ t.val % 193 = 128 ∨ t.val % 193 = 144 ∨ t.val % 193 = 160 ∨ t.val % 193 = 176 ∨ t.val % 193 = 192)
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_6 sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [H9]; · iexists _; iexact H9
        isplitl [H10]; · iexists _; iexact H10
        isplitl [HS0]; · iexact HS0
        isplitl [HS1]; · iexact HS1
        iintro ⟨H0, H1, H2, H3, H4, H5, ⟨%e6, H6⟩, ⟨%e7, H7⟩, H8, H9, H10, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _ _ _ _ _ _)
        isplitl [H7]
        · rw [← scOut_before m c t d7]
          unfold owns; iexists _; isplitr
          swap; · iexact H7
          ipureintro
          exact (congrArg (fun L => (ms0_7 t).view.read (Elt F) ((ms0_7 t).view.writes (Elt F) _ L)) (runA_S ..)).trans
            (View.read_writes_of_cover _ _ _ _ _ (coverS _ _ _ _))
        isplitl [H8]; · iexists _; iexact H8
        isplitl [H9]; · iexact H9
        iexact H10
      · exfalso; have hN : t.val < 193 := lt_of_lt_of_eq t.isLt (show cfg0.N = 193 from N_0); omega
  · by_cases h1 : (t.val % 193 = 16 ∨ t.val % 193 = 32 ∨ t.val % 193 = 48 ∨ t.val % 193 = 64 ∨ t.val % 193 = 80 ∨ t.val % 193 = 96 ∨ t.val % 193 = 112 ∨ t.val % 193 = 128 ∨ t.val % 193 = 144 ∨ t.val % 193 = 160 ∨ t.val % 193 = 176 ∨ t.val % 193 = 192)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8_C t (fun h => h0 ((hcond0_0 t).mp h)) ((hcond0_1 t).mpr h1)], after0_8]
      by_cases hz : t.val = 0
      · exfalso; have hN : t.val < 193 := lt_of_lt_of_eq t.isLt (show cfg0.N = 193 from N_0); omega
      · rw [PhiS_castSucc m c t, PhiS_pos m c _ _ hz]
        rw [outsAt0_C m c t h0 h1]
        unfold out0_C_6 out0_C_8 sout0_C_0 sout0_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_C c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexists _; iexact H8
        isplitl [H9]; · iexists _; iexact H9
        isplitl [H10]; · iexists _; iexact H10
        isplitl [HS0]; · iexact HS0
        isplitl [HS1]; · iexact HS1
        iintro ⟨H0, H1, H2, H3, H4, H5, ⟨%e6, H6⟩, ⟨%e7, H7⟩, ⟨%e8, H8⟩, H9, H10, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _ _ _ _ _ _ _)
        isplitl [H7]
        · rw [← scOut_before m c t d7]
          unfold owns; iexists _; isplitr
          swap; · iexact H7
          ipureintro
          exact (congrArg (fun L => (ms0_7 t).view.read (Elt F) ((ms0_7 t).view.writes (Elt F) _ L)) (runC_S ..)).trans
            (View.read_writes_of_cover _ _ _ _ _ (coverS _ _ _ _))
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _ _ _ _)
        isplitl [H9]; · iexact H9
        iexact H10
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      by_cases hz : t.val = 0
      · exfalso; have hN : t.val < 193 := lt_of_lt_of_eq t.isLt (show cfg0.N = 193 from N_0); omega
      · rw [PhiS_castSucc m c t, PhiS_pos m c _ _ hz]
        rw [outsAt0_B m c t h0 h1]
        unfold out0_B_6 sout0_B_0 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [H9]; · iexists _; iexact H9
        isplitl [H10]; · iexists _; iexact H10
        isplitl [HS0]; · iexact HS0
        isplitl [HS1]; · iexact HS1
        iintro ⟨H0, H1, H2, H3, H4, H5, ⟨%e6, H6⟩, ⟨%e7, H7⟩, H8, H9, H10, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _ _ _ _ _ _ _ _ _ _)
        isplitl [H7]
        · rw [← scOut_before m c t d7]
          unfold owns; iexists _; isplitr
          swap; · iexact H7
          ipureintro
          exact (congrArg (fun L => (ms0_7 t).view.read (Elt F) ((ms0_7 t).view.writes (Elt F) _ L)) (runB_S ..)).trans
            (View.read_writes_of_cover _ _ _ _ _ (coverS _ _ _ _))
        isplitl [H8]; · iexists _; iexact H8
        isplitl [H9]; · iexact H9
        iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 193 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

end
-- ==== Proof.Body.Value.lean ====
/- The idealized kernel: what the arrays dx and codes hold after the run, block by block, and the scratches point by point. -/
module

public import proofs.«01_k».proof.Proof.Body.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the run's contents for that window after the body (`Gen.outsAt0`: its component 0), read through the window's block. -/
theorem flushed6 (c : Dev nD) (t : Fin cfg0.N) :
    (dats m 0 c).flushed 6 t = (cfg0.win 6).cut (grid0.coords t) ((outsAt0 m c t.val t.isLt).1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 193 = 0) (h1 : ¬(t.val % 193 = 16 ∨ t.val % 193 = 32 ∨ t.val % 193 = 48 ∨ t.val % 193 = 64 ∨ t.val % 193 = 80 ∨ t.val % 193 = 96 ∨ t.val % 193 = 112 ∨ t.val % 193 = 128 ∨ t.val % 193 = 144 ∨ t.val % 193 = 160 ∨ t.val % 193 = 176 ∨ t.val % 193 = 192)) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  simp only [flushed6, outsAt0_A m c t h0 h1]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 193 = 0) (h1 : ¬(t.val % 193 = 16 ∨ t.val % 193 = 32 ∨ t.val % 193 = 48 ∨ t.val % 193 = 64 ∨ t.val % 193 = 80 ∨ t.val % 193 = 96 ∨ t.val % 193 = 112 ∨ t.val % 193 = 128 ∨ t.val % 193 = 144 ∨ t.val % 193 = 160 ∨ t.val % 193 = 176 ∨ t.val % 193 = 192)) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed6, outsAt0_B m c t h0 h1]

/-- … so at a point where case C runs, what its write-back would write is that case's NAMED TERM for the window (`Gen.out0_C_6`: the pieces
    its run found, read back) at the point's memrefs and input blocks, and for an output the case reads back what the point before left (`Gen.outsAt0` at `t - 1`) — by the frame's rewriting lemma for the case. -/
theorem flushed6_C (c : Dev nD) (t : Fin cfg0.N) (h0 : ¬t.val % 193 = 0) (h1 : (t.val % 193 = 16 ∨ t.val % 193 = 32 ∨ t.val % 193 = 48 ∨ t.val % 193 = 64 ∨ t.val % 193 = 80 ∨ t.val % 193 = 96 ∨ t.val % 193 = 112 ∨ t.val % 193 = 128 ∨ t.val % 193 = 144 ∨ t.val % 193 = 160 ∨ t.val % 193 = 176 ∨ t.val % 193 = 192)) :
    (dats m 0 c).flushed 6 t = (cfg0.win 6).cut (grid0.coords t) (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed6, outsAt0_C m c t h0 h1]

-- no `blocks6`: window 6's index map revisits a block index, or its points could not be enumerated here;
-- the final array is still the frame's `arrAt`, to read with Lib/Pipeline/Value.lean's lemmas by hand

/-- An index that no flushing point's block covers keeps output window 6's array contents at region entry. -/
theorem entry6 (c : Dev nD) (i : S12288x8192.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 8's array: the run's contents for that window after the body (`Gen.outsAt0`: its component 1), read through the window's block. -/
theorem flushed8 (c : Dev nD) (t : Fin cfg0.N) :
    (dats m 0 c).flushed 8 t = (cfg0.win 8).cut (grid0.coords t) ((outsAt0 m c t.val t.isLt).2.1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 193 = 0) (h1 : ¬(t.val % 193 = 16 ∨ t.val % 193 = 32 ∨ t.val % 193 = 48 ∨ t.val % 193 = 64 ∨ t.val % 193 = 80 ∨ t.val % 193 = 96 ∨ t.val % 193 = 112 ∨ t.val % 193 = 128 ∨ t.val % 193 = 144 ∨ t.val % 193 = 160 ∨ t.val % 193 = 176 ∨ t.val % 193 = 192)) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  simp only [flushed8, outsAt0_A m c t h0 h1]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 193 = 0) (h1 : ¬(t.val % 193 = 16 ∨ t.val % 193 = 32 ∨ t.val % 193 = 48 ∨ t.val % 193 = 64 ∨ t.val % 193 = 80 ∨ t.val % 193 = 96 ∨ t.val % 193 = 112 ∨ t.val % 193 = 128 ∨ t.val % 193 = 144 ∨ t.val % 193 = 160 ∨ t.val % 193 = 176 ∨ t.val % 193 = 192)) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed8, outsAt0_B m c t h0 h1]

/-- … so at a point where case C runs, what its write-back would write is that case's NAMED TERM for the window (`Gen.out0_C_8`: the pieces
    its run found, read back) at the point's memrefs and input blocks, and for an output the case reads back what the point before left (`Gen.outsAt0` at `t - 1`) — by the frame's rewriting lemma for the case. -/
theorem flushed8_C (c : Dev nD) (t : Fin cfg0.N) (h0 : ¬t.val % 193 = 0) (h1 : (t.val % 193 = 16 ∨ t.val % 193 = 32 ∨ t.val % 193 = 48 ∨ t.val % 193 = 64 ∨ t.val % 193 = 80 ∨ t.val % 193 = 96 ∨ t.val % 193 = 112 ∨ t.val % 193 = 128 ∨ t.val % 193 = 144 ∨ t.val % 193 = 160 ∨ t.val % 193 = 176 ∨ t.val % 193 = 192)) :
    (dats m 0 c).flushed 8 t = (cfg0.win 8).cut (grid0.coords t) (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed8, outsAt0_C m c t h0 h1]

-- no `blocks8`: window 8's index map revisits a block index, or its points could not be enumerated here;
-- the final array is still the frame's `arrAt`, to read with Lib/Pipeline/Value.lean's lemmas by hand

/-- An index that no flushing point's block covers keeps output window 8's array contents at region entry. -/
theorem entry8 (c : Dev nD) (i : S12288x2048.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- A NAMED output window's array after the frame run: `(dats m 0 c).arrAt w N`, read off the run's relational post (`h`:
    the proof data with the windows `Gen.forgets0` forgotten) at any window `w` it does not forget (`hw`), by
    Lib/Pipeline/Cells.lean `Dat.toRForget_arrAt_iff`. -/
theorem finalR_out0 (r : PUnit × MemSt nD τ sig (Elt F)) (h : Pipeline.RDat.FramePost (cfgs 0) (fun c => (dats m 0 c).toRForget forgets0) (V m) r) (c : Dev nD) (w : Fin 11) (hw : forgets0 w = false) :
    r.2.mem ((cfg0.spec w).arr.view.loc (c : Thread nD τ)) = (dats m 0 c).arrAt w cfg0.N :=
  ((dats m 0 c).toRForget_arrAt_iff hw _ _).mp ((h c).1 w)

/-- After the frame run, output window 6's array is `(dats m 0 c).arrAt 6 N`. -/
theorem post6 (r : PUnit × MemSt nD τ sig (Elt F)) (h : Pipeline.RDat.FramePost (cfgs 0) (fun c => (dats m 0 c).toRForget forgets0) (V m) r) (c : Dev nD) :
    r.2.mem ((c : Thread nD τ).loc main_v0_0) = (dats m 0 c).arrAt 6 cfg0.N :=
  finalR_out0 m r h c 6 forgets0_6

/-- After the frame run, output window 7's array is `(dats m 0 c).arrAt 7 N`. -/
theorem post7 (r : PUnit × MemSt nD τ sig (Elt F)) (h : Pipeline.RDat.FramePost (cfgs 0) (fun c => (dats m 0 c).toRForget forgets0) (V m) r) (c : Dev nD) :
    r.2.mem ((c : Thread nD τ).loc main_v0_1) = (dats m 0 c).arrAt 7 cfg0.N :=
  finalR_out0 m r h c 7 forgets0_7

/-- After the frame run, output window 8's array is `(dats m 0 c).arrAt 8 N`. -/
theorem post8 (r : PUnit × MemSt nD τ sig (Elt F)) (h : Pipeline.RDat.FramePost (cfgs 0) (fun c => (dats m 0 c).toRForget forgets0) (V m) r) (c : Dev nD) :
    r.2.mem ((c : Thread nD τ).loc main_v0_2) = (dats m 0 c).arrAt 8 cfg0.N :=
  finalR_out0 m r h c 8 forgets0_8

/-- After the frame run, argument `main_arg0` is as launched: input window 0 stages it and never writes it back. -/
theorem kept_main_arg0 (r : PUnit × MemSt nD τ sig (Elt F)) (h : Pipeline.RDat.FramePost (cfgs 0) (fun c => (dats m 0 c).toRForget forgets0) (V m) r) (c : Dev nD) :
    r.2.mem ((c : Thread nD τ).loc main_arg0) = m ((c : Thread nD τ).loc main_arg0) :=
  (Pipeline.RDat.FramePost.arr_in h c 0 rfl).trans ((A_eq m c 0).trans (V_main_arg0 m c))

/-- After the frame run, argument `main_arg1` is as launched: input window 1 stages it and never writes it back. -/
theorem kept_main_arg1 (r : PUnit × MemSt nD τ sig (Elt F)) (h : Pipeline.RDat.FramePost (cfgs 0) (fun c => (dats m 0 c).toRForget forgets0) (V m) r) (c : Dev nD) :
    r.2.mem ((c : Thread nD τ).loc main_arg1) = m ((c : Thread nD τ).loc main_arg1) :=
  (Pipeline.RDat.FramePost.arr_in h c 1 rfl).trans ((A_eq m c 1).trans (V_main_arg1 m c))

/-- After the frame run, argument `main_arg2` is as launched: input window 2 stages it and never writes it back. -/
theorem kept_main_arg2 (r : PUnit × MemSt nD τ sig (Elt F)) (h : Pipeline.RDat.FramePost (cfgs 0) (fun c => (dats m 0 c).toRForget forgets0) (V m) r) (c : Dev nD) :
    r.2.mem ((c : Thread nD τ).loc main_arg2) = m ((c : Thread nD τ).loc main_arg2) :=
  (Pipeline.RDat.FramePost.arr_in h c 2 rfl).trans ((A_eq m c 2).trans (V_main_arg2 m c))

/-- After the frame run, argument `main_arg3` is as launched: input window 3 stages it and never writes it back. -/
theorem kept_main_arg3 (r : PUnit × MemSt nD τ sig (Elt F)) (h : Pipeline.RDat.FramePost (cfgs 0) (fun c => (dats m 0 c).toRForget forgets0) (V m) r) (c : Dev nD) :
    r.2.mem ((c : Thread nD τ).loc main_arg3) = m ((c : Thread nD τ).loc main_arg3) :=
  (Pipeline.RDat.FramePost.arr_in h c 3 rfl).trans ((A_eq m c 3).trans (V_main_arg3 m c))

/-- After the frame run, argument `main_arg4` is as launched: input window 4 stages it and never writes it back. -/
theorem kept_main_arg4 (r : PUnit × MemSt nD τ sig (Elt F)) (h : Pipeline.RDat.FramePost (cfgs 0) (fun c => (dats m 0 c).toRForget forgets0) (V m) r) (c : Dev nD) :
    r.2.mem ((c : Thread nD τ).loc main_arg4) = m ((c : Thread nD τ).loc main_arg4) :=
  (Pipeline.RDat.FramePost.arr_in h c 4 rfl).trans ((A_eq m c 4).trans (V_main_arg4 m c))

/-- After the frame run, argument `main_arg5` is as launched: input window 5 stages it and never writes it back. -/
theorem kept_main_arg5 (r : PUnit × MemSt nD τ sig (Elt F)) (h : Pipeline.RDat.FramePost (cfgs 0) (fun c => (dats m 0 c).toRForget forgets0) (V m) r) (c : Dev nD) :
    r.2.mem ((c : Thread nD τ).loc main_arg5) = m ((c : Thread nD τ).loc main_arg5) :=
  (Pipeline.RDat.FramePost.arr_in h c 5 rfl).trans ((A_eq m c 5).trans (V_main_arg5 m c))

/-- The frame run with each output array the frame names after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 6 cfg0.N
      ∧ r.2.mem ((c : Thread nD τ).loc main_v0_2) = (dats m 0 c).arrAt 8 cfg0.N
      ∧ r.2.mem ((c : Thread nD τ).loc main_v0_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post8 m r h c,
      post7 m r h c,
      kept_main_arg0 m r h c,
      kept_main_arg1 m r h c,
      kept_main_arg2 m r h c,
      kept_main_arg3 m r h c,
      kept_main_arg4 m r h c,
      kept_main_arg5 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S1024x1024 .bf16) : Vec F S1024x1024 .bf16 :=
  if h0 : n % 193 = 0 then
    if h1 : (n % 193 = 16 ∨ n % 193 = 32 ∨ n % 193 = 48 ∨ n % 193 = 64 ∨ n % 193 = 80 ∨ n % 193 = 96 ∨ n % 193 = 112 ∨ n % 193 = 128 ∨ n % 193 = 144 ∨ n % 193 = 160 ∨ n % 193 = 176 ∨ n % 193 = 192) then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))
  else
    if h1 : (n % 193 = 16 ∨ n % 193 = 32 ∨ n % 193 = 48 ∨ n % 193 = 64 ∨ n % 193 = 80 ∨ n % 193 = 96 ∨ n % 193 = 112 ∨ n % 193 = 128 ∨ n % 193 = 144 ∨ n % 193 = 160 ∨ n % 193 = 176 ∨ n % 193 = 192) then
      sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2

/-- WHAT CARRIED SCRATCH 0 HOLDS after point `t`: the fold of its run up to `t`, from the reset at the run's first point
    `193·(t / 193)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.1 = Pipeline.accAt (fun n h => scAt0_0 m c n h (VS0_0.read (Elt F) VS0_0.junk)) (scAt0_0 m c) (193 * (t.val / 193)) (t.val % 193)
      (by have h1 := t.isLt; have h2 := Nat.div_add_mod t.val 193; omega) :=
  Pipeline.eq_accAt_of_mod (fun n h => (outsAt0 m c n h).2.2.1) 193 (fun n h => scAt0_0 m c n h (VS0_0.read (Elt F) VS0_0.junk)) (scAt0_0 m c)
    (fun n h hn => by
      have hN := lt_of_lt_of_eq h (show cfg0.N = 193 from N_0)
      by_cases h0 : n % 193 = 0 <;> by_cases h1 : (n % 193 = 16 ∨ n % 193 = 32 ∨ n % 193 = 48 ∨ n % 193 = 64 ∨ n % 193 = 80 ∨ n % 193 = 96 ∨ n % 193 = 112 ∨ n % 193 = 128 ∨ n % 193 = 144 ∨ n % 193 = 160 ∨ n % 193 = 176 ∨ n % 193 = 192)
      all_goals first | (exfalso; omega) | (rw [outsAt0_A m c ⟨n, h⟩ h0 h1]; dsimp only; unfold scAt0_0; rw [dif_pos h0, dif_neg h1] <;> try rfl) | (rw [outsAt0_B m c ⟨n, h⟩ h0 h1]; dsimp only; unfold scAt0_0; rw [dif_neg h0, dif_neg h1] <;> try rfl) | (rw [outsAt0_C m c ⟨n, h⟩ h0 h1]; dsimp only; unfold scAt0_0; rw [dif_neg h0, dif_pos h1] <;> try rfl))
    (fun n h hn => by
      have hN := lt_of_lt_of_eq h (show cfg0.N = 193 from N_0)
      by_cases h0 : (n + 1) % 193 = 0 <;> by_cases h1 : ((n + 1) % 193 = 16 ∨ (n + 1) % 193 = 32 ∨ (n + 1) % 193 = 48 ∨ (n + 1) % 193 = 64 ∨ (n + 1) % 193 = 80 ∨ (n + 1) % 193 = 96 ∨ (n + 1) % 193 = 112 ∨ (n + 1) % 193 = 128 ∨ (n + 1) % 193 = 144 ∨ (n + 1) % 193 = 160 ∨ (n + 1) % 193 = 176 ∨ (n + 1) % 193 = 192)
      all_goals first | (exfalso; omega) | (rw [outsAt0_A m c ⟨n + 1, h⟩ h0 h1]; dsimp only; unfold scAt0_0; rw [dif_pos h0, dif_neg h1] <;> try rfl) | (rw [outsAt0_B m c ⟨n + 1, h⟩ h0 h1]; dsimp only; unfold scAt0_0; rw [dif_neg h0, dif_neg h1] <;> try rfl) | (rw [outsAt0_C m c ⟨n + 1, h⟩ h0 h1]; dsimp only; unfold scAt0_0; rw [dif_neg h0, dif_pos h1] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.1 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 193 from N_0)
  have hd : n / 193 = 0 := Nat.div_eq_of_lt hN
  have hm : n % 193 = n := Nat.mod_eq_of_lt hN
  simpa only [hd, hm, Nat.mul_zero] using e

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the first point
    stores the scratch whole without reading what it held, and `acc` does not enter there (nor where no point meets the
    conditions: `acc`, never read). -/
def scAt0_1 (c : Dev nD) (n : ℕ) (hb : n < cfg0.N) (acc : Vec F S1024x2048 .f32) : Vec F S1024x2048 .f32 :=
  if h0 : n % 193 = 0 then
    if h1 : (n % 193 = 16 ∨ n % 193 = 32 ∨ n % 193 = 48 ∨ n % 193 = 64 ∨ n % 193 = 80 ∨ n % 193 = 96 ∨ n % 193 = 112 ∨ n % 193 = 128 ∨ n % 193 = 144 ∨ n % 193 = 160 ∨ n % 193 = 176 ∨ n % 193 = 192) then
      acc
    else
      sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))
  else
    if h1 : (n % 193 = 16 ∨ n % 193 = 32 ∨ n % 193 = 48 ∨ n % 193 = 64 ∨ n % 193 = 80 ∨ n % 193 = 96 ∨ n % 193 = 112 ∨ n % 193 = 128 ∨ n % 193 = 144 ∨ n % 193 = 160 ∨ n % 193 = 176 ∨ n % 193 = 192) then
      sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 acc
    else
      sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 acc

/-- WHAT CARRIED SCRATCH 1 HOLDS after point `t`: the fold of its run up to `t`, from the reset at the run's first point
    `193·(t / 193)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.2 = Pipeline.accAt (fun n h => scAt0_1 m c n h (VS0_1.read (Elt F) VS0_1.junk)) (scAt0_1 m c) (193 * (t.val / 193)) (t.val % 193)
      (by have h1 := t.isLt; have h2 := Nat.div_add_mod t.val 193; omega) :=
  Pipeline.eq_accAt_of_mod (fun n h => (outsAt0 m c n h).2.2.2) 193 (fun n h => scAt0_1 m c n h (VS0_1.read (Elt F) VS0_1.junk)) (scAt0_1 m c)
    (fun n h hn => by
      have hN := lt_of_lt_of_eq h (show cfg0.N = 193 from N_0)
      by_cases h0 : n % 193 = 0 <;> by_cases h1 : (n % 193 = 16 ∨ n % 193 = 32 ∨ n % 193 = 48 ∨ n % 193 = 64 ∨ n % 193 = 80 ∨ n % 193 = 96 ∨ n % 193 = 112 ∨ n % 193 = 128 ∨ n % 193 = 144 ∨ n % 193 = 160 ∨ n % 193 = 176 ∨ n % 193 = 192)
      all_goals first | (exfalso; omega) | (rw [outsAt0_A m c ⟨n, h⟩ h0 h1]; dsimp only; unfold scAt0_1; rw [dif_pos h0, dif_neg h1] <;> try rfl) | (rw [outsAt0_B m c ⟨n, h⟩ h0 h1]; dsimp only; unfold scAt0_1; rw [dif_neg h0, dif_neg h1] <;> try rfl) | (rw [outsAt0_C m c ⟨n, h⟩ h0 h1]; dsimp only; unfold scAt0_1; rw [dif_neg h0, dif_pos h1] <;> try rfl))
    (fun n h hn => by
      have hN := lt_of_lt_of_eq h (show cfg0.N = 193 from N_0)
      by_cases h0 : (n + 1) % 193 = 0 <;> by_cases h1 : ((n + 1) % 193 = 16 ∨ (n + 1) % 193 = 32 ∨ (n + 1) % 193 = 48 ∨ (n + 1) % 193 = 64 ∨ (n + 1) % 193 = 80 ∨ (n + 1) % 193 = 96 ∨ (n + 1) % 193 = 112 ∨ (n + 1) % 193 = 128 ∨ (n + 1) % 193 = 144 ∨ (n + 1) % 193 = 160 ∨ (n + 1) % 193 = 176 ∨ (n + 1) % 193 = 192)
      all_goals first | (exfalso; omega) | (rw [outsAt0_A m c ⟨n + 1, h⟩ h0 h1]; dsimp only; unfold scAt0_1; rw [dif_pos h0, dif_neg h1] <;> try rfl) | (rw [outsAt0_B m c ⟨n + 1, h⟩ h0 h1]; dsimp only; unfold scAt0_1; rw [dif_neg h0, dif_neg h1] <;> try rfl) | (rw [outsAt0_C m c ⟨n + 1, h⟩ h0 h1]; dsimp only; unfold scAt0_1; rw [dif_neg h0, dif_pos h1] <;> try rfl))
    (by decide) t.val t.isLt _

/-- One run spans the grid (the only reset is at point 0): after point `n` the scratch is the fold from 0 to `n`. -/
theorem soutsAt0_1_sweep (c : Dev nD) (n : ℕ) (hn : n < cfg0.N) :
    (outsAt0 m c n hn).2.2.2 = Pipeline.accAt (fun n h => scAt0_1 m c n h (VS0_1.read (Elt F) VS0_1.junk)) (scAt0_1 m c) 0 n (by omega) := by
  have e := soutsAt0_1_eq m c ⟨n, hn⟩
  have hN := lt_of_lt_of_eq hn (show cfg0.N = 193 from N_0)
  have hd : n / 193 = 0 := Nat.div_eq_of_lt hN
  have hm : n % 193 = n := Nat.mod_eq_of_lt hN
  simpa only [hd, hm, Nat.mul_zero] using e

end Cert.KernelIdeal.Value

end
-- ==== Proof.Body.Same.lean ====
/- The kernel's frame. The idealized program is printed with no rewrite, so the two programs are the same term under two names, and
   the frame proved for the one, at every float instance, is the frame of the other. -/
module

public import proofs.«01_k».proof.Defs
public import proofs.«01_k».proof.Proof.Gen.Kernel
public import proofs.«01_k».proof.Proof.Body.Frame

@[expose] public section

set_option maxRecDepth 16384

noncomputable section

namespace Cert.Kernel.Same

open Idealize.ShloMosaic Idealize.ShloMosaic.Tactic Idealize.SL.Sem

/-- The frame of the idealized program read at machine floats. -/
def OfIdeal [h : Cert.KernelIdeal.Facts] : Prop := ∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

/-- The frame of the kernel. -/
def OfKernel [h : Cert.Kernel.Facts] : Prop := ∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

/-- They are the same proposition. -/
theorem same : OfKernel (h := Cert.Kernel.Gen.facts) = OfIdeal (h := Cert.KernelIdeal.Gen.facts) := by
  sl_kernel_rfl

/-- The frame of the kernel. -/
theorem frame : OfKernel (h := Cert.Kernel.Gen.facts) :=
  same.mpr fun m g => Cert.KernelIdeal.Gen.frame m g

end Cert.Kernel.Same

end
-- ==== Proof.Val.PiecesX.lean ====
/- The pieces that one trip of the epilogue's loop stores of the gradient. -/
module

public import proofs.«01_k».proof.Proof.Gen.KernelIdeal.Loops
public import proofs.«01_k».proof.Proof.Val.Pieces

@[expose] public section

set_option maxRecDepth 16384

noncomputable section

namespace Cert.KernelIdeal.Unit

open Cert.KernelIdeal Cert.KernelIdeal.Gen Idealize.ShloMosaic Idealize.ShloMosaic.TcCoe Idealize.SL.Sem

variable {F : FTy → Type} [FloatOps F]

/-- A tile of the gradient from the accumulator's and the residual's. -/
def dxT (gs : F .f32) (a : FVec F S32x128 .f32) (r : FVec F S32x128 .bf16) : FVec F S32x128 .bf16 :=
  truncf .bf16 (addf (mulf a (broadcast S32x128 gs)) (extf .f32 r bitsLt_bf16_f32)) bitsLt_bf16_f32

/-- The gradient's pieces of trip `k`. -/
theorem trip_X (𝒱 : Variants) (c : Dev nD) (bd : Option 𝒱.V) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (v0 : Elt F .f32) (k0_h2 : k0_cond2 i = 1#1) (v34495 : Elt F .f32) (X_arg6 : BufTy.Contents (Elt F) arg6.view.ty) (X_arg13 : BufTy.Contents (Elt F) arg13.view.ty) (k : Fin k0_t1_loop.trips) :
    (trip_k0_t1 𝒱 c bd i arg1 harg1 arg2 harg2 arg3 harg3 arg4 harg4 arg5 harg5 arg6 harg6 arg7 harg7 arg8 harg8 arg9 harg9 arg10 harg10 arg11 harg11 arg12 harg12 arg13 harg13 v0 k0_h2 v34495 X_arg6 X_arg13 k).1 = [
      ⟨(Rect.unit (s := S1024x2048) (k0_off16 k) S32x128.size (k0_off16_inb i k k0_h2)), dxT (Scalar.mulf v0 v34495) (arg13.view.readAt (Elt F) (Rect.unit (s := S1024x2048) (k0_off16 k) S32x128.size (k0_off16_inb i k k0_h2)).toLoadRect X_arg13) (arg6.view.readAt (Elt F) (Rect.unit (s := S1024x2048) (k0_off16 k) S32x128.size (k0_off16_inb i k k0_h2)).toLoadRect X_arg6)⟩,
      ⟨(Rect.unit (s := S1024x2048) (k0_off15 k) S32x128.size (k0_off15_inb i k k0_h2)), dxT (Scalar.mulf v0 v34495) (arg13.view.readAt (Elt F) (Rect.unit (s := S1024x2048) (k0_off15 k) S32x128.size (k0_off15_inb i k k0_h2)).toLoadRect X_arg13) (arg6.view.readAt (Elt F) (Rect.unit (s := S1024x2048) (k0_off15 k) S32x128.size (k0_off15_inb i k k0_h2)).toLoadRect X_arg6)⟩,
      ⟨(Rect.unit (s := S1024x2048) (k0_off14 k) S32x128.size (k0_off14_inb i k k0_h2)), dxT (Scalar.mulf v0 v34495) (arg13.view.readAt (Elt F) (Rect.unit (s := S1024x2048) (k0_off14 k) S32x128.size (k0_off14_inb i k k0_h2)).toLoadRect X_arg13) (arg6.view.readAt (Elt F) (Rect.unit (s := S1024x2048) (k0_off14 k) S32x128.size (k0_off14_inb i k k0_h2)).toLoadRect X_arg6)⟩,
      ⟨(Rect.unit (s := S1024x2048) (k0_off13 k) S32x128.size (k0_off13_inb i k k0_h2)), dxT (Scalar.mulf v0 v34495) (arg13.view.readAt (Elt F) (Rect.unit (s := S1024x2048) (k0_off13 k) S32x128.size (k0_off13_inb i k k0_h2)).toLoadRect X_arg13) (arg6.view.readAt (Elt F) (Rect.unit (s := S1024x2048) (k0_off13 k) S32x128.size (k0_off13_inb i k k0_h2)).toLoadRect X_arg6)⟩,
      ⟨(Rect.unit (s := S1024x2048) (k0_off12 k) S32x128.size (k0_off12_inb i k k0_h2)), dxT (Scalar.mulf v0 v34495) (arg13.view.readAt (Elt F) (Rect.unit (s := S1024x2048) (k0_off12 k) S32x128.size (k0_off12_inb i k k0_h2)).toLoadRect X_arg13) (arg6.view.readAt (Elt F) (Rect.unit (s := S1024x2048) (k0_off12 k) S32x128.size (k0_off12_inb i k k0_h2)).toLoadRect X_arg6)⟩,
      ⟨(Rect.unit (s := S1024x2048) (k0_off11 k) S32x128.size (k0_off11_inb i k k0_h2)), dxT (Scalar.mulf v0 v34495) (arg13.view.readAt (Elt F) (Rect.unit (s := S1024x2048) (k0_off11 k) S32x128.size (k0_off11_inb i k k0_h2)).toLoadRect X_arg13) (arg6.view.readAt (Elt F) (Rect.unit (s := S1024x2048) (k0_off11 k) S32x128.size (k0_off11_inb i k k0_h2)).toLoadRect X_arg6)⟩,
      ⟨(Rect.unit (s := S1024x2048) (k0_off10 k) S32x128.size (k0_off10_inb i k k0_h2)), dxT (Scalar.mulf v0 v34495) (arg13.view.readAt (Elt F) (Rect.unit (s := S1024x2048) (k0_off10 k) S32x128.size (k0_off10_inb i k k0_h2)).toLoadRect X_arg13) (arg6.view.readAt (Elt F) (Rect.unit (s := S1024x2048) (k0_off10 k) S32x128.size (k0_off10_inb i k k0_h2)).toLoadRect X_arg6)⟩,
      ⟨(Rect.unit (s := S1024x2048) (k0_off9 k) S32x128.size (k0_off9_inb i k k0_h2)), dxT (Scalar.mulf v0 v34495) (arg13.view.readAt (Elt F) (Rect.unit (s := S1024x2048) (k0_off9 k) S32x128.size (k0_off9_inb i k k0_h2)).toLoadRect X_arg13) (arg6.view.readAt (Elt F) (Rect.unit (s := S1024x2048) (k0_off9 k) S32x128.size (k0_off9_inb i k k0_h2)).toLoadRect X_arg6)⟩,
      ⟨(Rect.unit (s := S1024x2048) (k0_off8 k) S32x128.size (k0_off8_inb i k k0_h2)), dxT (Scalar.mulf v0 v34495) (arg13.view.readAt (Elt F) (Rect.unit (s := S1024x2048) (k0_off8 k) S32x128.size (k0_off8_inb i k k0_h2)).toLoadRect X_arg13) (arg6.view.readAt (Elt F) (Rect.unit (s := S1024x2048) (k0_off8 k) S32x128.size (k0_off8_inb i k k0_h2)).toLoadRect X_arg6)⟩,
      ⟨(Rect.unit (s := S1024x2048) (k0_off7 k) S32x128.size (k0_off7_inb i k k0_h2)), dxT (Scalar.mulf v0 v34495) (arg13.view.readAt (Elt F) (Rect.unit (s := S1024x2048) (k0_off7 k) S32x128.size (k0_off7_inb i k k0_h2)).toLoadRect X_arg13) (arg6.view.readAt (Elt F) (Rect.unit (s := S1024x2048) (k0_off7 k) S32x128.size (k0_off7_inb i k k0_h2)).toLoadRect X_arg6)⟩,
      ⟨(Rect.unit (s := S1024x2048) (k0_off6 k) S32x128.size (k0_off6_inb i k k0_h2)), dxT (Scalar.mulf v0 v34495) (arg13.view.readAt (Elt F) (Rect.unit (s := S1024x2048) (k0_off6 k) S32x128.size (k0_off6_inb i k k0_h2)).toLoadRect X_arg13) (arg6.view.readAt (Elt F) (Rect.unit (s := S1024x2048) (k0_off6 k) S32x128.size (k0_off6_inb i k k0_h2)).toLoadRect X_arg6)⟩,
      ⟨(Rect.unit (s := S1024x2048) (k0_off5 k) S32x128.size (k0_off5_inb i k k0_h2)), dxT (Scalar.mulf v0 v34495) (arg13.view.readAt (Elt F) (Rect.unit (s := S1024x2048) (k0_off5 k) S32x128.size (k0_off5_inb i k k0_h2)).toLoadRect X_arg13) (arg6.view.readAt (Elt F) (Rect.unit (s := S1024x2048) (k0_off5 k) S32x128.size (k0_off5_inb i k k0_h2)).toLoadRect X_arg6)⟩,
      ⟨(Rect.unit (s := S1024x2048) (k0_off4 k) S32x128.size (k0_off4_inb i k k0_h2)), dxT (Scalar.mulf v0 v34495) (arg13.view.readAt (Elt F) (Rect.unit (s := S1024x2048) (k0_off4 k) S32x128.size (k0_off4_inb i k k0_h2)).toLoadRect X_arg13) (arg6.view.readAt (Elt F) (Rect.unit (s := S1024x2048) (k0_off4 k) S32x128.size (k0_off4_inb i k k0_h2)).toLoadRect X_arg6)⟩,
      ⟨(Rect.unit (s := S1024x2048) (k0_off3 k) S32x128.size (k0_off3_inb i k k0_h2)), dxT (Scalar.mulf v0 v34495) (arg13.view.readAt (Elt F) (Rect.unit (s := S1024x2048) (k0_off3 k) S32x128.size (k0_off3_inb i k k0_h2)).toLoadRect X_arg13) (arg6.view.readAt (Elt F) (Rect.unit (s := S1024x2048) (k0_off3 k) S32x128.size (k0_off3_inb i k k0_h2)).toLoadRect X_arg6)⟩,
      ⟨(Rect.unit (s := S1024x2048) (k0_off2 k) S32x128.size (k0_off2_inb i k k0_h2)), dxT (Scalar.mulf v0 v34495) (arg13.view.readAt (Elt F) (Rect.unit (s := S1024x2048) (k0_off2 k) S32x128.size (k0_off2_inb i k k0_h2)).toLoadRect X_arg13) (arg6.view.readAt (Elt F) (Rect.unit (s := S1024x2048) (k0_off2 k) S32x128.size (k0_off2_inb i k k0_h2)).toLoadRect X_arg6)⟩,
      ⟨(Rect.unit (s := S1024x2048) (k0_off1 k) S32x128.size (k0_off1_inb i k k0_h2)), dxT (Scalar.mulf v0 v34495) (arg13.view.readAt (Elt F) (Rect.unit (s := S1024x2048) (k0_off1 k) S32x128.size (k0_off1_inb i k k0_h2)).toLoadRect X_arg13) (arg6.view.readAt (Elt F) (Rect.unit (s := S1024x2048) (k0_off1 k) S32x128.size (k0_off1_inb i k k0_h2)).toLoadRect X_arg6)⟩] := by
  sl_kernel_rfl

end Cert.KernelIdeal.Unit

end
-- ==== Proof.Val.Elem.lean ====
/-
  One element of the quantiser over the extended reals: what the kernel computes for it, what the reference computes for it,
  and that both are the same number. Nothing here speaks of arrays.
-/
module

public import Idealize.ShloMosaic.Init
public import Idealize.ShloMosaic.PureOps
public import Idealize.ShloMosaic.Lib.IdealHost
public import Idealize.ShloMosaic.Lib.WordCmp
public import Mathlib.Tactic.Linarith
public import Mathlib.Tactic.NormNum
public import Mathlib.Tactic.FinCases
public import Mathlib.Tactic.Ring
public import Mathlib.Tactic.SplitIfs

@[expose] public section

noncomputable section

namespace Cert.Quant

open Idealize.ShloMosaic

/-- An f32 constant. -/
abbrev c32 (b : BitVec 32) : EReal := Ideal.ofBits .f32 b
/-- A bf16 constant. -/
abbrev c16 (b : BitVec 16) : EReal := Ideal.ofBits .bf16 b

/-- The magnitude. -/
def mag (x : EReal) : EReal := max x (-x)

/-- The scale of a block whose largest magnitude is `A`. -/
def scale (g A : EReal) : EReal :=
  min (c32 0x43E00000#32) (max (c32 0x00000000#32) (Ideal.div A (c32 0x40C00000#32 * g)))

/-! ## The kernel's element -/

/-- The kernel's reciprocal: 2⁻⁶ over the effective scale, zero where that is not positive. -/
def kInv (e : EReal) : EReal :=
  Scalar.select (Ideal.cmp .ogt e (c32 0x00000000#32))
    (Ideal.div (c32 0x3C800000#32) (Scalar.select (Ideal.cmp .ogt e (c32 0x00000000#32)) e (c32 0x3F800000#32)))
    (c32 0x00000000#32)

/-- The clipped magnitude in units of 2⁻⁶. -/
def kA (x inv : EReal) : EReal := min (mag x * inv) (c32 0x3DC00000#32)

/-- The magnitude the rounding acts on. -/
def kH0 (a : EReal) : EReal := a + max a (c32 0x3C800000#32)

/-- The distance of two neighbours with two significant bits around `h`. -/
def kStep (h : EReal) : EReal :=
  Scalar.select (Ideal.cmp .olt h (c32 0x3D000000#32)) (c32 0x3C000000#32)
    (Scalar.select (Ideal.cmp .olt h (c32 0x3D800000#32)) (c32 0x3C800000#32)
      (Scalar.select (Ideal.cmp .olt h (c32 0x3E000000#32)) (c32 0x3D000000#32) (c32 0x3D800000#32)))

/-- One over `kStep`. -/
def kInvStep (h : EReal) : EReal :=
  Scalar.select (Ideal.cmp .olt h (c32 0x3D000000#32)) (c32 0x43000000#32)
    (Scalar.select (Ideal.cmp .olt h (c32 0x3D800000#32)) (c32 0x42800000#32)
      (Scalar.select (Ideal.cmp .olt h (c32 0x3E000000#32)) (c32 0x42000000#32) (c32 0x41800000#32)))

/-- Stochastic rounding of `h` to two significant bits, by the random number `r`. -/
def kRound (h : EReal) (r : ℕ) : EReal :=
  Scalar.select
    (Ideal.cmp .olt ((r : ℝ) : EReal)
      ((h * kInvStep h - Ideal.liftRound Int.floor (h * kInvStep h)) * c32 0x4B800000#32))
    (Ideal.liftRound Int.floor (h * kInvStep h) + c32 0x3F800000#32) (Ideal.liftRound Int.floor (h * kInvStep h)) * kStep h

/-- The rounded magnitude in units of 2⁻⁶. -/
def kMag (a : EReal) (r : ℕ) : EReal :=
  min (kRound (kH0 a) r * c16 0x3F00#16) (kRound (kH0 a) r - c16 0x3C80#16)

/-- With the sign of `x`. -/
def kSigned (x q : EReal) : EReal := Scalar.select (Ideal.cmp .olt x (c16 0x0000#16)) (c16 0x0000#16 - q) q

/-- The quantised element in units of 2⁻⁶. -/
def kQ (x inv : EReal) (w : BitVec 32) : EReal := kSigned x (kMag (kA x inv) (IntOp.shrui .vector w 8#32).toNat)

/-- The position of `q`'s magnitude among the eight, shifted by two. -/
def kIdx (q : EReal) : BitVec 32 :=
  IntOp.shli .vector (Ideal.fptosi 32
    (Scalar.select (Ideal.cmp .olt (mag q * c32 0x43000000#32) (c32 0x40800000#32)) (mag q * c32 0x43000000#32)
      (Scalar.select (Ideal.cmp .olt (mag q * c32 0x43000000#32) (c32 0x41000000#32))
        (mag q * c32 0x43000000#32 * c32 0x3F000000#32 + c32 0x40000000#32)
        (mag q * c32 0x43000000#32 * c32 0x3E800000#32 + c32 0x40800000#32)))) 2#32

/-- The byte of the quantised element. -/
def kByte (q : EReal) : BitVec 8 :=
  BitVec.truncate 8 (Scalar.select (Ideal.cmp .olt q (c16 0x0000#16)) (IntOp.ori (kIdx q) 128#32) (kIdx q))

/-! ## The reference's element -/

/-- The element over its scale. -/
def rV (x e : EReal) : EReal :=
  Scalar.select (Ideal.cmp .ogt e (c32 0x00000000#32))
    (Ideal.div x (Scalar.select (Ideal.cmp .ogt e (c32 0x00000000#32)) e (c32 0x3F800000#32))) (c32 0x00000000#32)

/-- Its clipped magnitude. -/
def rA (v : EReal) : EReal := min (mag v) (c32 0x40C00000#32)

/-- The distance of the two neighbours of `a` on the grid of magnitudes. -/
def rStep (a : EReal) : EReal :=
  Scalar.select (Ideal.cmp .olt a (c32 0x40000000#32)) (c32 0x3F000000#32)
    (Scalar.select (Ideal.cmp .olt a (c32 0x40800000#32)) (c32 0x3F800000#32) (c32 0x40000000#32))

/-- One over `rStep`. -/
def rInvStep (a : EReal) : EReal :=
  Scalar.select (Ideal.cmp .olt a (c32 0x40000000#32)) (c32 0x40000000#32)
    (Scalar.select (Ideal.cmp .olt a (c32 0x40800000#32)) (c32 0x3F800000#32) (c32 0x3F000000#32))

/-- The lower neighbour. -/
def rLo (a : EReal) : EReal :=
  Scalar.select (Ideal.cmp .olt a (c32 0x40000000#32))
    (Ideal.liftRound Int.floor (a * c32 0x40000000#32) * c32 0x3F000000#32)
    (Scalar.select (Ideal.cmp .olt a (c32 0x40800000#32)) (Ideal.liftRound Int.floor a)
      (c32 0x40800000#32 + c32 0x40000000#32 * Ideal.liftRound Int.floor ((a - c32 0x40800000#32) * c32 0x3F000000#32)))

/-- The magnitude after stochastic rounding by the random number `r`. -/
def rMag (a : EReal) (r : ℕ) : EReal :=
  Scalar.select (Ideal.cmp .olt (((r : ℝ) : EReal) * c32 0x33800000#32) ((a - rLo a) * rInvStep a)) (rLo a + rStep a) (rLo a)

/-- The three magnitude bits of a rounded magnitude. -/
def rIdx (q : EReal) : BitVec 8 :=
  Ideal.fptoui 8 (Scalar.select (Ideal.cmp .olt q (c32 0x40000000#32)) (q * c32 0x40000000#32)
    (Scalar.select (Ideal.cmp .olt q (c32 0x40800000#32)) (q + c32 0x40000000#32)
      (Scalar.select (Ideal.cmp .oeq q (c32 0x40800000#32)) (c32 0x40C00000#32) (c32 0x40E00000#32))))

/-- The four bits of an element: sign and magnitude. -/
def rCodeOf (v q : EReal) : BitVec 8 :=
  IntOp.ori (rIdx q)
    (Scalar.select (IntOp.andi (Ideal.cmp .olt v (c32 0x00000000#32)) (Ideal.cmp .ogt q (c32 0x00000000#32))) 8#8 0#8)

/-- The reference's four bits of the element `x` of a block of effective scale `e`, by the random word `w`. -/
def rCode (x e : EReal) (w : BitVec 32) : BitVec 8 :=
  rCodeOf (rV x e) (rMag (rA (rV x e)) (IntOp.shrui .vector w 8#32).toNat)

/-- The magnitude that the four bits `b` (as a word) stand for. -/
def rDecMag (b : BitVec 32) : EReal :=
  Scalar.select (IntOp.cmpi .eq (IntOp.andi (IntOp.shrsi .vector b 1#32) 3#32) 0#32)
    (c16 0x3F00#16 * (((IntOp.andi b 1#32).toInt : ℝ) : EReal))
    (Scalar.select (IntOp.cmpi .eq (IntOp.andi (IntOp.shrsi .vector b 1#32) 3#32) 1#32)
      (c16 0x3F80#16 + c16 0x3F00#16 * (((IntOp.andi b 1#32).toInt : ℝ) : EReal))
      (Scalar.select (IntOp.cmpi .eq (IntOp.andi (IntOp.shrsi .vector b 1#32) 3#32) 2#32)
        (c16 0x4000#16 * (c16 0x3F80#16 + c16 0x3F00#16 * (((IntOp.andi b 1#32).toInt : ℝ) : EReal)))
        (c16 0x4080#16 * (c16 0x3F80#16 + c16 0x3F00#16 * (((IntOp.andi b 1#32).toInt : ℝ) : EReal)))))

/-- The number that the four bits `b` (as a word) stand for. -/
def rDec (b : BitVec 32) : EReal :=
  Scalar.select (IntOp.cmpi .eq (IntOp.andi (IntOp.shrsi .vector b 3#32) 1#32) 1#32) (c16 0x0000#16 - rDecMag b) (rDecMag b)

end Cert.Quant

end
-- ==== Proof.Val.Lanes.lean ====
/- The unit functions over the extended reals, element by element. -/
module

public import proofs.«01_k».proof.Proof.Val.Unit
public import proofs.«01_k».proof.Proof.Val.Elem
public import Idealize.ShloMosaic.Lib.ValueIdx
public import Idealize.ShloMosaic.Lib.Pipeline.Value

@[expose] public section

set_option maxRecDepth 16384

noncomputable section

namespace Cert.KernelIdeal.Unit

open Cert.KernelIdeal Cert.KernelIdeal.Gen Idealize.ShloMosaic Idealize.ShloMosaic.ValueIdx Cert.Quant

/-- Row `r`, lane `l`. -/
abbrev at32 (r : Fin 32) (l : Fin 128) : S32x128.Idx := ix2 r l

/-- Lane `n` mod 128. -/
def md (n : ℕ) : Fin 128 := ⟨n % 128, Nat.mod_lt _ (by decide)⟩

theorem md_val (l : Fin 128) : md l.val = l := Fin.ext (Nat.mod_eq_of_lt l.isLt)

theorem gather_at {α : Type} (y : S32x128.Idx → α) (idx : IVec S32x128 32) (r : Fin 32) (l : Fin 128) :
    dynamicGather 1 y idx (at32 r l) = y (at32 r (md (idx (at32 r l)).toNat)) := by
  unfold dynamicGather
  congr 1
  funext b
  fin_cases b <;> rfl

theorem perm_at (y : FVec Ideal S32x128 .f32) (idx : IVec S32x128 32) (r : Fin 32) (l : Fin 128) :
    perm y idx (at32 r l) = y (at32 r (md (idx (at32 r l)).toNat)) := by
  unfold perm
  rw [shapeCast_shapeCast, gather_at]

theorem lane_at (r : Fin 32) (l : Fin 128) : lane (at32 r l) = BitVec.ofNat 32 l.val := by
  show BitVec.ofNat 32 (([1] : List (Fin 2)).foldl (fun n a => n * S32x128.size a + ((at32 r l) a).val) 0) = _
  simp [List.foldl]

theorem pick_at (k : BitVec 32) (r : Fin 32) (l : Fin 128) : pick k (at32 r l) = (BitVec.ofNat 32 l.val &&& 112#32) ||| k := by
  show (lane (at32 r l) &&& 112#32) ||| k = _
  rw [lane_at]

/-- The lane that holds what belongs to the block of lane `l` of tile `t`. -/
def src (t : Fin 8) (l : Fin 128) : Fin 128 := ⟨16 * (l.val / 16) + 2 * t.val, by omega⟩

theorem pick_src : ∀ (t : Fin 8) (l : Fin 128), md ((BitVec.ofNat 32 l.val &&& 112#32) ||| two t).toNat = src t l := by
  decide +kernel

theorem perm_pick (y : FVec Ideal S32x128 .f32) (t : Fin 8) (r : Fin 32) (l : Fin 128) :
    perm y (pick (two t)) (at32 r l) = y (at32 r (src t l)) := by
  rw [perm_at, pick_at, pick_src]

theorem absT_at (x : FVec Ideal S32x128 .bf16) (r : Fin 32) (l : Fin 128) : absT x (at32 r l) = mag (x (at32 r l)) := rfl

/-! ## The block maxima -/

theorem xor_at (k : BitVec 32) (r : Fin 32) (l : Fin 128) :
    xori lane (broadcast S32x128 k) (at32 r l) = BitVec.ofNat 32 l.val ^^^ k := by
  show lane (at32 r l) ^^^ k = _
  rw [lane_at]

theorem clear_at (k : BitVec 32) (r : Fin 32) (l : Fin 128) :
    bitClear k (at32 r l) = IntOp.cmpi .eq (BitVec.ofNat 32 l.val &&& k) 0#32 := by
  show IntOp.cmpi .eq (lane (at32 r l) &&& k) 0#32 = _
  rw [lane_at]

/-- `merge` along one row, lanes by number. -/
def mg (k : BitVec 32) (a b : Fin 128 → EReal) (l : Fin 128) : EReal :=
  max (Scalar.select (IntOp.cmpi .eq (BitVec.ofNat 32 l.val &&& k) 0#32) (a l) (b l))
    (Scalar.select (IntOp.cmpi .eq (BitVec.ofNat 32 (md (BitVec.ofNat 32 l.val ^^^ k).toNat).val &&& k) 0#32)
      (b (md (BitVec.ofNat 32 l.val ^^^ k).toNat)) (a (md (BitVec.ofNat 32 l.val ^^^ k).toNat)))

theorem merge_at (k : BitVec 32) (a b : FVec Ideal S32x128 .f32) (r : Fin 32) (l : Fin 128) :
    merge k a b (at32 r l) = mg k (fun l => a (at32 r l)) (fun l => b (at32 r l)) l := by
  show max (Scalar.select (bitClear k (at32 r l)) (a (at32 r l)) (b (at32 r l)))
    (perm (select (bitClear k) b a) (xori lane (broadcast S32x128 k)) (at32 r l)) = _
  rw [perm_at, xor_at, clear_at]
  show max _ (Scalar.select (bitClear k (at32 r _)) (b (at32 r _)) (a (at32 r _))) = _
  rw [clear_at]
  rfl

/-- The block maxima along one row. -/
def mxRow (c : Fin 8 → Fin 128 → EReal) (l : Fin 128) : EReal :=
  let m := mg 2#32 (mg 4#32 (mg 8#32 (c 0) (c 4)) (mg 8#32 (c 2) (c 6))) (mg 4#32 (mg 8#32 (c 1) (c 5)) (mg 8#32 (c 3) (c 7)))
  max (m l) (m (md (BitVec.ofNat 32 l.val ^^^ 1#32).toNat))

theorem maxT_at (x : Fin 8 → FVec Ideal S32x128 .bf16) (r : Fin 32) (l : Fin 128) :
    maxT x (at32 r l) = mxRow (fun t l => mag (x t (at32 r l))) l := by
  unfold maxT
  show max _ (perm _ _ (at32 r l)) = _
  rw [perm_at, xor_at]
  simp only [merge_at]
  rfl

/-- Lane `j` of block `b`. -/
def bl (b : Fin 8) (j : Fin 16) : Fin 128 := ⟨16 * b.val + j.val, by omega⟩

theorem bl_xor1 : ∀ b j, md (BitVec.ofNat 32 (bl b j).val ^^^ 1#32).toNat = bl b (j ^^^ 1) := by decide +kernel
theorem bl_xor2 : ∀ b j, md (BitVec.ofNat 32 (bl b j).val ^^^ 2#32).toNat = bl b (j ^^^ 2) := by decide +kernel
theorem bl_xor4 : ∀ b j, md (BitVec.ofNat 32 (bl b j).val ^^^ 4#32).toNat = bl b (j ^^^ 4) := by decide +kernel
theorem bl_xor8 : ∀ b j, md (BitVec.ofNat 32 (bl b j).val ^^^ 8#32).toNat = bl b (j ^^^ 8) := by decide +kernel
theorem bl_bit2 : ∀ b j, IntOp.cmpi .eq (BitVec.ofNat 32 (bl b j).val &&& 2#32) 0#32 = BitVec.ofBool (!j.val.testBit 1) := by decide +kernel
theorem bl_bit4 : ∀ b j, IntOp.cmpi .eq (BitVec.ofNat 32 (bl b j).val &&& 4#32) 0#32 = BitVec.ofBool (!j.val.testBit 2) := by decide +kernel
theorem bl_bit8 : ∀ b j, IntOp.cmpi .eq (BitVec.ofNat 32 (bl b j).val &&& 8#32) 0#32 = BitVec.ofBool (!j.val.testBit 3) := by decide +kernel
theorem flip1 : ∀ j : Fin 16, (j ^^^ 2).val.testBit 1 = !j.val.testBit 1 := by decide
theorem flip2 : ∀ j : Fin 16, (j ^^^ 4).val.testBit 2 = !j.val.testBit 2 := by decide
theorem flip3 : ∀ j : Fin 16, (j ^^^ 8).val.testBit 3 = !j.val.testBit 3 := by decide

theorem mg2 (a b : Fin 128 → EReal) (n : Fin 8) (j : Fin 16) : mg 2#32 a b (bl n j)
    = if j.val.testBit 1 then max (b (bl n j)) (b (bl n (j ^^^ 2))) else max (a (bl n j)) (a (bl n (j ^^^ 2))) := by
  unfold mg; rw [bl_xor2, bl_bit2, bl_bit2, flip1]; cases j.val.testBit 1 <;> rfl
theorem mg4 (a b : Fin 128 → EReal) (n : Fin 8) (j : Fin 16) : mg 4#32 a b (bl n j)
    = if j.val.testBit 2 then max (b (bl n j)) (b (bl n (j ^^^ 4))) else max (a (bl n j)) (a (bl n (j ^^^ 4))) := by
  unfold mg; rw [bl_xor4, bl_bit4, bl_bit4, flip2]; cases j.val.testBit 2 <;> rfl
theorem mg8 (a b : Fin 128 → EReal) (n : Fin 8) (j : Fin 16) : mg 8#32 a b (bl n j)
    = if j.val.testBit 3 then max (b (bl n j)) (b (bl n (j ^^^ 8))) else max (a (bl n j)) (a (bl n (j ^^^ 8))) := by
  unfold mg; rw [bl_xor8, bl_bit8, bl_bit8, flip3]; cases j.val.testBit 3 <;> rfl

/-- The maximum of sixteen, halving by halving from `i`. -/
def tree (f : Fin 16 → EReal) (i : Fin 16) : EReal :=
  let a := fun i => max (f i) (f (i ^^^ 8))
  let b := fun i => max (a i) (a (i ^^^ 4))
  let c := fun i => max (b i) (b (i ^^^ 2))
  max (c i) (c (i ^^^ 1))

theorem xor0 : ∀ i : Fin 16, i ^^^ 0 = i := by decide +kernel

theorem tree_eq (f : Fin 16 → EReal) (i : Fin 16) : tree f i = Finset.univ.sup f := by
  apply le_antisymm
  · unfold tree
    repeat' apply max_le
    all_goals exact Finset.le_sup (f := f) (Finset.mem_univ _)
  · refine Finset.sup_le fun j _ => ?_
    have hj : j = i ^^^ (i ^^^ j) := by revert i j; decide +kernel
    have h : ∀ i : Fin 16, i ^^^ 1 ^^^ 2 = i ^^^ 3 ∧ i ^^^ 1 ^^^ 4 = i ^^^ 5 ∧ i ^^^ 1 ^^^ 8 = i ^^^ 9 ∧ i ^^^ 2 ^^^ 4 = i ^^^ 6 ∧ i ^^^ 2 ^^^ 8 = i ^^^ 10
        ∧ i ^^^ 4 ^^^ 8 = i ^^^ 12 ∧ i ^^^ 3 ^^^ 4 = i ^^^ 7 ∧ i ^^^ 3 ^^^ 8 = i ^^^ 11 ∧ i ^^^ 5 ^^^ 8 = i ^^^ 13 ∧ i ^^^ 6 ^^^ 8 = i ^^^ 14
        ∧ i ^^^ 7 ^^^ 8 = i ^^^ 15 := by decide +kernel
    obtain ⟨h3, h5, h9, h6, h10, h12, h7, h11, h13, h14, h15⟩ := h i
    rw [hj]
    generalize i ^^^ j = d
    unfold tree
    simp only [h3, h5, h9, h6, h10, h12, h7, h11, h13, h14, h15, le_max_iff]
    fin_cases d
    · left; left; left; left; exact le_of_eq (congrArg f (xor0 i))
    all_goals simp only [Fin.mk_one, Fin.reduceFinMk, le_refl, true_or, or_true]

/-- Twice `t`. -/
def dbl (t : Fin 8) : Fin 16 := ⟨2 * t.val, by omega⟩

/-- Block `n` of tile `t`: sixteen lanes' maximum. -/
theorem mxRow_eq (c : Fin 8 → Fin 128 → EReal) (t : Fin 8) (n : Fin 8) :
    mxRow c (bl n (dbl t)) = Finset.univ.sup fun j => c t (bl n j) := by
  rw [← tree_eq _ (dbl t)]
  unfold mxRow tree
  simp only [bl_xor1, mg2, mg4, mg8]
  fin_cases t <;> rfl

end Cert.KernelIdeal.Unit

end
-- ==== Proof.Val.ElemEq.lean ====
/-
  The kernel's quantised element and the reference's are the same number, and its byte carries the reference's four bits.
-/
module

public import proofs.«01_k».proof.Proof.Val.Elem

@[expose] public section

noncomputable section

namespace Cert.Quant

open Idealize.ShloMosaic

/-! ## Constants -/

theorem k_0 : c32 0x00000000#32 = ((0 : ℝ) : EReal) := by simp [c32, Ideal.ofBits, Ideal.ieee]
theorem k_448 : c32 0x43E00000#32 = ((448 : ℝ) : EReal) := by simp [c32, Ideal.ofBits, Ideal.ieee]; rw [← EReal.coe_mul]; norm_num
theorem k_6 : c32 0x40C00000#32 = ((6 : ℝ) : EReal) := by simp [c32, Ideal.ofBits, Ideal.ieee]; rw [← EReal.coe_mul]; norm_num
theorem k_f : c32 0x3C800000#32 = ((1 / 64 : ℝ) : EReal) := by simp [c32, Ideal.ofBits, Ideal.ieee]; rw [← EReal.coe_mul]; norm_num
theorem k_1 : c32 0x3F800000#32 = ((1 : ℝ) : EReal) := by simp [c32, Ideal.ofBits, Ideal.ieee]; rw [← EReal.coe_mul]; norm_num
theorem k_6f : c32 0x3DC00000#32 = ((6 / 64 : ℝ) : EReal) := by simp [c32, Ideal.ofBits, Ideal.ieee]; rw [← EReal.coe_mul]; norm_num
theorem k_2f : c32 0x3D000000#32 = ((2 / 64 : ℝ) : EReal) := by simp [c32, Ideal.ofBits, Ideal.ieee]; rw [← EReal.coe_mul]; norm_num
theorem k_hf : c32 0x3C000000#32 = ((1 / 128 : ℝ) : EReal) := by simp [c32, Ideal.ofBits, Ideal.ieee]; rw [← EReal.coe_mul]; norm_num
theorem k_4f : c32 0x3D800000#32 = ((4 / 64 : ℝ) : EReal) := by simp [c32, Ideal.ofBits, Ideal.ieee]; rw [← EReal.coe_mul]; norm_num
theorem k_8f : c32 0x3E000000#32 = ((8 / 64 : ℝ) : EReal) := by simp [c32, Ideal.ofBits, Ideal.ieee]; rw [← EReal.coe_mul]; norm_num
theorem k_128 : c32 0x43000000#32 = ((128 : ℝ) : EReal) := by simp [c32, Ideal.ofBits, Ideal.ieee]; rw [← EReal.coe_mul]; norm_num
theorem k_64 : c32 0x42800000#32 = ((64 : ℝ) : EReal) := by simp [c32, Ideal.ofBits, Ideal.ieee]; rw [← EReal.coe_mul]; norm_num
theorem k_32 : c32 0x42000000#32 = ((32 : ℝ) : EReal) := by simp [c32, Ideal.ofBits, Ideal.ieee]; rw [← EReal.coe_mul]; norm_num
theorem k_16 : c32 0x41800000#32 = ((16 : ℝ) : EReal) := by simp [c32, Ideal.ofBits, Ideal.ieee]; rw [← EReal.coe_mul]; norm_num
theorem k_2p24 : c32 0x4B800000#32 = ((2 ^ 24 : ℝ) : EReal) := by rw [show (2 ^ 24 : ℝ) = 16777216 by norm_num]; simp [c32, Ideal.ofBits, Ideal.ieee]; rw [← EReal.coe_mul]; norm_num
theorem k_m24 : c32 0x33800000#32 = ((1 / 2 ^ 24 : ℝ) : EReal) := by simp [c32, Ideal.ofBits, Ideal.ieee]; rw [← EReal.coe_mul]; norm_num
theorem k_2 : c32 0x40000000#32 = ((2 : ℝ) : EReal) := by simp [c32, Ideal.ofBits, Ideal.ieee]; rw [← EReal.coe_mul]; norm_num
theorem k_4 : c32 0x40800000#32 = ((4 : ℝ) : EReal) := by simp [c32, Ideal.ofBits, Ideal.ieee]; rw [← EReal.coe_mul]; norm_num
theorem k_8 : c32 0x41000000#32 = ((8 : ℝ) : EReal) := by simp [c32, Ideal.ofBits, Ideal.ieee]; rw [← EReal.coe_mul]; norm_num
theorem k_7 : c32 0x40E00000#32 = ((7 : ℝ) : EReal) := by simp [c32, Ideal.ofBits, Ideal.ieee]; rw [← EReal.coe_mul]; norm_num
theorem k_h : c32 0x3F000000#32 = ((1 / 2 : ℝ) : EReal) := by simp [c32, Ideal.ofBits, Ideal.ieee]; rw [← EReal.coe_mul]; norm_num
theorem k_q : c32 0x3E800000#32 = ((1 / 4 : ℝ) : EReal) := by simp [c32, Ideal.ofBits, Ideal.ieee]; rw [← EReal.coe_mul]; norm_num
theorem b_0 : c16 0x0000#16 = ((0 : ℝ) : EReal) := by simp [c16, Ideal.ofBits, Ideal.ieee]
theorem b_h : c16 0x3F00#16 = ((1 / 2 : ℝ) : EReal) := by simp [c16, Ideal.ofBits, Ideal.ieee]; rw [← EReal.coe_mul]; norm_num
theorem b_f : c16 0x3C80#16 = ((1 / 64 : ℝ) : EReal) := by simp [c16, Ideal.ofBits, Ideal.ieee]; rw [← EReal.coe_mul]; norm_num
theorem b_1 : c16 0x3F80#16 = ((1 : ℝ) : EReal) := by simp [c16, Ideal.ofBits, Ideal.ieee]; rw [← EReal.coe_mul]; norm_num
theorem b_2 : c16 0x4000#16 = ((2 : ℝ) : EReal) := by simp [c16, Ideal.ofBits, Ideal.ieee]; rw [← EReal.coe_mul]; norm_num
theorem b_4 : c16 0x4080#16 = ((4 : ℝ) : EReal) := by simp [c16, Ideal.ofBits, Ideal.ieee]; rw [← EReal.coe_mul]; norm_num

/-- A select on a comparison is an `if`. -/
theorem sel_ofBool {α : Type} (p : Prop) [Decidable p] (x y : α) :
    Scalar.select (BitVec.ofBool (decide p)) x y = if p then x else y := by
  by_cases h : p <;> simp [h, Scalar.select]

theorem sel_olt {α : Type} (a b : EReal) (x y : α) : Scalar.select (Ideal.cmp .olt a b) x y = if a < b then x else y :=
  sel_ofBool _ x y
theorem sel_ogt {α : Type} (a b : EReal) (x y : α) : Scalar.select (Ideal.cmp .ogt a b) x y = if b < a then x else y :=
  sel_ofBool _ x y
theorem sel_oeq {α : Type} (a b : EReal) (x y : α) : Scalar.select (Ideal.cmp .oeq a b) x y = if a = b then x else y :=
  sel_ofBool _ x y

/-- The eight magnitudes. -/
def val : Fin 8 → ℝ := ![0, 1 / 2, 1, 3 / 2, 2, 3, 4, 6]

@[simp] theorem val_0 : val 0 = 0 := rfl
@[simp] theorem val_1 : val 1 = 1 / 2 := rfl
@[simp] theorem val_2 : val 2 = 1 := rfl
@[simp] theorem val_3 : val 3 = 3 / 2 := rfl
@[simp] theorem val_4 : val 4 = 2 := rfl
@[simp] theorem val_5 : val 5 = 3 := rfl
@[simp] theorem val_6 : val 6 = 4 := rfl
@[simp] theorem val_7 : val 7 = 6 := rfl

theorem floor_coe (r : ℝ) : Ideal.liftRound Int.floor (r : EReal) = ((⌊r⌋ : ℝ) : EReal) := rfl

theorem ite_coe (p : Prop) [Decidable p] (a b : ℝ) : (if p then (a : EReal) else (b : EReal)) = ((if p then a else b : ℝ) : EReal) := by
  split_ifs <;> rfl

theorem max_coe (a b : ℝ) : max (a : EReal) (b : EReal) = ((max a b : ℝ) : EReal) :=
  (EReal.coe_strictMono.monotone.map_max).symm
theorem min_coe (a b : ℝ) : min (a : EReal) (b : EReal) = ((min a b : ℝ) : EReal) :=
  (EReal.coe_strictMono.monotone.map_min).symm

/-- The reference's rounded magnitude of a real. -/
theorem rMag_coe (z : ℝ) (r : ℕ) :
    rMag (z : EReal) r =
      ((if z < 2 then (if (r : ℝ) * (1 / 2 ^ 24) < (z - ⌊z * 2⌋ * (1 / 2)) * 2 then (⌊z * 2⌋ : ℝ) * (1 / 2) + 1 / 2 else (⌊z * 2⌋ : ℝ) * (1 / 2))
        else if z < 4 then (if (r : ℝ) * (1 / 2 ^ 24) < (z - ⌊z⌋) * 1 then (⌊z⌋ : ℝ) + 1 else (⌊z⌋ : ℝ))
        else (if (r : ℝ) * (1 / 2 ^ 24) < (z - (4 + 2 * ⌊(z - 4) * (1 / 2)⌋)) * (1 / 2) then
          4 + 2 * (⌊(z - 4) * (1 / 2)⌋ : ℝ) + 2 else 4 + 2 * (⌊(z - 4) * (1 / 2)⌋ : ℝ)) : ℝ) : EReal) := by
  simp only [rMag, rLo, rStep, rInvStep, sel_olt, k_0, k_1, k_2, k_4, k_h, k_m24, ← EReal.coe_mul, ← EReal.coe_sub,
    ← EReal.coe_add, floor_coe, EReal.coe_lt_coe_iff, ite_coe]
  congr 1
  split_ifs <;> first | rfl | (exfalso; linarith)

/-- The kernel's rounded magnitude of a real. -/
theorem kRound_coe (h : ℝ) (r : ℕ) :
    kRound (h : EReal) r =
      ((if h < 2 / 64 then (if (r : ℝ) < (h * 128 - ⌊h * 128⌋) * 2 ^ 24 then (⌊h * 128⌋ : ℝ) + 1 else (⌊h * 128⌋ : ℝ)) * (1 / 128)
        else if h < 4 / 64 then (if (r : ℝ) < (h * 64 - ⌊h * 64⌋) * 2 ^ 24 then (⌊h * 64⌋ : ℝ) + 1 else (⌊h * 64⌋ : ℝ)) * (1 / 64)
        else if h < 8 / 64 then (if (r : ℝ) < (h * 32 - ⌊h * 32⌋) * 2 ^ 24 then (⌊h * 32⌋ : ℝ) + 1 else (⌊h * 32⌋ : ℝ)) * (2 / 64)
        else (if (r : ℝ) < (h * 16 - ⌊h * 16⌋) * 2 ^ 24 then (⌊h * 16⌋ : ℝ) + 1 else (⌊h * 16⌋ : ℝ)) * (4 / 64) : ℝ) : EReal) := by
  simp only [kRound, kStep, kInvStep, sel_olt, k_0, k_1, k_2f, k_4f, k_8f, k_hf, k_f, k_128, k_64, k_32, k_16, k_2p24, ← EReal.coe_mul, ← EReal.coe_sub,
    ← EReal.coe_add, floor_coe, EReal.coe_lt_coe_iff, ite_coe]
  congr 1
  by_cases h1 : h < 2 / 64
  · simp only [if_pos h1]
  · by_cases h2 : h < 4 / 64
    · simp only [if_neg h1, if_pos h2]
    · by_cases h3 : h < 8 / 64
      · simp only [if_neg h1, if_neg h2, if_pos h3]
      · simp only [if_neg h1, if_neg h2, if_neg h3]

/-- Both round to the same one of the eight magnitudes. -/
theorem mag_eq (z : ℝ) (h0 : 0 ≤ z) (h6 : z ≤ 6) (r : ℕ) :
    ∃ k : Fin 8, rMag (z : EReal) r = ((val k : ℝ) : EReal) ∧ kMag ((z / 64 : ℝ) : EReal) r = ((val k / 64 : ℝ) : EReal) := by
  have hr : (0 : ℝ) ≤ r := Nat.cast_nonneg r
  have key : ∀ (k : Fin 8) (x y : ℝ), x = val k → min (y * (1 / 2)) (y - 1 / 64) = val k / 64 →
      ∃ k : Fin 8, ((x : ℝ) : EReal) = ((val k : ℝ) : EReal) ∧ ((min (y * (1 / 2)) (y - 1 / 64) : ℝ) : EReal) = ((val k / 64 : ℝ) : EReal) :=
    fun k x y hx hy => ⟨k, by rw [hx], by rw [hy]⟩
  rw [rMag_coe]
  simp only [kMag, kH0, k_f, max_coe, ← EReal.coe_add, kRound_coe, b_h, b_f, ← EReal.coe_mul, ← EReal.coe_sub, min_coe]
  by_cases z1 : z < 1
  · have e : z / 64 + max (z / 64) (1 / 64) = (z + 1) / 64 := by rw [max_eq_right (by linarith)]; ring
    have hlt : (z + 1) / 64 < 2 / 64 := by linarith
    have e2 : (z + 1) / 64 * 128 = z * 2 + 2 := by ring
    have fl : ⌊z * 2 + 2⌋ = ⌊z * 2⌋ + 2 := by exact_mod_cast Int.floor_add_ofNat (z * 2) 2
    rw [e, if_pos hlt, if_pos (by linarith : z < 2), e2, fl]
    by_cases z2 : z < 1 / 2
    · have f0 : ⌊z * 2⌋ = 0 := Int.floor_eq_iff.2 ⟨by push_cast; linarith, by push_cast; linarith⟩
      rw [f0]
      by_cases u : (r : ℝ) < (z * 2) * 2 ^ 24
      · rw [if_pos (by push_cast; linarith), if_pos (by push_cast; linarith)]
        exact key 1 _ _ (by norm_num) (by norm_num)
      · rw [if_neg (by push_cast; linarith), if_neg (by push_cast; linarith)]
        exact key 0 _ _ (by norm_num) (by norm_num)
    · have f0 : ⌊z * 2⌋ = 1 := Int.floor_eq_iff.2 ⟨by push_cast; linarith, by push_cast; linarith⟩
      rw [f0]
      by_cases u : (r : ℝ) < (z * 2 - 1) * 2 ^ 24
      · rw [if_pos (by push_cast; linarith), if_pos (by push_cast; linarith)]
        exact key 2 _ _ (by norm_num) (by norm_num)
      · rw [if_neg (by push_cast; linarith), if_neg (by push_cast; linarith)]
        exact key 1 _ _ (by norm_num) (by norm_num)
  · have e : z / 64 + max (z / 64) (1 / 64) = z / 32 := by rw [max_eq_left (by linarith)]; ring
    rw [e, if_neg (by linarith : ¬ z / 32 < 2 / 64)]
    by_cases z2 : z < 2
    · have e2 : z / 32 * 64 = z * 2 := by ring
      rw [if_pos (by linarith : z / 32 < 4 / 64), if_pos z2, e2]
      by_cases z3 : z < 3 / 2
      · have f0 : ⌊z * 2⌋ = 2 := Int.floor_eq_iff.2 ⟨by push_cast; linarith, by push_cast; linarith⟩
        rw [f0]
        by_cases u : (r : ℝ) < (z * 2 - 2) * 2 ^ 24
        · rw [if_pos (by push_cast; linarith), if_pos (by push_cast; linarith)]
          exact key 3 _ _ (by norm_num) (by norm_num)
        · rw [if_neg (by push_cast; linarith), if_neg (by push_cast; linarith)]
          exact key 2 _ _ (by norm_num) (by norm_num)
      · have f0 : ⌊z * 2⌋ = 3 := Int.floor_eq_iff.2 ⟨by push_cast; linarith, by push_cast; linarith⟩
        rw [f0]
        by_cases u : (r : ℝ) < (z * 2 - 3) * 2 ^ 24
        · rw [if_pos (by push_cast; linarith), if_pos (by push_cast; linarith)]
          exact key 4 _ _ (by norm_num) (by norm_num)
        · rw [if_neg (by push_cast; linarith), if_neg (by push_cast; linarith)]
          exact key 3 _ _ (by norm_num) (by norm_num)
    · rw [if_neg (by linarith : ¬ z / 32 < 4 / 64), if_neg z2]
      by_cases z4 : z < 4
      · have e2 : z / 32 * 32 = z := by ring
        rw [if_pos (by linarith : z / 32 < 8 / 64), if_pos z4, e2]
        by_cases z3 : z < 3
        · have f0 : ⌊z⌋ = 2 := Int.floor_eq_iff.2 ⟨by push_cast; linarith, by push_cast; linarith⟩
          rw [f0]
          by_cases u : (r : ℝ) < (z - 2) * 2 ^ 24
          · rw [if_pos (by push_cast; linarith), if_pos (by push_cast; linarith)]
            exact key 5 _ _ (by norm_num) (by norm_num)
          · rw [if_neg (by push_cast; linarith), if_neg (by push_cast; linarith)]
            exact key 4 _ _ (by norm_num) (by norm_num)
        · have f0 : ⌊z⌋ = 3 := Int.floor_eq_iff.2 ⟨by push_cast; linarith, by push_cast; linarith⟩
          rw [f0]
          by_cases u : (r : ℝ) < (z - 3) * 2 ^ 24
          · rw [if_pos (by push_cast; linarith), if_pos (by push_cast; linarith)]
            exact key 6 _ _ (by norm_num) (by norm_num)
          · rw [if_neg (by push_cast; linarith), if_neg (by push_cast; linarith)]
            exact key 5 _ _ (by norm_num) (by norm_num)
      · have e2 : z / 32 * 16 = (z - 4) * (1 / 2) + 2 := by ring
        have fl : ⌊(z - 4) * (1 / 2) + 2⌋ = ⌊(z - 4) * (1 / 2)⌋ + 2 := by exact_mod_cast Int.floor_add_ofNat ((z - 4) * (1 / 2)) 2
        rw [if_neg (by linarith : ¬ z / 32 < 8 / 64), if_neg z4, e2, fl]
        by_cases z5 : z < 6
        · have f0 : ⌊(z - 4) * (1 / 2)⌋ = 0 := Int.floor_eq_iff.2 ⟨by push_cast; linarith, by push_cast; linarith⟩
          rw [f0]
          by_cases u : (r : ℝ) < ((z - 4) * (1 / 2)) * 2 ^ 24
          · rw [if_pos (by push_cast; linarith), if_pos (by push_cast; linarith)]
            exact key 7 _ _ (by norm_num) (by norm_num)
          · rw [if_neg (by push_cast; linarith), if_neg (by push_cast; linarith)]
            exact key 6 _ _ (by norm_num) (by norm_num)
        · have z6 : z = 6 := by linarith
          have f0 : ⌊(z - 4) * (1 / 2)⌋ = 1 := by rw [z6]; norm_num
          rw [f0, z6]
          rw [if_neg (by push_cast; linarith), if_neg (by push_cast; linarith)]
          exact key 7 _ _ (by norm_num) (by norm_num)

theorem fin8 : ∀ k : Fin 8, k = 0 ∨ k = 1 ∨ k = 2 ∨ k = 3 ∨ k = 4 ∨ k = 5 ∨ k = 6 ∨ k = 7 := by decide

/-- A scale is a real that is not negative. -/
theorem scale_real (g A : EReal) : ∃ s : ℝ, scale g A = (s : EReal) := by
  have h0 : ((0 : ℝ) : EReal) ≤ scale g A := by
    rw [scale, k_0, k_448]
    exact le_min (by exact_mod_cast (by norm_num : (0 : ℝ) ≤ 448)) (le_max_left _ _)
  have h1 : scale g A ≤ ((448 : ℝ) : EReal) := by rw [scale, k_448]; exact min_le_left _ _
  refine ⟨(scale g A).toReal, (EReal.coe_toReal ?_ ?_).symm⟩
  · intro h; rw [h] at h1; exact absurd h1 (by simp)
  · intro h; rw [h] at h0; exact absurd h0 (by simp)

theorem mag_coe (r : ℝ) : mag (r : EReal) = ((|r| : ℝ) : EReal) := by
  rw [mag, ← EReal.coe_neg, max_coe, abs_eq_max_neg]

theorem rMag_zero (r : ℕ) : rMag ((0 : ℝ) : EReal) r = ((0 : ℝ) : EReal) := by
  have hr : (0 : ℝ) ≤ r := Nat.cast_nonneg r
  rw [rMag_coe]
  norm_num

/-- Both clipped magnitudes are the same real up to the factor 2⁻⁶, and off zero the quotient's sign is the element's. -/
theorem clip_eq (x e : EReal) : ∃ z : ℝ, 0 ≤ z ∧ z ≤ 6 ∧ rA (rV x e) = (z : EReal) ∧ kA x (kInv e) = ((z / 64 : ℝ) : EReal)
    ∧ (z ≠ 0 → (rV x e < ((0 : ℝ) : EReal) ↔ x < ((0 : ℝ) : EReal))) := by
  have hmin : ∀ m : EReal, 0 ≤ m → min m ((6 : ℝ) : EReal) = min m 6 := fun m _ => rfl
  simp only [rA, kA, rV, kInv, sel_ogt, k_0, k_1, k_f, k_6, k_6f]
  by_cases he : ((0 : ℝ) : EReal) < e
  · simp only [if_pos he]
    have hne : e ≠ 0 := fun h => by rw [h] at he; exact lt_irrefl _ he
    simp only [Ideal.div, if_neg hne]
    obtain ⟨i, hi, hie⟩ : ∃ i : ℝ, 0 ≤ i ∧ e⁻¹ = (i : EReal) := by
      induction e using EReal.rec with
      | bot => exact absurd he (by simp)
      | top => exact ⟨0, le_refl _, by simp⟩
      | coe r =>
        have hr : 0 < r := EReal.coe_lt_coe_iff.1 he
        exact ⟨r⁻¹, (inv_pos.2 hr).le, (EReal.coe_inv r).symm⟩
    rw [hie]
    have hm6 : min (⊤ : EReal) ((6 : ℝ) : EReal) = ((6 : ℝ) : EReal) := min_eq_right le_top
    have hm6f : min (⊤ : EReal) ((6 / 64 : ℝ) : EReal) = ((6 / 64 : ℝ) : EReal) := min_eq_right le_top
    rcases hi.eq_or_lt with h0 | h0
    · subst h0
      refine ⟨0, le_refl _, by norm_num, ?_, ?_, fun h => absurd rfl h⟩
      · rw [EReal.coe_zero, mul_zero, ← EReal.coe_zero, mag_coe, min_coe]; norm_num
      · rw [EReal.coe_zero, mul_zero, mul_zero, ← EReal.coe_zero, min_coe]; norm_num
    · have hpos : (0 : EReal) < (i : EReal) := EReal.coe_pos.2 h0
      have hfi : ((1 / 64 : ℝ) : EReal) * (i : EReal) = ((i / 64 : ℝ) : EReal) := by rw [← EReal.coe_mul]; congr 1; ring
      have hfpos : (0 : EReal) < ((i / 64 : ℝ) : EReal) := EReal.coe_pos.2 (by positivity)
      induction x using EReal.rec with
      | bot =>
        refine ⟨6, by norm_num, le_refl _, ?_, ?_, fun _ => ?_⟩
        · rw [EReal.bot_mul_of_pos hpos, mag]; simp
        · rw [hfi, mag, EReal.neg_bot, max_eq_right bot_le, EReal.top_mul_of_pos hfpos, hm6f]
        · rw [EReal.bot_mul_of_pos hpos]
      | top =>
        refine ⟨6, by norm_num, le_refl _, ?_, ?_, fun _ => ?_⟩
        · rw [EReal.top_mul_of_pos hpos, mag]; simp
        · rw [hfi, mag, max_eq_left le_top, EReal.top_mul_of_pos hfpos, hm6f]
        · rw [EReal.top_mul_of_pos hpos]
      | coe x =>
        refine ⟨min |x * i| 6, le_min (abs_nonneg _) (by norm_num), min_le_right _ _, ?_, ?_, fun _ => ?_⟩
        · rw [← EReal.coe_mul, mag_coe, min_coe]
        · rw [hfi, mag_coe, ← EReal.coe_mul, min_coe]
          congr 1
          rw [abs_mul, abs_of_pos h0, show |x| * (i / 64) = |x| * i / 64 by ring, min_div_div_right (by norm_num)]
        · rw [← EReal.coe_mul, EReal.coe_lt_coe_iff, EReal.coe_lt_coe_iff]
          exact ⟨fun h => by by_contra hx; exact absurd h (not_lt.2 (mul_nonneg (not_lt.1 hx) hi)), fun h => mul_neg_of_neg_of_pos h h0⟩
  · simp only [if_neg he]
    refine ⟨0, le_refl _, by norm_num, ?_, ?_, fun h => absurd rfl h⟩
    · rw [mag_coe, min_coe]; norm_num
    · rw [EReal.coe_zero, mul_zero, ← EReal.coe_zero, min_coe]; norm_num

/-- The signed magnitude with index `k`. -/
def sval (n : Bool) (k : Fin 8) : ℝ := if n then -val k else val k

theorem val_pos (k : Fin 8) (h : k ≠ 0) : 0 < val k := by
  rcases fin8 k with rfl | rfl | rfl | rfl | rfl | rfl | rfl | rfl <;> first | exact absurd rfl h | norm_num

theorem val_nonneg (k : Fin 8) : 0 ≤ val k := by
  rcases fin8 k with rfl | rfl | rfl | rfl | rfl | rfl | rfl | rfl <;> norm_num

theorem toInt_coe (lo hi : ℤ) (r : ℝ) : Ideal.toIntClamped lo hi (r : EReal) = max lo (min hi (if 0 ≤ r then ⌊r⌋ else ⌈r⌉)) := rfl

theorem rIdx_val (k : Fin 8) : rIdx ((val k : ℝ) : EReal) = BitVec.ofNat 8 k.val := by
  simp only [rIdx, sel_olt, sel_oeq, k_2, k_4, k_6, k_7, EReal.coe_lt_coe_iff, EReal.coe_eq_coe_iff, ← EReal.coe_mul, ← EReal.coe_add, ite_coe,
    Ideal.fptoui, toInt_coe]
  rcases fin8 k with rfl | rfl | rfl | rfl | rfl | rfl | rfl | rfl <;> norm_num <;> rfl

theorem kIdx_val (n : Bool) (k : Fin 8) : kIdx ((sval n k / 64 : ℝ) : EReal) = BitVec.ofNat 32 (4 * k.val) := by
  have ha : |sval n k / 64| = val k / 64 := by
    rw [abs_div, abs_of_pos (by norm_num : (0 : ℝ) < 64)]
    congr 1
    cases n
    · exact abs_of_nonneg (val_nonneg k)
    · show |-val k| = _
      rw [abs_neg]; exact abs_of_nonneg (val_nonneg k)
  simp only [kIdx, mag_coe, ha, sel_olt, k_128, k_4, k_8, k_h, k_2, k_q, EReal.coe_lt_coe_iff, ← EReal.coe_mul, ← EReal.coe_add, ite_coe,
    Ideal.fptosi, toInt_coe]
  rcases fin8 k with rfl | rfl | rfl | rfl | rfl | rfl | rfl | rfl <;> norm_num <;> rfl

theorem kByte_val (n : Bool) (k : Fin 8) (h : n = true → k ≠ 0) :
    kByte ((sval n k / 64 : ℝ) : EReal) = BitVec.ofNat 8 (4 * k.val + if n then 128 else 0) := by
  rw [kByte, kIdx_val, sel_olt, b_0]
  simp only [EReal.coe_lt_coe_iff]
  cases n
  · rw [if_neg (by have := val_nonneg k; show ¬ val k / 64 < 0; linarith [div_nonneg this (by norm_num : (0 : ℝ) ≤ 64)])]
    fin_cases k <;> rfl
  · rw [if_pos (by have := val_pos k (h rfl); show -val k / 64 < 0; linarith [div_pos this (by norm_num : (0 : ℝ) < 64)])]
    fin_cases k <;> rfl

theorem rDec_val (n : Bool) (k : Fin 8) :
    rDec (BitVec.ofNat 32 (k.val + if n then 8 else 0)) = ((sval n k : ℝ) : EReal) := by
  have e (b : BitVec 32) (hs : IntOp.cmpi .eq (IntOp.andi (IntOp.shrsi .vector b 3#32) 1#32) 1#32 = BitVec.ofBool n)
      (hm : rDecMag b = ((val k : ℝ) : EReal)) : rDec b = ((sval n k : ℝ) : EReal) := by
    rw [rDec, hs, hm, b_0, ← EReal.coe_sub]
    cases n
    · rfl
    · show ((0 - val k : ℝ) : EReal) = ((-val k : ℝ) : EReal)
      rw [zero_sub]
  apply e
  · cases n <;> fin_cases k <;> rfl
  · rw [rDecMag, b_h, b_1, b_2, b_4]
    simp only [← EReal.coe_mul, ← EReal.coe_add]
    cases n <;> rcases fin8 k with rfl | rfl | rfl | rfl | rfl | rfl | rfl | rfl <;>
      (simp [IntOp.cmpi, IntOp.andi, IntOp.shrsi, Scalar.select, -EReal.coe_one]; try (simp only [← EReal.coe_add, ← EReal.coe_mul]; norm_num))

/-- THE ELEMENT: one signed magnitude `sval n k` is the kernel's quantised element (in units of 2⁻⁶) and the reference's four bits. -/
theorem elem_eq (x e : EReal) (w : BitVec 32) : ∃ (n : Bool) (k : Fin 8), (n = true → k ≠ 0)
    ∧ kQ x (kInv e) w = ((sval n k / 64 : ℝ) : EReal) ∧ rCode x e w = BitVec.ofNat 8 (k.val + if n then 8 else 0) := by
  obtain ⟨z, h0, h6, hr, hk, hs⟩ := clip_eq x e
  obtain ⟨k, e1, e2⟩ := mag_eq z h0 h6 (IntOp.shrui .vector w 8#32).toNat
  have hz : k ≠ 0 → z ≠ 0 := fun hk0 hz => by
    rw [hz, rMag_zero, EReal.coe_eq_coe_iff] at e1
    exact absurd e1 (val_pos k hk0).ne
  rw [kQ, hk, e2, rCode, hr, e1, kSigned, sel_olt, b_0, rCodeOf, rIdx_val]
  by_cases hk0 : k = 0
  · subst hk0
    refine ⟨false, 0, (fun h => by cases h), ?_, ?_⟩
    · rw [← EReal.coe_sub]; split_ifs <;> norm_num [sval]
    · have : Ideal.cmp .ogt ((val 0 : ℝ) : EReal) (c32 0x00000000#32) = 0#1 := by
        rw [k_0]; simp [Ideal.cmp]
      rw [this, show ∀ b : BitVec 1, IntOp.andi b 0#1 = 0#1 from by decide]
      rfl
  · have hp := val_pos k hk0
    have h1 : Ideal.cmp .ogt ((val k : ℝ) : EReal) (c32 0x00000000#32) = 1#1 := by
      rw [k_0]; show BitVec.ofBool (decide (((0 : ℝ) : EReal) < ((val k : ℝ) : EReal))) = _
      rw [decide_eq_true (EReal.coe_lt_coe_iff.2 hp)]; rfl
    rw [h1, show ∀ b : BitVec 1, IntOp.andi b 1#1 = b from by decide, sel_olt, k_0]
    simp only [hs (hz hk0)]
    by_cases hx : x < ((0 : ℝ) : EReal)
    · refine ⟨true, k, fun _ => hk0, ?_, ?_⟩
      · rw [if_pos hx, ← EReal.coe_sub]; congr 1; show 0 - val k / 64 = -val k / 64; ring
      · rw [if_pos hx]; fin_cases k <;> rfl
    · refine ⟨false, k, (fun h => by cases h), ?_, ?_⟩
      · rw [if_neg hx]; rfl
      · rw [if_neg hx]; fin_cases k <;> rfl

/-- The kernel's product with the scale is the reference's. -/
theorem dyv_eq (x e s : EReal) (hs : ∃ r : ℝ, s = (r : EReal)) (w : BitVec 32) :
    kQ x (kInv e) w * (s * c32 0x42800000#32) = rDec ((rCode x e w).setWidth 32) * s := by
  obtain ⟨n, k, _, e1, e2⟩ := elem_eq x e w
  obtain ⟨r, rfl⟩ := hs
  have e3 : (BitVec.ofNat 8 (k.val + if n then 8 else 0)).setWidth 32 = BitVec.ofNat 32 (k.val + if n then 8 else 0) := by
    cases n <;> fin_cases k <;> rfl
  rw [e1, e2, e3, rDec_val, k_64, ← EReal.coe_mul, ← EReal.coe_mul, ← EReal.coe_mul]
  congr 1
  ring

end Cert.Quant

end
-- ==== Proof.Val.Word4.lean ====
/- A word of four codes out of a word of four bytes. -/
module

public import Idealize.ShloMosaic.PureOps

@[expose] public section

set_option maxRecDepth 16384

noncomputable section

namespace Cert.KernelIdeal.Unit

open Idealize.ShloMosaic

/-- A word of four bytes, the lowest first. -/
def cat4 (b0 b1 b2 b3 : BitVec 8) : BitVec 32 := b3 ++ (b2 ++ (b1 ++ b0))

/-- The byte of a code: its magnitude from bit 2 on, its sign in bit 7. -/
def enc (a : Fin 16) : BitVec 8 := BitVec.ofNat 8 (4 * (a.val % 8) + 128 * (a.val / 8))

/-- The code as a byte, minus zero as zero. -/
def nib (a : Fin 16) : BitVec 8 := BitVec.ofNat 8 (if a.val % 8 = 0 then 0 else a.val)

/-- `wordT` on one word. -/
def wordOf (w : BitVec 32) : BitVec 32 :=
  ((w >>> 2) &&& 117901063#32) ||| (((w >>> 4) &&& (((w >>> 2) &&& 117901063#32) + 117901063#32)) &&& 134744072#32)

theorem wordOf_cat4 : ∀ a b c d : Fin 16, wordOf (cat4 (enc a) (enc b) (enc c) (enc d)) = cat4 (nib a) (nib b) (nib c) (nib d) := by
  decide +kernel

end Cert.KernelIdeal.Unit

end
-- ==== Proof.Val.Words.lean ====
/- The bytes and the words of the codes. -/
module

public import proofs.«01_k».proof.Proof.Val.Lanes
public import proofs.«01_k».proof.Proof.Val.ElemEq
public import Idealize.ShloMosaic.Lib.BitcastFour
public import proofs.«01_k».proof.Proof.Val.Word4
public import Idealize.ShloMosaic.Lib.BitcastPair

@[expose] public section

set_option maxRecDepth 16384

noncomputable section

namespace Cert.KernelIdeal.Unit

open Cert.KernelIdeal Cert.KernelIdeal.Gen Idealize.ShloMosaic Idealize.ShloMosaic.ValueIdx Cert.Quant

theorem cat4_bit (b : Fin 4 → BitVec 8) (i : Fin 4) (q : Nat) (hq : q < 8) :
    (cat4 (b 0) (b 1) (b 2) (b 3)).getLsbD (8 * i.val + q) = (b i).getLsbD q := by
  unfold cat4
  simp only [BitVec.getLsbD_append]
  match i with
  | ⟨0, _⟩ => split_ifs <;> first | (exfalso; simp only [] at *; omega) | (congr 1; simp only []; omega)
  | ⟨1, _⟩ => split_ifs <;> first | (exfalso; simp only [] at *; omega) | (congr 1; simp only []; omega)
  | ⟨2, _⟩ => split_ifs <;> first | (exfalso; simp only [] at *; omega) | (congr 1; simp only []; omega)
  | ⟨3, _⟩ => split_ifs <;> first | (exfalso; simp only [] at *; omega) | (congr 1; simp only []; omega)

theorem ofBytes (v : BitVec 32) (b : Fin 4 → BitVec 8) (h : ∀ (i : Fin 4) q, q < 8 → v.getLsbD (8 * i.val + q) = (b i).getLsbD q) :
    v = cat4 (b 0) (b 1) (b 2) (b 3) := by
  apply BitVec.eq_of_getLsbD_eq
  intro q hq
  have e : q = 8 * (⟨q / 8, by omega⟩ : Fin 4).val + q % 8 := by simp only []; omega
  rw [e, h _ _ (by omega), cat4_bit b _ _ (by omega)]

/-- Row `4a + i`. -/
def row4 (a : Fin 8) (i : Fin 4) : Fin 32 := ⟨4 * a.val + i.val, by omega⟩

theorem word_at (b : IVec S32x128 8) (a : Fin 8) (l : Fin 128) :
    bitcast S8x128 32 b bitcasts_S32x128_w8_S8x128_w32 (ix2 a l)
      = cat4 (b (at32 (row4 a 0) l)) (b (at32 (row4 a 1) l)) (b (at32 (row4 a 2) l)) (b (at32 (row4 a 3) l)) := by
  refine ofBytes _ (fun i => b (at32 (row4 a i) l)) fun i q hq => ?_
  rw [bitcast_8_32_getLsbD_ix2 b _ a l (8 * i.val + q) (by omega) (row4 a i) (by simp only [row4]; omega)]
  congr 1; omega

theorem byte_at (w : IVec S8x128 32) (a : Fin 8) (i : Fin 4) (l : Fin 128) (q : Nat) (hq : q < 8) :
    (bitcast S32x128 8 w bitcasts_S8x128_w32_S32x128_w8 (at32 (row4 a i) l)).getLsbD q = (w (ix2 a l)).getLsbD (8 * i.val + q) := by
  rw [bitcast_getLsbD w _ _ q hq (by decide)]
  have hr : S32x128.row (at32 (row4 a i) l) = 4 * a.val + i.val := rfl
  have e1 : (S32x128.row (at32 (row4 a i) l) * 8 + q) / 32 = a.val := by rw [hr]; omega
  have e2 : (S32x128.row (at32 (row4 a i) l) * 8 + q) % 32 = 8 * i.val + q := by rw [hr]; omega
  rw [Shape.Bitcasts.srcIdx_congr _ _ e1 _ (fun c hc => by
    have : c = (0 : Fin 2) := Fin.ext (by have : c.val + 2 = 2 := hc; simpa using this)
    subst this; exact a.isLt), e2]
  congr 2
  funext c
  match c with
  | ⟨0, _⟩ => exact Fin.ext (Shape.Bitcasts.srcIdx_row _ _ _ _ _ rfl)
  | ⟨1, _⟩ => exact Fin.ext (Shape.Bitcasts.srcIdx_other _ _ _ _ _ (by simp))

end Cert.KernelIdeal.Unit

end
-- ==== Proof.Val.UnitEq.lean ====
/- What one unit computes, element by element. -/
module

public import proofs.«01_k».proof.Proof.Val.Words

@[expose] public section

set_option maxRecDepth 16384

noncomputable section

namespace Cert.KernelIdeal.Unit

open Cert.KernelIdeal Cert.KernelIdeal.Gen Idealize.ShloMosaic Idealize.ShloMosaic.ValueIdx Cert.Quant

/-! ## Packing -/

theorem gather8_at {α : Type} (y : S8x128.Idx → α) (idx : IVec S8x128 32) (a : Fin 8) (l : Fin 128) :
    dynamicGather 1 y idx (ix2 a l) = y (ix2 a (md (idx (ix2 a l)).toNat)) := by
  unfold dynamicGather
  congr 1
  funext b
  fin_cases b <;> rfl

theorem rotate_at {α : Type} (n : BitVec 32) (y : S8x128.Idx → α) (a : Fin 8) (l : Fin 128) :
    dynamicRotate 1 n none y rotates_S8x128_d1 (ix2 a l) = y (ix2 a (md (l.val + 128 - n.toNat % 128))) := by
  unfold dynamicRotate
  show y _ = y _
  congr 1
  funext b
  fin_cases b <;> rfl

theorem lane8_at (a : Fin 8) (l : Fin 128) : lane8 (ix2 a l) = BitVec.ofNat 32 l.val := by
  show BitVec.ofNat 32 (([1] : List (Fin 2)).foldl (fun n b => n * S8x128.size b + ((ix2 a l) b).val) 0) = _
  simp [List.foldl]

/-- The lane that word `l` of the packed codes comes from. -/
def gsrc (l : Fin 128) : Fin 128 := if l.val < 64 then md (2 * l.val) else md (2 * l.val - 127)

theorem gidx : ∀ l : Fin 128, md (IntOp.ori (IntOp.shli .vector (IntOp.andi (BitVec.ofNat 32 l.val) 63#32) 1#32)
    (IntOp.shrsi .vector (BitVec.ofNat 32 l.val) 6#32)).toNat = gsrc l := by decide +kernel

theorem geven : ∀ l : Fin 128, IntOp.cmpi .eq (IntOp.andi (BitVec.ofNat 32 (gsrc l).val) 1#32) 0#32 = BitVec.ofBool (l.val < 64) := by
  decide +kernel

/-- The lane of the lower nibble of the packed byte `l`, of tile `l / 64`. -/
def plo (l : Fin 128) : Fin 128 := md (2 * l.val)
/-- The lane of the upper nibble. -/
def phi (l : Fin 128) : Fin 128 := md (2 * l.val + 1)

theorem gsrc_lo : ∀ l : Fin 128, l.val < 64 → gsrc l = plo l := by decide
theorem gsrc_lo1 : ∀ l : Fin 128, l.val < 64 → md ((gsrc l).val + 128 - (127#32).toNat % 128) = phi l := by decide
theorem gsrc_hi : ∀ l : Fin 128, ¬ l.val < 64 → gsrc l = phi l := by decide
theorem gsrc_hi1 : ∀ l : Fin 128, ¬ l.val < 64 → md ((gsrc l).val + 128 - (1#32).toNat % 128) = plo l := by decide

theorem shl4 (x : BitVec 32) : IntOp.shli .vector x 4#32 = x <<< 4 := by
  simp [IntOp.shli]

theorem packWord (a b : IVec S8x128 32) (r : Fin 8) (i : Fin 4) (l : Fin 128) (q : ℕ) (hq : q < 8) :
    (packT a b (at32 (row4 r i) l)).getLsbD q
      = (if l.val < 64 then a (ix2 r (plo l)) ||| a (ix2 r (phi l)) <<< 4 else b (ix2 r (plo l)) ||| b (ix2 r (phi l)) <<< 4).getLsbD (8 * i.val + q) := by
  unfold packT
  rw [byte_at _ _ _ _ _ hq, shapeCast_shapeCast, gather8_at]
  congr 1
  have e : md ((ori (shli (andi lane8 (broadcast S8x128 63#32)) (broadcast S8x128 1#32)) (shrsi lane8 (broadcast S8x128 6#32)) : IVec S8x128 32)
      (ix2 r l)).toNat = gsrc l := by
    rw [← gidx l, ← lane8_at r l]; rfl
  rw [e]
  show IntOp.ori (Scalar.select (IntOp.cmpi .eq (IntOp.andi (lane8 (ix2 r (gsrc l))) 1#32) 0#32) (a (ix2 r (gsrc l)))
      (dynamicRotate 1 1#32 none b rotates_S8x128_d1 (ix2 r (gsrc l))))
    (IntOp.shli .vector (Scalar.select (IntOp.cmpi .eq (IntOp.andi (lane8 (ix2 r (gsrc l))) 1#32) 0#32)
      (dynamicRotate 1 127#32 none a rotates_S8x128_d1 (ix2 r (gsrc l))) (b (ix2 r (gsrc l)))) 4#32) = _
  rw [lane8_at, geven, rotate_at, rotate_at, shl4]
  by_cases h : l.val < 64
  · rw [gsrc_lo1 l h, gsrc_lo l h, if_pos h, decide_eq_true h]; rfl
  · rw [gsrc_hi1 l h, gsrc_hi l h, if_neg h, decide_eq_false h]; rfl

theorem nib_bit : ∀ (c : Fin 16) (q : Fin 8), 4 ≤ q.val → (nib c).getLsbD q.val = false := by decide

/-- A byte of two words of nibbles. -/
theorem nibs_byte (f h : Fin 4 → Fin 16) (i : Fin 4) (q : ℕ) (hq : q < 8) :
    (cat4 (nib (f 0)) (nib (f 1)) (nib (f 2)) (nib (f 3)) ||| cat4 (nib (h 0)) (nib (h 1)) (nib (h 2)) (nib (h 3)) <<< 4).getLsbD (8 * i.val + q)
      = (nib (f i) ||| nib (h i) <<< 4).getLsbD q := by
  have hc : ∀ (f : Fin 4 → Fin 16) (i : Fin 4) q, q < 8 → (cat4 (nib (f 0)) (nib (f 1)) (nib (f 2)) (nib (f 3))).getLsbD (8 * i.val + q) = (nib (f i)).getLsbD q :=
    fun f i q hq => cat4_bit (fun i => nib (f i)) i q hq
  rw [BitVec.getLsbD_or, BitVec.getLsbD_or, hc f i q hq, BitVec.getLsbD_shiftLeft, BitVec.getLsbD_shiftLeft]
  congr 1
  by_cases h4 : q < 4
  · rw [decide_eq_true h4]
    simp only [Bool.not_true, Bool.and_false, Bool.false_and]
    by_cases hi : i.val = 0
    · have : 8 * i.val + q < 4 := by omega
      simp [this]
    · have e : 8 * i.val + q - 4 = 8 * (⟨i.val - 1, by omega⟩ : Fin 4).val + (q + 4) := by simp only []; omega
      rw [e, hc h _ _ (by omega), nib_bit _ ⟨q + 4, by omega⟩ (by simp), Bool.and_false]
  · have e : 8 * i.val + q - 4 = 8 * i.val + (q - 4) := by omega
    have e1 : ¬ 8 * i.val + q < 4 := by omega
    have e2 : 8 * i.val + q < 32 := by omega
    rw [e, hc h i _ (by omega)]
    simp [e1, h4, e2, hq]

theorem wordT_at (b : IVec S32x128 8) (c : Fin 32 → Fin 128 → Fin 16) (hb : ∀ r l, b (at32 r l) = enc (c r l)) (a : Fin 8) (l : Fin 128) :
    wordT b (ix2 a l) = cat4 (nib (c (row4 a 0) l)) (nib (c (row4 a 1) l)) (nib (c (row4 a 2) l)) (nib (c (row4 a 3) l)) := by
  have e : wordT b (ix2 a l) = wordOf (bitcast S8x128 32 b bitcasts_S32x128_w8_S8x128_w32 (ix2 a l)) := by
    unfold wordT wordOf
    show IntOp.ori (IntOp.andi (IntOp.shrui .vector _ 2#32) _) (IntOp.andi (IntOp.andi (IntOp.shrui .vector _ 4#32) _) _) = _
    simp [IntOp.shrui, IntOp.ori, IntOp.andi, IntOp.addi, addi, andi, shrui, broadcast]
  rw [e, word_at, hb, hb, hb, hb, wordOf_cat4]

theorem packT_at (q0 q1 : IVec S32x128 8) (c0 c1 : Fin 32 → Fin 128 → Fin 16) (h0 : ∀ r l, q0 (at32 r l) = enc (c0 r l))
    (h1 : ∀ r l, q1 (at32 r l) = enc (c1 r l)) (r : Fin 32) (l : Fin 128) :
    packT (wordT q0) (wordT q1) (at32 r l)
      = (if l.val < 64 then nib (c0 r (plo l)) ||| nib (c0 r (phi l)) <<< 4 else nib (c1 r (plo l)) ||| nib (c1 r (phi l)) <<< 4) := by
  obtain ⟨a, i, rfl⟩ : ∃ a i, r = row4 a i := ⟨⟨r.val / 4, by omega⟩, ⟨r.val % 4, by omega⟩, Fin.ext (by simp only [row4]; omega)⟩
  apply BitVec.eq_of_getLsbD_eq
  intro q hq
  rw [packWord _ _ _ _ _ _ hq]
  by_cases h : l.val < 64
  · rw [if_pos h, if_pos h, wordT_at q0 c0 h0, wordT_at q0 c0 h0]
    exact nibs_byte (fun i => c0 (row4 a i) (plo l)) (fun i => c0 (row4 a i) (phi l)) i q hq
  · rw [if_neg h, if_neg h, wordT_at q1 c1 h1, wordT_at q1 c1 h1]
    exact nibs_byte (fun i => c1 (row4 a i) (plo l)) (fun i => c1 (row4 a i) (phi l)) i q hq

/-! ## The unit -/

/-- The largest magnitude of block `n` of row `r` of a tile. -/
def amaxT (x : FVec Ideal S32x128 .bf16) (r : Fin 32) (n : Fin 8) : EReal := Finset.univ.sup fun j => mag (x (at32 r (bl n j)))

/-- The block of lane `l`. -/
def bk (l : Fin 128) : Fin 8 := ⟨l.val / 16, by omega⟩

theorem src_eq (t : Fin 8) (l : Fin 128) : src t l = bl (bk l) (dbl t) := rfl

theorem uS_src (g : EReal) (x : Fin 8 → FVec Ideal S32x128 .bf16) (t : Fin 8) (r : Fin 32) (l : Fin 128) :
    uS (F := Ideal) g x (at32 r (src t l)) = scale g (amaxT (x t) r (bk l)) := by
  have e : uS (F := Ideal) g x (at32 r (src t l)) = scale g (maxT x (at32 r (src t l))) := rfl
  rw [e, maxT_at, src_eq, mxRow_eq]; rfl

/-- The scale of the block of an element. -/
def sT (g : EReal) (x : FVec Ideal S32x128 .bf16) (r : Fin 32) (l : Fin 128) : EReal := scale g (amaxT x r (bk l))

theorem uQ_at (g : EReal) (x : Fin 8 → FVec Ideal S32x128 .bf16) (w : Fin 8 → IVec S32x128 32) (t : Fin 8) (r : Fin 32) (l : Fin 128) :
    uQ (F := Ideal) g x w t (at32 r l) = kQ (x t (at32 r l)) (kInv (sT g (x t) r l * g)) (w t (at32 r l)) := by
  have e : uQ (F := Ideal) g x w t (at32 r l)
      = kQ (x t (at32 r l)) (perm (invT (effT (F := Ideal) g (uS g x))) (pick (two t)) (at32 r l)) (w t (at32 r l)) := rfl
  rw [e, perm_pick]
  have e2 : invT (effT (F := Ideal) g (uS g x)) (at32 r (src t l)) = kInv (uS (F := Ideal) g x (at32 r (src t l)) * g) := rfl
  rw [e2, uS_src]; rfl

theorem uD_at (g : EReal) (x : Fin 8 → FVec Ideal S32x128 .bf16) (w : Fin 8 → IVec S32x128 32) (t : Fin 8) (r : Fin 32) (l : Fin 128) :
    uD (F := Ideal) g x w t (at32 r l)
      = rDec ((rCode (x t (at32 r l)) (sT g (x t) r l * g) (w t (at32 r l))).setWidth 32) * sT g (x t) r l := by
  rw [← dyv_eq _ _ (sT g (x t) r l) (scale_real g _), ← uQ_at g x w t r l]
  unfold uD dyvT
  rw [shapeCast_self]
  show uQ g x w t (at32 r l) * perm (swT (uS g x)) (pick (two t)) (at32 r l) = _
  rw [perm_pick]
  have e2 : swT (F := Ideal) (uS g x) (at32 r (src t l)) = uS (F := Ideal) g x (at32 r (src t l)) * c32 0x42800000#32 := rfl
  rw [e2, uS_src]; rfl

/-- The number of a code. -/
def num (n : Bool) (k : Fin 8) : Fin 16 := ⟨k.val + if n then 8 else 0, by split <;> omega⟩

theorem num_enc : ∀ n k, BitVec.ofNat 8 (4 * k.val + if n then 128 else 0) = enc (num n k) := by decide
theorem num_nib : ∀ (n : Bool) (k : Fin 8), (n = true → k ≠ 0) → BitVec.ofNat 8 (k.val + if n then 8 else 0) = nib (num n k) := by decide

/-- The code of an element as a number. -/
theorem code_ex (x e : EReal) (w : BitVec 32) : ∃ c : Fin 16, kByte (kQ x (kInv e) w) = enc c ∧ rCode x e w = nib c := by
  obtain ⟨n, k, h, h1, h2⟩ := elem_eq x e w
  exact ⟨num n k, by rw [h1, kByte_val n k h, num_enc], by rw [h2, num_nib n k h]⟩

theorem uC_at (g : EReal) (x : Fin 8 → FVec Ideal S32x128 .bf16) (w : Fin 8 → IVec S32x128 32) (p : Fin 4) (r : Fin 32) (l : Fin 128)
    (t : Fin 8) (ht : t.val = 2 * p.val + l.val / 64) :
    uC (F := Ideal) g x w p (at32 r l)
      = rCode (x t (at32 r (plo l))) (sT g (x t) r (plo l) * g) (w t (at32 r (plo l)))
        ||| rCode (x t (at32 r (phi l))) (sT g (x t) r (phi l) * g) (w t (at32 r (phi l))) <<< 4 := by
  have hc : ∀ (t : Fin 8), ∃ c : Fin 32 → Fin 128 → Fin 16, (∀ r l, byteT (F := Ideal) (uQ (F := Ideal) g x w t) (at32 r l) = enc (c r l))
      ∧ ∀ r l, rCode (x t (at32 r l)) (sT g (x t) r l * g) (w t (at32 r l)) = nib (c r l) := fun t => by
    choose c h1 h2 using fun r l => code_ex (x t (at32 r l)) (sT g (x t) r l * g) (w t (at32 r l))
    refine ⟨c, fun r l => ?_, h2⟩
    rw [← h1, ← uQ_at]; rfl
  obtain ⟨c0, h0, k0⟩ := hc ⟨2 * p.val, by omega⟩
  obtain ⟨c1, h1, k1⟩ := hc ⟨2 * p.val + 1, by omega⟩
  unfold uC
  rw [packT_at _ _ c0 c1 h0 h1]
  by_cases h : l.val < 64
  · have e : t = ⟨2 * p.val, by omega⟩ := Fin.ext (by simp only []; omega)
    rw [if_pos h, e, k0, k0]
  · have e : t = ⟨2 * p.val + 1, by omega⟩ := Fin.ext (by simp only []; omega)
    rw [if_neg h, e, k1, k1]

end Cert.KernelIdeal.Unit

end
-- ==== Proof.Val.Block.lean ====
/- What one grid point stores, as functions of the whole blocks. -/
module

public import proofs.«01_k».proof.Proof.Val.UnitEq
public import proofs.«01_k».proof.Proof.Val.Pieces
public import Idealize.ShloMosaic.Lib.Pipeline.CanonAppend
public import Idealize.ShloMosaic.Lib.Pipeline.ValueKit.Geometry
public import Idealize.ShloMosaic.PureOps.Ideal.Laws

@[expose] public section

set_option maxRecDepth 16384

noncomputable section

namespace Cert.KernelIdeal.Unit

open Cert.KernelIdeal Cert.KernelIdeal.Gen Idealize.ShloMosaic Idealize.ShloMosaic.ValueIdx Cert.Quant

/-! ## The quantised block -/

/-- The largest magnitude of the block of sixteen of the element in row `i`, column `c`. -/
def bmax {m n : ℕ} (X : (⟨2, ![m, n]⟩ : Shape).Idx → EReal) (i : Fin m) (c : Fin n) : EReal :=
  Finset.univ.sup fun j : Fin 16 => mag (if h : 16 * (c.val / 16) + j.val < n then X (ix2 i ⟨16 * (c.val / 16) + j.val, h⟩) else 0)

/-- Its scale. -/
def bscale {m n : ℕ} (g : EReal) (X : (⟨2, ![m, n]⟩ : Shape).Idx → EReal) (i : Fin m) (c : Fin n) : EReal := scale g (bmax X i c)

/-- Its code. -/
def bcode {m n : ℕ} (g : EReal) (X : (⟨2, ![m, n]⟩ : Shape).Idx → EReal) (R : (⟨2, ![m, n]⟩ : Shape).Idx → BitVec 32) (i : Fin m) (c : Fin n) : BitVec 8 :=
  rCode (X (ix2 i c)) (bscale g X i c * g) (R (ix2 i c))

/-- Its dequantised value. -/
def bdyv {m n : ℕ} (g : EReal) (X : (⟨2, ![m, n]⟩ : Shape).Idx → EReal) (R : (⟨2, ![m, n]⟩ : Shape).Idx → BitVec 32) (i : Fin m) (c : Fin n) : EReal :=
  rDec ((bcode g X R i c).setWidth 32) * bscale g X i c

/-- The packed byte of the elements in the columns `2c` and `2c + 1`. -/
def bpack {m n k : ℕ} (hk : n = 2 * k) (g : EReal) (X : (⟨2, ![m, n]⟩ : Shape).Idx → EReal) (R : (⟨2, ![m, n]⟩ : Shape).Idx → BitVec 32) (i : Fin m) (c : Fin k) : BitVec 8 :=
  bcode g X R i ⟨2 * c.val, by omega⟩ ||| bcode g X R i ⟨2 * c.val + 1, by omega⟩ <<< 4

/-- Row `r` of unit `u`. -/
def ur (u : Fin 32) (r : Fin 32) : Fin 1024 := ⟨32 * u.val + r.val, by omega⟩
/-- Lane `l` of tile `t`. -/
def tl (t : Fin 8) (l : Fin 128) : Fin 1024 := ⟨128 * t.val + l.val, by omega⟩
/-- Lane `l` of the packed tile `p`. -/
def pl (p : Fin 4) (l : Fin 128) : Fin 512 := ⟨128 * p.val + l.val, by omega⟩

theorem rX_emb (u : Fin 32) (t : Fin 8) (r : Fin 32) (l : Fin 128) : (rX u t).emb (at32 r l) = ix2 (ur u r) (tl t l) := by
  funext a
  match a with
  | ⟨0, _⟩ => exact Fin.ext (ValueKit.rect_emb_unit_val _ _ (inbX u t) _ 0)
  | ⟨1, _⟩ => exact Fin.ext (ValueKit.rect_emb_unit_val _ _ (inbX u t) _ 1)

theorem rC_emb (u : Fin 32) (p : Fin 4) (r : Fin 32) (l : Fin 128) : (rC u p).emb (at32 r l) = ix2 (ur u r) (pl p l) := by
  funext a
  match a with
  | ⟨0, _⟩ => exact Fin.ext (ValueKit.rect_emb_unit_val _ _ (inbC u p) _ 0)
  | ⟨1, _⟩ => exact Fin.ext (ValueKit.rect_emb_unit_val _ _ (inbC u p) _ 1)

theorem ldT_at {sp : Space} {e : EltTy} (v : View sig .tc sp S1024x1024 e) (f : v.ty.Contents (Elt Ideal)) (u : Fin 32) (t : Fin 8) (r : Fin 32) (l : Fin 128) :
    ldT (F := Ideal) v f u t (at32 r l) = v.read (Elt Ideal) f (ix2 (ur u r) (tl t l)) := by
  rw [← rX_emb]; rfl

variable (g : EReal) (X : S1024x1024.Idx → EReal) (R : S1024x1024.Idx → BitVec 32)
  (x : Fin 32 → Fin 8 → FVec Ideal S32x128 .bf16) (w : Fin 32 → Fin 8 → IVec S32x128 32)
  (hx : ∀ u t r l, x u t (at32 r l) = X (ix2 (ur u r) (tl t l))) (hw : ∀ u t r l, w u t (at32 r l) = R (ix2 (ur u r) (tl t l)))

include hx in
theorem sT_eq (u : Fin 32) (t : Fin 8) (r : Fin 32) (l : Fin 128) : sT g (x u t) r l = bscale g X (ur u r) (tl t l) := by
  unfold sT bscale amaxT bmax
  refine congrArg (fun f => scale g (Finset.univ.sup f)) (funext fun j => ?_)
  have h : 16 * ((tl t l).val / 16) + j.val < 1024 := by simp only [tl]; omega
  rw [dif_pos h, hx]
  congr 3
  apply Fin.ext
  simp only [tl, bl, bk]; omega

include hx hw in
theorem rCode_eq (u : Fin 32) (t : Fin 8) (r : Fin 32) (l : Fin 128) :
    rCode (x u t (at32 r l)) (sT g (x u t) r l * g) (w u t (at32 r l)) = bcode g X R (ur u r) (tl t l) := by
  rw [sT_eq g X x hx, hx, hw]; rfl

include hx hw in
theorem uD_block (u : Fin 32) (t : Fin 8) (r : Fin 32) (l : Fin 128) :
    uD (F := Ideal) g (x u) (w u) t (at32 r l) = bdyv g X R (ur u r) (tl t l) := by
  rw [uD_at, rCode_eq g X R x w hx hw, sT_eq g X x hx]; rfl

include hx hw in
theorem uC_block (u : Fin 32) (p : Fin 4) (r : Fin 32) (l : Fin 128) :
    uC (F := Ideal) g (x u) (w u) p (at32 r l) = bpack (k := 512) rfl g X R (ur u r) (pl p l) := by
  rw [uC_at g (x u) (w u) p r l ⟨2 * p.val + l.val / 64, by omega⟩ rfl, rCode_eq g X R x w hx hw, rCode_eq g X R x w hx hw]
  unfold bpack
  have e1 : tl ⟨2 * p.val + l.val / 64, by omega⟩ (plo l) = ⟨2 * (pl p l).val, by omega⟩ := Fin.ext (by simp only [tl, plo, pl, md]; omega)
  have e2 : tl ⟨2 * p.val + l.val / 64, by omega⟩ (phi l) = ⟨2 * (pl p l).val + 1, by omega⟩ := Fin.ext (by simp only [tl, phi, pl, md]; omega)
  rw [e1, e2]

/-! ## The stored pieces -/

theorem mem_piecesC (u : Fin 32) (q : Fin 4) :
    (⟨rC u q, uC g (x u) (w u) q⟩ : View.Piece (Elt Ideal) S1024x512 .i8) ∈ piecesC (F := Ideal) g x w := by
  simp only [piecesC, List.mem_flatMap, List.mem_map, List.mem_reverse, List.mem_finRange, true_and]
  exact ⟨_, _, rfl⟩

theorem mem_piecesD (n : ℕ) (h : n ≤ 32) (u : Fin n) (q : Fin 8) :
    (⟨rX (u.castLE h) q, uD g (x (u.castLE h)) (w (u.castLE h)) q⟩ : View.Piece (Elt Ideal) S1024x1024 .bf16) ∈ piecesD (F := Ideal) n h g x w := by
  simp only [piecesD, List.mem_flatMap, List.mem_map, List.mem_reverse, List.mem_finRange, true_and]
  exact ⟨_, _, rfl⟩

theorem mem_piecesA (a : Fin 4 → FVec Ideal S256x2048 .f32) (d : Fin 4 → FVec Ideal S256x1024 .bf16) (W : FVec Ideal S1024x2048 .bf16) (r : Fin 4) :
    (⟨rAcc r, mmT (a r) (d r) W⟩ : View.Piece (Elt Ideal) S1024x2048 .f32) ∈ piecesA (F := Ideal) a d W := by
  simp only [piecesA, List.mem_map, List.mem_reverse, List.mem_finRange, true_and]
  exact ⟨_, rfl⟩

include hx hw in
theorem canonC (y : S1024x512.Idx) : View.canon (piecesC (F := Ideal) g x w) y = bpack (k := 512) rfl g X R (y 0) (y 1) := by
  refine View.canon_apply_of_pieces (Val := Elt Ideal) (S := S1024x512) (e := .i8) (fun y => bpack (k := 512) rfl g X R (y 0) (y 1)) _ ?_ y ?_
  · intro p hp z
    simp only [piecesC, List.mem_flatMap, List.mem_map, List.mem_reverse, List.mem_finRange, true_and] at hp
    obtain ⟨u, q, rfl⟩ := hp
    obtain ⟨r, l, rfl⟩ : ∃ r l, z = at32 r l := ⟨z 0, z 1, eq_ix2 z⟩
    show uC (F := Ideal) g (x u) (w u) q (at32 r l) = bpack (k := 512) rfl g X R ((rC u q).emb (at32 r l) 0) ((rC u q).emb (at32 r l) 1)
    rw [rC_emb, uC_block g X R x w hx hw]
  · have h0 : (y 0).val < 1024 := (y 0).isLt
    have h1 : (y 1).val < 512 := (y 1).isLt
    refine ⟨_, mem_piecesC g x w ⟨(y 0).val / 32, by omega⟩ ⟨(y 1).val / 128, by omega⟩, ?_⟩
    refine (Rect.mem_set_unit (inb := inbC _ _)).2 fun a => ?_
    match a with
      | ⟨0, _⟩ => show 32 * ((y 0).val / 32) ≤ (y 0).val ∧ (y 0).val < 32 * ((y 0).val / 32) + 32; omega
      | ⟨1, _⟩ => show 128 * ((y 1).val / 128) ≤ (y 1).val ∧ (y 1).val < 128 * ((y 1).val / 128) + 128; omega

include hx hw in
/-- Rows below `32n` of the dequantised block, whatever lies under the first `n` units' tiles. -/
theorem canonD (n : ℕ) (h : n ≤ 32) (L' : List (View.Piece (Elt Ideal) S1024x1024 .bf16)) (y : S1024x1024.Idx) (hy : (y 0).val < 32 * n) :
    View.canon (piecesD (F := Ideal) n h g x w ++ L') y = bdyv g X R (y 0) (y 1) := by
  refine View.canon_append_of_pieces (Val := Elt Ideal) (S := S1024x1024) (e := .bf16) (fun y => bdyv g X R (y 0) (y 1)) L' _ ?_ y ?_
  · intro p hp z
    simp only [piecesD, List.mem_flatMap, List.mem_map, List.mem_reverse, List.mem_finRange, true_and] at hp
    obtain ⟨u, q, rfl⟩ := hp
    obtain ⟨r, l, rfl⟩ : ∃ r l, z = at32 r l := ⟨z 0, z 1, eq_ix2 z⟩
    show uD (F := Ideal) g (x (u.castLE h)) (w (u.castLE h)) q (at32 r l)
      = bdyv g X R ((rX (u.castLE h) q).emb (at32 r l) 0) ((rX (u.castLE h) q).emb (at32 r l) 1)
    rw [rX_emb, uD_block g X R x w hx hw]
  · have h1 : (y 1).val < 1024 := (y 1).isLt
    refine ⟨_, mem_piecesD g x w n h ⟨(y 0).val / 32, by omega⟩ ⟨(y 1).val / 128, by omega⟩, ?_⟩
    refine (Rect.mem_set_unit (inb := inbX _ _)).2 fun a => ?_
    match a with
      | ⟨0, _⟩ => show 32 * ((y 0).val / 32) ≤ (y 0).val ∧ (y 0).val < 32 * ((y 0).val / 32) + 32; omega
      | ⟨1, _⟩ => show 128 * ((y 1).val / 128) ≤ (y 1).val ∧ (y 1).val < 128 * ((y 1).val / 128) + 128; omega

theorem canon_skip {s : Shape} {e : EltTy} (L L' : List (View.Piece (Elt Ideal) s e)) (y : s.Idx) (h : ∀ p ∈ L, y ∉ p.1.set) :
    View.canon (L ++ L') y = View.canon L' y := by
  induction L with
  | nil => rfl
  | cons p L ih =>
    rw [List.cons_append, View.canon_cons_of_not_mem _ _ (h p List.mem_cons_self)]
    exact ih fun q hq => h q (List.mem_cons_of_mem _ hq)

theorem zeroD_canon (L : List (View.Piece (Elt Ideal) S1024x1024 .bf16)) (y : S1024x1024.Idx) : View.canon (zeroD (F := Ideal) :: L) y = (0 : EReal) := by
  have e : (Rect.unit (s := S1024x1024) ![0, 0] S1024x1024.size inb_S1024x1024_S1024x1024_0_0).emb y = y := by
    funext a
    match a with
    | ⟨0, _⟩ => exact Fin.ext ((ValueKit.rect_emb_unit_val _ _ inb_S1024x1024_S1024x1024_0_0 _ 0).trans (Nat.zero_add _))
    | ⟨1, _⟩ => exact Fin.ext ((ValueKit.rect_emb_unit_val _ _ inb_S1024x1024_S1024x1024_0_0 _ 1).trans (Nat.zero_add _))
  have h := View.canon_cons_emb (Val := Elt Ideal) (zeroD (F := Ideal)).1 (zeroD (F := Ideal)).2 L y
  rw [show (zeroD (F := Ideal)).1.emb y = y from e] at h
  refine h.trans ?_
  show shapeCast S1024x1024 (broadcast S1024x1024 (c16 0x0000#16)) shapeCasts_S1024x1024_S1024x1024 y = 0
  rw [shapeCast_self]
  exact b_0

theorem zeroA_canon (L : List (View.Piece (Elt Ideal) S1024x2048 .f32)) (y : S1024x2048.Idx) : View.canon (zeroA (F := Ideal) :: L) y = (0 : EReal) := by
  have e : (Rect.unit (s := S1024x2048) ![0, 0] S1024x2048.size inb_S1024x2048_S1024x2048_0_0).emb y = y := by
    funext a
    match a with
    | ⟨0, _⟩ => exact Fin.ext ((ValueKit.rect_emb_unit_val _ _ inb_S1024x2048_S1024x2048_0_0 _ 0).trans (Nat.zero_add _))
    | ⟨1, _⟩ => exact Fin.ext ((ValueKit.rect_emb_unit_val _ _ inb_S1024x2048_S1024x2048_0_0 _ 1).trans (Nat.zero_add _))
  have h := View.canon_cons_emb (Val := Elt Ideal) (zeroA (F := Ideal)).1 (zeroA (F := Ideal)).2 L y
  rw [show (zeroA (F := Ideal)).1.emb y = y from e] at h
  refine h.trans ?_
  show shapeCast S1024x2048 (broadcast S1024x2048 (c32 0x00000000#32)) shapeCasts_S1024x2048_S1024x2048 y = 0
  rw [shapeCast_self]
  exact k_0

/-! ## The product -/

theorem mm_at (a : FVec Ideal S256x2048 .f32) (d : FVec Ideal S256x1024 .bf16) (w : FVec Ideal S1024x2048 .bf16) (i : Fin 256) (c : Fin 2048) :
    mmT a d w (ix2 i c) = a (ix2 i c) + ∑ k : Fin 1024, d (ix2 i k) * w (ix2 k c) := by
  unfold mmT
  rw [shapeCast_self]
  show a (ix2 i c) + FloatOps.matmul _ _ d w _ (ix2 i c) = _
  rw [Ideal.matmul_apply]
  have h0 : constant (F := Ideal) S256x2048 .f32 0x00000000#32 (ix2 i c) = (0 : EReal) := k_0
  rw [h0, zero_add]
  congr 1
  rw [← Equiv.sum_comp (contrEquiv1 dot_S256x1024_S1024x2048_S256x2048_1_0_0_1_n_n 1024 rfl rfl).symm]
  refine Finset.sum_congr rfl fun k _ => ?_
  congr 1
  · congr 1; funext a; match a with | ⟨0, _⟩ => rfl | ⟨1, _⟩ => rfl
  · congr 1; funext a; match a with | ⟨0, _⟩ => rfl | ⟨1, _⟩ => rfl

/-- Row `i` of quarter `r`. -/
def qr (r : Fin 4) (i : Fin 256) : Fin 1024 := ⟨256 * r.val + i.val, by omega⟩

theorem rAcc_emb (r : Fin 4) (i : Fin 256) (c : Fin 2048) : (rAcc r).emb (ix2 i c) = ix2 (qr r i) c := by
  funext a
  match a with
  | ⟨0, _⟩ => exact Fin.ext (ValueKit.rect_emb_unit_val _ _ (inbA r) _ 0)
  | ⟨1, _⟩ => exact Fin.ext ((ValueKit.rect_emb_unit_val _ _ (inbA r) _ 1).trans (Nat.zero_add _))

theorem rDq_emb (r : Fin 4) (i : Fin 256) (c : Fin 1024) : (rDq r).emb (ix2 i c) = ix2 (qr r i) c := by
  funext a
  match a with
  | ⟨0, _⟩ => exact Fin.ext (ValueKit.rect_emb_unit_val _ _ (inbD r) _ 0)
  | ⟨1, _⟩ => exact Fin.ext ((ValueKit.rect_emb_unit_val _ _ (inbD r) _ 1).trans (Nat.zero_add _))

theorem quarter (y : S1024x2048.Idx) : ∃ r : Fin 4, y ∈ (rAcc r).set := by
  have h0 : (y 0).val < 1024 := (y 0).isLt
  refine ⟨⟨(y 0).val / 256, by omega⟩, (Rect.mem_set_unit (inb := inbA _)).2 fun a => ?_⟩
  match a with
  | ⟨0, _⟩ => show 256 * ((y 0).val / 256) ≤ (y 0).val ∧ (y 0).val < 256 * ((y 0).val / 256) + 256; omega
  | ⟨1, _⟩ => exact ⟨Nat.zero_le _, by have := (y 1).isLt; exact this.trans_le (Nat.le_add_left _ _)⟩

/-- The accumulator after a product, from the accumulator and the dequantised block before. -/
theorem canonA (A : S1024x2048.Idx → EReal) (D : S1024x1024.Idx → EReal) (W : S1024x2048.Idx → EReal)
    (a : Fin 4 → FVec Ideal S256x2048 .f32) (d : Fin 4 → FVec Ideal S256x1024 .bf16)
    (ha : ∀ r i c, a r (ix2 i c) = A (ix2 (qr r i) c)) (hd : ∀ r i c, d r (ix2 i c) = D (ix2 (qr r i) c)) (y : S1024x2048.Idx) :
    View.canon (piecesA (F := Ideal) a d W) y = A y + ∑ k : Fin 1024, D (ix2 (y 0) k) * W (ix2 k (y 1)) := by
  refine View.canon_apply_of_pieces (Val := Elt Ideal) (S := S1024x2048) (e := .f32) (fun y => (A y + ∑ k : Fin 1024, D (ix2 (y 0) k) * W (ix2 k (y 1)) : EReal)) _ ?_ y ?_
  · intro p hp z
    simp only [piecesA, List.mem_map, List.mem_reverse, List.mem_finRange, true_and] at hp
    obtain ⟨r, rfl⟩ := hp
    obtain ⟨i, c, rfl⟩ : ∃ i c, z = ix2 (n0 := 256) (n1 := 2048) i c := ⟨z 0, z 1, eq_ix2 z⟩
    show mmT (F := Ideal) (a r) (d r) W (ix2 i c) = A ((rAcc r).emb (ix2 i c)) + ∑ k : Fin 1024, D (ix2 ((rAcc r).emb (ix2 i c) 0) k) * W (ix2 k ((rAcc r).emb (ix2 i c) 1))
    rw [rAcc_emb, mm_at, ha]
    congr 1
    exact Finset.sum_congr rfl fun k _ => by rw [hd]
  · obtain ⟨r, hr⟩ := quarter y
    exact ⟨_, mem_piecesA a d W r, hr⟩

/-! ## The first point -/

/-- Nothing but zeroes is stored. -/
def AllZero (L : List (View.Piece (Elt Ideal) S1024x2048 .f32)) : Prop := ∀ y, View.canon L y = (0 : EReal)

theorem mm_zero (a : FVec Ideal S256x2048 .f32) (d : FVec Ideal S256x1024 .bf16) (w : FVec Ideal S1024x2048 .bf16) (ha : ∀ j, a j = (0 : EReal)) (hd : ∀ j, d j = (0 : EReal))
    (j : S256x2048.Idx) : mmT a d w j = (0 : EReal) := by
  obtain ⟨i, c, rfl⟩ : ∃ i c, j = ix2 (n0 := 256) (n1 := 2048) i c := ⟨j 0, j 1, eq_ix2 j⟩
  rw [mm_at, ha, zero_add]
  exact Finset.sum_eq_zero fun k _ => by rw [hd, zero_mul]

/-- A quarter with the values `v`. -/
def pieceA (r : Fin 4) (v : FVec Ideal S256x2048 .f32) : View.Piece (Elt Ideal) S1024x2048 .f32 := ⟨rAcc r, v⟩

theorem allZero_cons (L : List (View.Piece (Elt Ideal) S1024x2048 .f32)) (h : AllZero L) (r : Fin 4) (v : FVec Ideal S256x2048 .f32) (hv : ∀ j, v j = (0 : EReal)) :
    AllZero (pieceA r v :: L) := fun y => by
  by_cases hm : y ∈ (pieceA r v).1.set
  · obtain ⟨z, hz⟩ := (pieceA r v).1.exists_idx_of_mem hm
    rw [← hz]
    exact (View.canon_cons_emb (Val := Elt Ideal) (pieceA r v).1 (pieceA r v).2 L z).trans (hv z)
  · rw [View.canon_cons_of_not_mem _ _ hm]; exact h y

/-- The accumulator stays zero. -/
theorem canonA0 {sp : Space} (v : View sig .tc sp S1024x2048 .f32) (d : Fin 4 → FVec Ideal S256x1024 .bf16) (W : FVec Ideal S1024x2048 .bf16)
    (hd : ∀ r j, d r j = (0 : EReal)) : AllZero (piecesA0 (F := Ideal) v d W) := by
  have step : ∀ (l : List (Fin 4)) (L : List (View.Piece (Elt Ideal) S1024x2048 .f32)), AllZero L →
      AllZero (l.foldl (fun L r => pieceA r (mmT (v.readCov L (rAcc r).toLoadRect) (d r) W) :: L) L) := by
    intro l
    induction l with
    | nil => exact fun L h => h
    | cons r l ih =>
      intro L h
      refine ih _ (allZero_cons L h r _ (mm_zero _ _ _ (fun j => ?_) (hd r)))
      rw [View.readCov_eq_canon' (Val := Elt Ideal)]
      exact h _
  exact step _ _ fun y => zeroA_canon [] y

/-- The rows of a quarter lie past the units before it. -/
theorem dA_zero {sp : Space} (v : View sig .tc sp S1024x1024 .bf16) (r : Fin 4) (j : S256x1024.Idx) :
    dA (F := Ideal) v g x w r j = (0 : EReal) := by
  unfold dA
  rw [View.readCov_eq_canon' (Val := Elt Ideal)]
  show View.canon _ ((rDq r).emb j) = _
  obtain ⟨i, c, rfl⟩ : ∃ i c, j = ix2 (n0 := 256) (n1 := 1024) i c := ⟨j 0, j 1, eq_ix2 j⟩
  rw [rDq_emb, canon_skip, zeroD_canon]
  intro p hp
  simp only [piecesD, List.mem_flatMap, List.mem_map, List.mem_reverse, List.mem_finRange, true_and] at hp
  obtain ⟨u, q, rfl⟩ := hp
  intro hm
  have h' := ((Rect.mem_set_unit (inb := inbX _ _)).1 hm 0).2
  change 256 * r.val + i.val < 32 * u.val + 32 at h'
  have := u.isLt
  omega

end Cert.KernelIdeal.Unit

end
-- ==== Proof.Val.BlockX.lean ====
/- The gradient that the epilogue's loop stores. -/
module

public import proofs.«01_k».proof.Proof.Val.PiecesX
public import proofs.«01_k».proof.Proof.Val.Block

@[expose] public section

set_option maxRecDepth 16384

noncomputable section

namespace Cert.KernelIdeal.Unit

open Idealize.ShloMosaic.ValueIdx Cert.Quant Cert.KernelIdeal Cert.KernelIdeal.Gen Idealize.ShloMosaic Idealize.ShloMosaic.TcCoe Idealize.SL.Sem

theorem off1 : ∀ k : Fin k0_t1_loop.trips, k0_off1 k = ![32 * k.val, 0] := by decide +kernel
theorem off2 : ∀ k : Fin k0_t1_loop.trips, k0_off2 k = ![32 * k.val, 128] := by decide +kernel
theorem off3 : ∀ k : Fin k0_t1_loop.trips, k0_off3 k = ![32 * k.val, 256] := by decide +kernel
theorem off4 : ∀ k : Fin k0_t1_loop.trips, k0_off4 k = ![32 * k.val, 384] := by decide +kernel
theorem off5 : ∀ k : Fin k0_t1_loop.trips, k0_off5 k = ![32 * k.val, 512] := by decide +kernel
theorem off6 : ∀ k : Fin k0_t1_loop.trips, k0_off6 k = ![32 * k.val, 640] := by decide +kernel
theorem off7 : ∀ k : Fin k0_t1_loop.trips, k0_off7 k = ![32 * k.val, 768] := by decide +kernel
theorem off8 : ∀ k : Fin k0_t1_loop.trips, k0_off8 k = ![32 * k.val, 896] := by decide +kernel
theorem off9 : ∀ k : Fin k0_t1_loop.trips, k0_off9 k = ![32 * k.val, 1024] := by decide +kernel
theorem off10 : ∀ k : Fin k0_t1_loop.trips, k0_off10 k = ![32 * k.val, 1152] := by decide +kernel
theorem off11 : ∀ k : Fin k0_t1_loop.trips, k0_off11 k = ![32 * k.val, 1280] := by decide +kernel
theorem off12 : ∀ k : Fin k0_t1_loop.trips, k0_off12 k = ![32 * k.val, 1408] := by decide +kernel
theorem off13 : ∀ k : Fin k0_t1_loop.trips, k0_off13 k = ![32 * k.val, 1536] := by decide +kernel
theorem off14 : ∀ k : Fin k0_t1_loop.trips, k0_off14 k = ![32 * k.val, 1664] := by decide +kernel
theorem off15 : ∀ k : Fin k0_t1_loop.trips, k0_off15 k = ![32 * k.val, 1792] := by decide +kernel
theorem off16 : ∀ k : Fin k0_t1_loop.trips, k0_off16 k = ![32 * k.val, 1920] := by decide +kernel

theorem trips_eq : k0_t1_loop.trips = 32 := by decide +kernel

theorem dxT_at (gs : EReal) (a : FVec Ideal S32x128 .f32) (r : FVec Ideal S32x128 .bf16) (j : S32x128.Idx) :
    dxT (F := Ideal) gs a r j = a j * gs + r j := rfl

theorem in_tile {off : Fin 2 → ℕ} (inb : ∀ a, off a + S32x128.size a ≤ S1024x2048.size a) (k c : ℕ) (h : off = ![32 * k, 128 * c]) (y : S1024x2048.Idx)
    (h0 : (y 0).val / 32 = k) (h1 : (y 1).val / 128 = c) : y ∈ (Rect.unit (s := S1024x2048) off S32x128.size inb).set := by
  subst h
  refine (Rect.mem_set_unit (inb := inb)).2 fun a => ?_
  match a with
  | ⟨0, _⟩ => show 32 * k ≤ (y 0).val ∧ (y 0).val < 32 * k + 32; omega
  | ⟨1, _⟩ => show 128 * c ≤ (y 1).val ∧ (y 1).val < 128 * c + 128; omega

theorem pbX (𝒱 : Variants) (c : Dev nD) (bd : Option 𝒱.V) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (v0 : Elt Ideal .f32) (k0_h2 : k0_cond2 i = 1#1) (v34495 : Elt Ideal .f32) (X_arg6 : BufTy.Contents (Elt Ideal) arg6.view.ty) (X_arg13 : BufTy.Contents (Elt Ideal) arg13.view.ty) (n : ℕ) (hn : n ≤ k0_t1_loop.trips) :
    (∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v0 k0_h2 v34495 X_arg6 X_arg13 n).1, ∀ z, p.2 z = (arg13.view.read (Elt Ideal) X_arg13 (p.1.emb z) * (v0 * v34495) + arg6.view.read (Elt Ideal) X_arg6 (p.1.emb z) : EReal))
      ∧ ∀ y : S1024x2048.Idx, (y 0).val < 32 * n → ∃ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v0 k0_h2 v34495 X_arg6 X_arg13 n).1, y ∈ p.1.set := by
  induction n with
  | zero => exact ⟨fun p hp => absurd hp List.not_mem_nil, fun y hy => absurd hy (Nat.not_lt_zero _)⟩
  | succ n ih =>
    obtain ⟨ih1, ih2⟩ := ih (Nat.le_of_succ_le hn)
    have e : (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v0 k0_h2 v34495 X_arg6 X_arg13 (n + 1)).1 = (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v0 k0_h2 v34495 X_arg6 X_arg13 ⟨n, hn⟩).1 ++ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v0 k0_h2 v34495 X_arg6 X_arg13 n).1 :=
      congrArg Prod.fst (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 v0 k0_h2 v34495 X_arg6 X_arg13 ⟨n, hn⟩)
    rw [e, trip_X]
    constructor
    · intro p hp
      rcases List.mem_append.1 hp with hp | hp
      · simp only [List.mem_cons, List.not_mem_nil, or_false] at hp
        rcases hp with rfl | rfl | rfl | rfl | rfl | rfl | rfl | rfl | rfl | rfl | rfl | rfl | rfl | rfl | rfl | rfl <;> exact fun z => rfl
      · exact ih1 p hp
    · intro y hy
      by_cases hlt : (y 0).val < 32 * n
      · obtain ⟨p, hp, hm⟩ := ih2 y hlt
        exact ⟨p, List.mem_append_right _ hp, hm⟩
      · have h0 : (y 0).val / 32 = n := by omega
        have h1 : (y 1).val < 2048 := (y 1).isLt
        have hc : (y 1).val / 128 < 16 := by omega
        generalize hg : (y 1).val / 128 = c at hc
        interval_cases c
        · exact ⟨_, List.mem_append_left _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), in_tile (k0_off1_inb i ⟨n, hn⟩ k0_h2) n 0 (off1 ⟨n, hn⟩) y h0 hg⟩
        · exact ⟨_, List.mem_append_left _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), in_tile (k0_off2_inb i ⟨n, hn⟩ k0_h2) n 1 (off2 ⟨n, hn⟩) y h0 hg⟩
        · exact ⟨_, List.mem_append_left _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), in_tile (k0_off3_inb i ⟨n, hn⟩ k0_h2) n 2 (off3 ⟨n, hn⟩) y h0 hg⟩
        · exact ⟨_, List.mem_append_left _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), in_tile (k0_off4_inb i ⟨n, hn⟩ k0_h2) n 3 (off4 ⟨n, hn⟩) y h0 hg⟩
        · exact ⟨_, List.mem_append_left _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), in_tile (k0_off5_inb i ⟨n, hn⟩ k0_h2) n 4 (off5 ⟨n, hn⟩) y h0 hg⟩
        · exact ⟨_, List.mem_append_left _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), in_tile (k0_off6_inb i ⟨n, hn⟩ k0_h2) n 5 (off6 ⟨n, hn⟩) y h0 hg⟩
        · exact ⟨_, List.mem_append_left _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), in_tile (k0_off7_inb i ⟨n, hn⟩ k0_h2) n 6 (off7 ⟨n, hn⟩) y h0 hg⟩
        · exact ⟨_, List.mem_append_left _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), in_tile (k0_off8_inb i ⟨n, hn⟩ k0_h2) n 7 (off8 ⟨n, hn⟩) y h0 hg⟩
        · exact ⟨_, List.mem_append_left _ (List.mem_cons_of_mem _ (List.mem_cons_of_mem _ (List.mem_cons_of_mem _ (List.mem_cons_of_mem _ (List.mem_cons_of_mem _ (List.mem_cons_of_mem _ (List.mem_cons_of_mem _ List.mem_cons_self))))))), in_tile (k0_off9_inb i ⟨n, hn⟩ k0_h2) n 8 (off9 ⟨n, hn⟩) y h0 hg⟩
        · exact ⟨_, List.mem_append_left _ (List.mem_cons_of_mem _ (List.mem_cons_of_mem _ (List.mem_cons_of_mem _ (List.mem_cons_of_mem _ (List.mem_cons_of_mem _ (List.mem_cons_of_mem _ List.mem_cons_self)))))), in_tile (k0_off10_inb i ⟨n, hn⟩ k0_h2) n 9 (off10 ⟨n, hn⟩) y h0 hg⟩
        · exact ⟨_, List.mem_append_left _ (List.mem_cons_of_mem _ (List.mem_cons_of_mem _ (List.mem_cons_of_mem _ (List.mem_cons_of_mem _ (List.mem_cons_of_mem _ List.mem_cons_self))))), in_tile (k0_off11_inb i ⟨n, hn⟩ k0_h2) n 10 (off11 ⟨n, hn⟩) y h0 hg⟩
        · exact ⟨_, List.mem_append_left _ (List.mem_cons_of_mem _ (List.mem_cons_of_mem _ (List.mem_cons_of_mem _ (List.mem_cons_of_mem _ List.mem_cons_self)))), in_tile (k0_off12_inb i ⟨n, hn⟩ k0_h2) n 11 (off12 ⟨n, hn⟩) y h0 hg⟩
        · exact ⟨_, List.mem_append_left _ (List.mem_cons_of_mem _ (List.mem_cons_of_mem _ (List.mem_cons_of_mem _ List.mem_cons_self))), in_tile (k0_off13_inb i ⟨n, hn⟩ k0_h2) n 12 (off13 ⟨n, hn⟩) y h0 hg⟩
        · exact ⟨_, List.mem_append_left _ (List.mem_cons_of_mem _ (List.mem_cons_of_mem _ List.mem_cons_self)), in_tile (k0_off14_inb i ⟨n, hn⟩ k0_h2) n 13 (off14 ⟨n, hn⟩) y h0 hg⟩
        · exact ⟨_, List.mem_append_left _ (List.mem_cons_of_mem _ List.mem_cons_self), in_tile (k0_off15_inb i ⟨n, hn⟩ k0_h2) n 14 (off15 ⟨n, hn⟩) y h0 hg⟩
        · exact ⟨_, List.mem_append_left _ (List.mem_cons_self), in_tile (k0_off16_inb i ⟨n, hn⟩ k0_h2) n 15 (off16 ⟨n, hn⟩) y h0 hg⟩

/-- The whole gradient. -/
theorem canonX (𝒱 : Variants) (c : Dev nD) (bd : Option 𝒱.V) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (v0 : Elt Ideal .f32) (k0_h2 : k0_cond2 i = 1#1) (v34495 : Elt Ideal .f32) (X_arg6 : BufTy.Contents (Elt Ideal) arg6.view.ty) (X_arg13 : BufTy.Contents (Elt Ideal) arg13.view.ty) (y : S1024x2048.Idx) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v0 k0_h2 v34495 X_arg6 X_arg13 (Scf.trips k0_t1_loop.lb k0_t1_loop.ub k0_t1_loop.st)).1 y
      = (arg13.view.read (Elt Ideal) X_arg13 y * (v0 * v34495) + arg6.view.read (Elt Ideal) X_arg6 y : EReal) := by
  obtain ⟨h1, h2⟩ := pbX 𝒱 c bd i arg1 harg1 arg2 harg2 arg3 harg3 arg4 harg4 arg5 harg5 arg6 harg6 arg7 harg7 arg8 harg8 arg9 harg9 arg10 harg10 arg11 harg11 arg12 harg12 arg13 harg13 v0 k0_h2 v34495 X_arg6 X_arg13 k0_t1_loop.trips le_rfl
  exact View.canon_apply_of_pieces (Val := Elt Ideal) (S := S1024x2048) (e := .bf16)
    (fun y => (arg13.view.read (Elt Ideal) X_arg13 y * (v0 * v34495) + arg6.view.read (Elt Ideal) X_arg6 y : EReal)) _ h1 y
    (h2 y (by rw [trips_eq]; exact (y 0).isLt))

end Cert.KernelIdeal.Unit

end
-- ==== Proof.Val.Cases.lean ====
/- What each case of the body leaves, element by element. -/
module

public import proofs.«01_k».proof.Proof.Val.PiecesA
public import proofs.«01_k».proof.Proof.Val.PiecesB
public import proofs.«01_k».proof.Proof.Val.PiecesC
public import proofs.«01_k».proof.Proof.Val.BlockX
public import proofs.«01_k».proof.Proof.Body.Frame

@[expose] public section

set_option maxRecDepth 16384

noncomputable section

namespace Cert.KernelIdeal.Unit

open Idealize.ShloMosaic.ValueIdx Cert.Quant Cert.KernelIdeal Cert.KernelIdeal.Gen Idealize.ShloMosaic Idealize.ShloMosaic.TcCoe Idealize.SL.Sem

theorem one_eq (y : S1x1.Idx) : y = ix2 (n0 := 1) (n1 := 1) 0 0 := by
  funext a
  match a with
  | ⟨0, _⟩ => exact Fin.ext (by have := (y 0).isLt; change (y 0).val < 1 at this; show (y 0).val = 0; omega)
  | ⟨1, _⟩ => exact Fin.ext (by have := (y 1).isLt; change (y 1).val < 1 at this; show (y 1).val = 0; omega)

theorem ldG_un {arg : Memref sig .tc .smem S1x1 .f32} (h : arg.IsWhole) (X : Vec Ideal S1x1 .f32) :
    ldG (F := Ideal) arg.view (h.unread X) = X (ix2 (n0 := 1) (n1 := 1) 0 0) := by
  have e : ldG (F := Ideal) arg.view (h.unread X) = arg.view.read (Elt Ideal) (h.unread X) (ix2 (n0 := 1) (n1 := 1) 0 0) :=
    congrArg (arg.view.read (Elt Ideal) (h.unread X)) (one_eq _)
  rw [e, h.read_unread]

theorem ldT_un {sp : Space} {e : EltTy} {arg : Memref sig .tc sp S1024x1024 e} (h : arg.IsWhole) (X : Vec Ideal S1024x1024 e) (u : Fin 32) (t : Fin 8) (r : Fin 32) (l : Fin 128) :
    ldT (F := Ideal) arg.view (h.unread X) u t (at32 r l) = X (ix2 (ur u r) (tl t l)) := by
  rw [ldT_at, h.read_unread]

theorem ldW_un {sp : Space} {arg : Memref sig .tc sp S1024x2048 .bf16} (h : arg.IsWhole) (X : Vec Ideal S1024x2048 .bf16) :
    ldW (F := Ideal) arg.view (h.unread X) = X := by
  funext y
  have e : (Rect.unit (s := S1024x2048) ![0, 0] S1024x2048.size inb_S1024x2048_S1024x2048_0_0).emb y = y := by
    funext a
    match a with
    | ⟨0, _⟩ => exact Fin.ext ((ValueKit.rect_emb_unit_val _ _ inb_S1024x2048_S1024x2048_0_0 _ 0).trans (Nat.zero_add _))
    | ⟨1, _⟩ => exact Fin.ext ((ValueKit.rect_emb_unit_val _ _ inb_S1024x2048_S1024x2048_0_0 _ 1).trans (Nat.zero_add _))
  have e2 : ldW (F := Ideal) arg.view (h.unread X) y = arg.view.read (Elt Ideal) (h.unread X) y :=
    congrArg (arg.view.read (Elt Ideal) (h.unread X)) e
  rw [e2, h.read_unread]

theorem ldA_un {sp : Space} {arg : Memref sig .tc sp S1024x2048 .f32} (h : arg.IsWhole) (X : Vec Ideal S1024x2048 .f32) (r : Fin 4) (i : Fin 256) (c : Fin 2048) :
    arg.view.readAt (Elt Ideal) (rAcc r).toLoadRect (h.unread X) (ix2 i c) = X (ix2 (qr r i) c) := by
  have e2 : arg.view.readAt (Elt Ideal) (rAcc r).toLoadRect (h.unread X) (ix2 i c) = arg.view.read (Elt Ideal) (h.unread X) (ix2 (qr r i) c) :=
    congrArg (arg.view.read (Elt Ideal) (h.unread X)) (rAcc_emb r i c)
  rw [e2, h.read_unread]

theorem ldD_un {sp : Space} {arg : Memref sig .tc sp S1024x1024 .bf16} (h : arg.IsWhole) (X : Vec Ideal S1024x1024 .bf16) (r : Fin 4) (i : Fin 256) (c : Fin 1024) :
    arg.view.readAt (Elt Ideal) (rDq r).toLoadRect (h.unread X) (ix2 i c) = X (ix2 (qr r i) c) := by
  have e2 : arg.view.readAt (Elt Ideal) (rDq r).toLoadRect (h.unread X) (ix2 i c) = arg.view.read (Elt Ideal) (h.unread X) (ix2 (qr r i) c) :=
    congrArg (arg.view.read (Elt Ideal) (h.unread X)) (rDq_emb r i c)
  rw [e2, h.read_unread]

/-- The accumulation of one point. -/
def accum (A : S1024x2048.Idx → EReal) (D : S1024x1024.Idx → EReal) (W : S1024x2048.Idx → EReal) (y : S1024x2048.Idx) : EReal :=
  A y + ∑ k : Fin 1024, D (ix2 (y 0) k) * W (ix2 k (y 1))

theorem accum_canon {a5 : Memref sig .tc .vmem S1024x2048 .bf16} (h5 : a5.IsWhole) {a12 : Memref sig .tc .vmem S1024x1024 .bf16} (h12 : a12.IsWhole)
    {a13 : Memref sig .tc .vmem S1024x2048 .f32} (h13 : a13.IsWhole) (x4 : Vec Ideal S1024x2048 .bf16) (xs0 : Vec Ideal S1024x1024 .bf16) (xs1 : Vec Ideal S1024x2048 .f32) (y : S1024x2048.Idx) :
    View.canon (piecesA (F := Ideal) (fun r => a13.view.readAt (Elt Ideal) (rAcc r).toLoadRect (h13.unread xs1)) (fun r => a12.view.readAt (Elt Ideal) (rDq r).toLoadRect (h12.unread xs0)) (ldW a5.view (h5.unread x4))) y
      = accum xs1 xs0 x4 y := by
  rw [ldW_un h5 x4]
  exact canonA xs1 xs0 x4 _ _ (ldA_un h13 xs1) (ldD_un h12 xs0) y

theorem eqA_6 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : cond0_0 i) (hc1 : ¬cond0_1 i)
    (x0 : Vec Ideal S1x1 .f32) (x1 : Vec Ideal S1x1 .f32) (x2 : Vec Ideal S1024x1024 .bf16) (x3 : Vec Ideal S1024x1024 .i32) (x4 : Vec Ideal S1024x2048 .bf16) (x5 : Vec Ideal S1024x2048 .bf16) (y) :
    out0_A_6 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 y = bpack (k := 512) rfl (x0 (ix2 (n0 := 1) (n1 := 1) 0 0)) x2 x3 (y 0) (y 1) := by
  have e : out0_A_6 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 = View.canon _ := View.read_writes_junk_eq_canon (Val := Elt Ideal) VO0_6 _
  rw [e, runA_C]
  rw [ldG_un harg1 x0]
  exact canonC _ x2 x3 _ _ (ldT_un harg3 x2) (ldT_un harg4 x3) y

theorem eqA_s0 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : cond0_0 i) (hc1 : ¬cond0_1 i)
    (x0 : Vec Ideal S1x1 .f32) (x1 : Vec Ideal S1x1 .f32) (x2 : Vec Ideal S1024x1024 .bf16) (x3 : Vec Ideal S1024x1024 .i32) (x4 : Vec Ideal S1024x2048 .bf16) (x5 : Vec Ideal S1024x2048 .bf16) (y) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 y = bdyv (x0 (ix2 (n0 := 1) (n1 := 1) 0 0)) x2 x3 (y 0) (y 1) := by
  have e : sout0_A_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 = View.canon _ := View.read_writes_junk_eq_canon (Val := Elt Ideal) VS0_0 _
  rw [e, runA_D]
  rw [ldG_un harg1 x0]
  exact canonD _ x2 x3 _ _ (ldT_un harg3 x2) (ldT_un harg4 x3) 32 le_rfl [zeroD] y (y 0).isLt

theorem eqA_s1 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : cond0_0 i) (hc1 : ¬cond0_1 i)
    (x0 : Vec Ideal S1x1 .f32) (x1 : Vec Ideal S1x1 .f32) (x2 : Vec Ideal S1024x1024 .bf16) (x3 : Vec Ideal S1024x1024 .i32) (x4 : Vec Ideal S1024x2048 .bf16) (x5 : Vec Ideal S1024x2048 .bf16) (y) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 y = (0 : EReal) := by
  have e : sout0_A_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 = View.canon _ := View.read_writes_junk_eq_canon (Val := Elt Ideal) VS0_1 _
  rw [e, runA_A]
  exact canonA0 _ _ _ (fun r j => dA_zero _ _ _ _ r j) y

theorem eqB_6 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : ¬cond0_1 i)
    (x0 : Vec Ideal S1x1 .f32) (x1 : Vec Ideal S1x1 .f32) (x2 : Vec Ideal S1024x1024 .bf16) (x3 : Vec Ideal S1024x1024 .i32) (x4 : Vec Ideal S1024x2048 .bf16) (x5 : Vec Ideal S1024x2048 .bf16) (xs0 : Vec Ideal S1024x1024 .bf16) (xs1 : Vec Ideal S1024x2048 .f32) (y) :
    out0_B_6 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 y = bpack (k := 512) rfl (x0 (ix2 (n0 := 1) (n1 := 1) 0 0)) x2 x3 (y 0) (y 1) := by
  have e : out0_B_6 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 = View.canon _ := View.read_writes_junk_eq_canon (Val := Elt Ideal) VO0_6 _
  rw [e, runB_C]
  rw [ldG_un harg1 x0]
  exact canonC _ x2 x3 _ _ (ldT_un harg3 x2) (ldT_un harg4 x3) y

theorem eqB_s0 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : ¬cond0_1 i)
    (x0 : Vec Ideal S1x1 .f32) (x1 : Vec Ideal S1x1 .f32) (x2 : Vec Ideal S1024x1024 .bf16) (x3 : Vec Ideal S1024x1024 .i32) (x4 : Vec Ideal S1024x2048 .bf16) (x5 : Vec Ideal S1024x2048 .bf16) (xs0 : Vec Ideal S1024x1024 .bf16) (xs1 : Vec Ideal S1024x2048 .f32) (y) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 y = bdyv (x0 (ix2 (n0 := 1) (n1 := 1) 0 0)) x2 x3 (y 0) (y 1) := by
  have e : sout0_B_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 = View.canon _ := View.read_writes_junk_eq_canon (Val := Elt Ideal) VS0_0 _
  rw [e, runB_D]
  rw [ldG_un harg1 x0, ← List.append_nil (piecesD _ _ _ _ _)]
  exact canonD _ x2 x3 _ _ (ldT_un harg3 x2) (ldT_un harg4 x3) 32 le_rfl [] y (y 0).isLt

theorem eqB_s1 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : ¬cond0_1 i)
    (x0 : Vec Ideal S1x1 .f32) (x1 : Vec Ideal S1x1 .f32) (x2 : Vec Ideal S1024x1024 .bf16) (x3 : Vec Ideal S1024x1024 .i32) (x4 : Vec Ideal S1024x2048 .bf16) (x5 : Vec Ideal S1024x2048 .bf16) (xs0 : Vec Ideal S1024x1024 .bf16) (xs1 : Vec Ideal S1024x2048 .f32) (y) :
    sout0_B_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 y = accum xs1 xs0 x4 y := by
  have e : sout0_B_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 = View.canon _ := View.read_writes_junk_eq_canon (Val := Elt Ideal) VS0_1 _
  rw [e, runB_A]
  exact accum_canon harg5 harg12 harg13 x4 xs0 xs1 y

theorem eqC_6 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : cond0_1 i)
    (x0 : Vec Ideal S1x1 .f32) (x1 : Vec Ideal S1x1 .f32) (x2 : Vec Ideal S1024x1024 .bf16) (x3 : Vec Ideal S1024x1024 .i32) (x4 : Vec Ideal S1024x2048 .bf16) (x5 : Vec Ideal S1024x2048 .bf16) (xs0 : Vec Ideal S1024x1024 .bf16) (xs1 : Vec Ideal S1024x2048 .f32) (y) :
    out0_C_6 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 y = bpack (k := 512) rfl (x0 (ix2 (n0 := 1) (n1 := 1) 0 0)) x2 x3 (y 0) (y 1) := by
  have e : out0_C_6 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 = View.canon _ := View.read_writes_junk_eq_canon (Val := Elt Ideal) VO0_6 _
  rw [e, runC_C]
  rw [ldG_un harg1 x0]
  exact canonC _ x2 x3 _ _ (ldT_un harg3 x2) (ldT_un harg4 x3) y

theorem eqC_s0 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : cond0_1 i)
    (x0 : Vec Ideal S1x1 .f32) (x1 : Vec Ideal S1x1 .f32) (x2 : Vec Ideal S1024x1024 .bf16) (x3 : Vec Ideal S1024x1024 .i32) (x4 : Vec Ideal S1024x2048 .bf16) (x5 : Vec Ideal S1024x2048 .bf16) (xs0 : Vec Ideal S1024x1024 .bf16) (xs1 : Vec Ideal S1024x2048 .f32) (y) :
    sout0_C_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 y = bdyv (x0 (ix2 (n0 := 1) (n1 := 1) 0 0)) x2 x3 (y 0) (y 1) := by
  have e : sout0_C_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 = View.canon _ := View.read_writes_junk_eq_canon (Val := Elt Ideal) VS0_0 _
  rw [e, runC_D]
  rw [ldG_un harg1 x0, ← List.append_nil (piecesD _ _ _ _ _)]
  exact canonD _ x2 x3 _ _ (ldT_un harg3 x2) (ldT_un harg4 x3) 32 le_rfl [] y (y 0).isLt

theorem eqC_s1 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : cond0_1 i)
    (x0 : Vec Ideal S1x1 .f32) (x1 : Vec Ideal S1x1 .f32) (x2 : Vec Ideal S1024x1024 .bf16) (x3 : Vec Ideal S1024x1024 .i32) (x4 : Vec Ideal S1024x2048 .bf16) (x5 : Vec Ideal S1024x2048 .bf16) (xs0 : Vec Ideal S1024x1024 .bf16) (xs1 : Vec Ideal S1024x2048 .f32) (y) :
    sout0_C_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 y = (0 : EReal) := by
  have e : sout0_C_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 = View.canon _ := View.read_writes_junk_eq_canon (Val := Elt Ideal) VS0_1 _
  rw [e, runC_A]
  exact zeroA_canon _ y

theorem eqC_8 (c : Dev nD) (i : grid0.Coords) (arg1 : Memref sig .tc .smem S1x1 .f32) (harg1 : arg1.IsWhole) (arg2 : Memref sig .tc .smem S1x1 .f32) (harg2 : arg2.IsWhole) (arg3 : Memref sig .tc .vmem S1024x1024 .bf16) (harg3 : arg3.IsWhole) (arg4 : Memref sig .tc .vmem S1024x1024 .i32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x512 .i8) (harg7 : arg7.IsWhole) (arg8 : Memref sig .tc .vmem S1024x128 .fp8e4m3) (harg8 : arg8.IsWhole) (arg9 : Memref sig .tc .vmem S1024x2048 .bf16) (harg9 : arg9.IsWhole) (arg10 : Memref sig .tc .vmem S1024x2048 .fp8e4m3) (harg10 : arg10.IsWhole) (arg11 : Memref sig .tc .vmem S1024x64 .f32) (harg11 : arg11.IsWhole) (arg12 : Memref sig .tc .vmem S1024x1024 .bf16) (harg12 : arg12.IsWhole) (arg13 : Memref sig .tc .vmem S1024x2048 .f32) (harg13 : arg13.IsWhole) (hc0 : ¬cond0_0 i) (hc1 : cond0_1 i)
    (x0 : Vec Ideal S1x1 .f32) (x1 : Vec Ideal S1x1 .f32) (x2 : Vec Ideal S1024x1024 .bf16) (x3 : Vec Ideal S1024x1024 .i32) (x4 : Vec Ideal S1024x2048 .bf16) (x5 : Vec Ideal S1024x2048 .bf16) (xs0 : Vec Ideal S1024x1024 .bf16) (xs1 : Vec Ideal S1024x2048 .f32) (y) :
    out0_C_8 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 y = (accum xs1 xs0 x4 y * ((x0 (ix2 (n0 := 1) (n1 := 1) 0 0)) * x1 (ix2 (n0 := 1) (n1 := 1) 0 0)) + x5 y : EReal) := by
  have e : out0_C_8 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 = View.canon _ := View.read_writes_junk_eq_canon (Val := Elt Ideal) VO0_8 _
  rw [e, runC_X]
  rw [canonX, View.read_writes_junk_eq_canon (Val := Elt Ideal), accum_canon harg5 harg12 harg13 x4 xs0 xs1 y, harg6.read_unread, ldG_un harg1 x0, ldG_un harg2 x1]

end Cert.KernelIdeal.Unit

end
-- ==== Proof.Val.Fold.lean ====
/- What the points leave, one after the other: the codes, the dequantised block, the running sum and the gradient. -/
module

public import proofs.«01_k».proof.Proof.Val.Cases
public import proofs.«01_k».proof.Proof.Body.Value

@[expose] public section

set_option maxRecDepth 16384

noncomputable section

namespace Cert.KernelIdeal.Unit

open Idealize.ShloMosaic.ValueIdx Cert.Quant Cert.KernelIdeal Cert.KernelIdeal.Gen Idealize.ShloMosaic Idealize.ShloMosaic.TcCoe Idealize.SL.Sem
open Idealize.ShloMosaic.Pipeline (Dat)

/-! ## A block of an array -/

def ro (I : Fin 12) (i : Fin 1024) : Fin 12288 := ⟨1024 * I.val + i.val, by omega⟩
def co (J : Fin 16) (i : Fin 1024) : Fin 16384 := ⟨1024 * J.val + i.val, by omega⟩
def po (J : Fin 16) (i : Fin 512) : Fin 8192 := ⟨512 * J.val + i.val, by omega⟩

section
variable (g : EReal) (X : S1024x1024.Idx → EReal) (Y : S12288x16384.Idx → EReal) (R : S1024x1024.Idx → BitVec 32) (T : S12288x16384.Idx → BitVec 32)
  (I : Fin 12) (J : Fin 16) (hX : ∀ i c, X (ix2 i c) = Y (ix2 (ro I i) (co J c))) (hR : ∀ i c, R (ix2 i c) = T (ix2 (ro I i) (co J c)))

include hX in
theorem bscale_sub (i c : Fin 1024) : bscale g X i c = bscale g Y (ro I i) (co J c) := by
  unfold bscale bmax
  congr 1
  refine congrArg (Finset.univ.sup) (funext fun j => congrArg mag ?_)
  have h1 : 16 * (c.val / 16) + j.val < 1024 := by omega
  have h2 : 16 * ((co J c).val / 16) + j.val < 16384 := by show 16 * ((1024 * J.val + c.val) / 16) + j.val < 16384; omega
  rw [dif_pos h1, dif_pos h2, hX]
  congr 2
  exact Fin.ext (by show 1024 * J.val + (16 * (c.val / 16) + j.val) = 16 * ((1024 * J.val + c.val) / 16) + j.val; omega)

include hX hR in
theorem bcode_sub (i c : Fin 1024) : bcode g X R i c = bcode g Y T (ro I i) (co J c) := by
  unfold bcode
  rw [bscale_sub g X Y I J hX, hX, hR]

include hX hR in
theorem bdyv_sub (i c : Fin 1024) : bdyv g X R i c = bdyv g Y T (ro I i) (co J c) := by
  unfold bdyv
  rw [bscale_sub g X Y I J hX, bcode_sub g X Y R T I J hX hR]

include hX hR in
theorem bpack_sub (i : Fin 1024) (c : Fin 512) : bpack (k := 512) rfl g X R i c = bpack (k := 8192) rfl g Y T (ro I i) (po J c) := by
  unfold bpack
  rw [bcode_sub g X Y R T I J hX hR, bcode_sub g X Y R T I J hX hR]
  have e1 : co J ⟨2 * c.val, by omega⟩ = ⟨2 * (po J c).val, by omega⟩ := Fin.ext (by show 1024 * J.val + 2 * c.val = 2 * (512 * J.val + c.val); omega)
  have e2 : co J ⟨2 * c.val + 1, by omega⟩ = ⟨2 * (po J c).val + 1, by omega⟩ := Fin.ext (by show 1024 * J.val + (2 * c.val + 1) = 2 * (512 * J.val + c.val) + 1; omega)
  rw [e1, e2]
end

/-! ## The places of the windows' blocks -/

theorem idx2 : ∀ t : Fin cfg0.N, win0_2.index t = ![min t.val 191 / 16, min t.val 191 % 16] := by decide +kernel
theorem idx3 : ∀ t : Fin cfg0.N, win0_3.index t = ![min t.val 191 / 16, min t.val 191 % 16] := by decide +kernel
theorem idx4 : ∀ t : Fin cfg0.N, win0_4.index t = ![(t.val - 1) % 16, 0] := by decide +kernel
theorem idx5 : ∀ t : Fin cfg0.N, win0_5.index t = ![(t.val - 1) / 16, 0] := by decide +kernel
theorem idx6 : ∀ t : Fin cfg0.N, win0_6.index t = ![min t.val 191 / 16, min t.val 191 % 16] := by decide +kernel
theorem idx8 : ∀ t : Fin cfg0.N, win0_8.index t = ![(t.val - 1) / 16, 0] := by decide +kernel

variable (m : (ℓ : Loc nD τ sig) → Buf (Elt Ideal) ℓ) (c : Dev nD)

def aG : EReal := (m ((c : Thread nD τ).loc main_arg0) : S1x1.Idx → EReal) (ix2 (n0 := 1) (n1 := 1) 0 0)
def aWg : EReal := (m ((c : Thread nD τ).loc main_arg1) : S1x1.Idx → EReal) (ix2 (n0 := 1) (n1 := 1) 0 0)
def aDy : S12288x16384.Idx → EReal := m ((c : Thread nD τ).loc main_arg2)
def aRand : S12288x16384.Idx → BitVec 32 := m ((c : Thread nD τ).loc main_arg3)
def aW : S16384x2048.Idx → EReal := m ((c : Thread nD τ).loc main_arg4)
def aDres : S12288x2048.Idx → EReal := m ((c : Thread nD τ).loc main_arg5)

theorem tlt (t : Fin cfg0.N) : t.val < 193 := Nat.lt_of_lt_of_eq t.isLt N_0

def qI (t : Fin cfg0.N) : Fin 12 := ⟨min t.val 191 / 16, by omega⟩
def qJ (t : Fin cfg0.N) : Fin 16 := ⟨min t.val 191 % 16, by omega⟩
def mI (t : Fin cfg0.N) : Fin 12 := ⟨(t.val - 1) / 16, by have := tlt t; omega⟩
def mJ (t : Fin cfg0.N) : Fin 16 := ⟨(t.val - 1) % 16, by omega⟩

theorem ib0 (t : Fin cfg0.N) : (iblk m c 0 t : S1x1.Idx → EReal) (ix2 (n0 := 1) (n1 := 1) 0 0) = aG m c := by
  unfold aG
  have h : ∀ y : S1x1.Idx, y = ix2 (n0 := 1) (n1 := 1) 0 0 := one_eq
  exact congrArg (m ((c : Thread nD τ).loc main_arg0) : S1x1.Idx → EReal) (h _)

theorem ib1 (t : Fin cfg0.N) : (iblk m c 1 t : S1x1.Idx → EReal) (ix2 (n0 := 1) (n1 := 1) 0 0) = aWg m c := by
  unfold aWg
  have h : ∀ y : S1x1.Idx, y = ix2 (n0 := 1) (n1 := 1) 0 0 := one_eq
  exact congrArg (m ((c : Thread nD τ).loc main_arg1) : S1x1.Idx → EReal) (h _)

theorem ib2 (t : Fin cfg0.N) (i j : Fin 1024) : (iblk m c 2 t : S1024x1024.Idx → EReal) (ix2 i j) = aDy m c (ix2 (ro (qI t) i) (co (qJ t) j)) := by
  unfold aDy ro co qI qJ
  blk_ext [iblk, V, idx2 t]
  · show _ * 1024 + i.val = _; omega
  · show _ * 1024 + j.val = _; omega

theorem ib3 (t : Fin cfg0.N) (i j : Fin 1024) : (iblk m c 3 t : S1024x1024.Idx → BitVec 32) (ix2 i j) = aRand m c (ix2 (ro (qI t) i) (co (qJ t) j)) := by
  unfold aRand ro co qI qJ
  blk_ext [iblk, V, idx3 t]
  · show _ * 1024 + i.val = _; omega
  · show _ * 1024 + j.val = _; omega

theorem ib4 (t : Fin cfg0.N) (i : Fin 1024) (j : Fin 2048) : (iblk m c 4 t : S1024x2048.Idx → EReal) (ix2 i j) = aW m c (ix2 (co (mJ t) i) j) := by
  unfold aW co mJ
  blk_ext [iblk, V, idx4 t]
  · show _ * 1024 + i.val = _; omega

theorem ib5 (t : Fin cfg0.N) (i : Fin 1024) (j : Fin 2048) : (iblk m c 5 t : S1024x2048.Idx → EReal) (ix2 i j) = aDres m c (ix2 (ro (mI t) i) j) := by
  unfold aDres ro mI
  blk_ext [iblk, V, idx5 t]
  · show _ * 1024 + i.val = _; omega

/-! ## The two results, on the arrays -/

def dxSpec (g wg : EReal) (dy : S12288x16384.Idx → EReal) (rand : S12288x16384.Idx → BitVec 32) (w : S16384x2048.Idx → EReal) (dres : S12288x2048.Idx → EReal)
    (i : Fin 12288) (j : Fin 2048) : EReal :=
  (∑ k : Fin 16384, bdyv g dy rand i k * w (ix2 k j)) * (g * wg) + dres (ix2 i j)

/-! ## The points, one after the other -/

theorem dq_at (t : Fin cfg0.N) (y : S1024x1024.Idx) :
    ((outsAt0 m c t.val t.isLt).2.2.1 : S1024x1024.Idx → EReal) y = bdyv (aG m c) (aDy m c) (aRand m c) (ro (qI t) (y 0)) (co (qJ t) (y 1)) := by
  have fin : bdyv ((iblk m c 0 t : S1x1.Idx → EReal) (ix2 (n0 := 1) (n1 := 1) 0 0)) (iblk m c 2 t : S1024x1024.Idx → EReal) (iblk m c 3 t : S1024x1024.Idx → BitVec 32) (y 0) (y 1)
      = bdyv (aG m c) (aDy m c) (aRand m c) (ro (qI t) (y 0)) (co (qJ t) (y 1)) :=
    (congrArg (fun g => bdyv g _ _ _ _) (ib0 m c t)).trans (bdyv_sub _ _ _ _ _ _ _ (ib2 m c t) (ib3 m c t) _ _)
  by_cases h0 : t.val % 193 = 0
  · have h1 : ¬(t.val % 193 = 16 ∨ t.val % 193 = 32 ∨ t.val % 193 = 48 ∨ t.val % 193 = 64 ∨ t.val % 193 = 80 ∨ t.val % 193 = 96 ∨ t.val % 193 = 112 ∨ t.val % 193 = 128 ∨ t.val % 193 = 144 ∨ t.val % 193 = 160 ∨ t.val % 193 = 176 ∨ t.val % 193 = 192) := by omega
    rw [outsAt0_A m c t h0 h1]; dsimp only; rw [eqA_s0]; exact fin
  · by_cases h1 : (t.val % 193 = 16 ∨ t.val % 193 = 32 ∨ t.val % 193 = 48 ∨ t.val % 193 = 64 ∨ t.val % 193 = 80 ∨ t.val % 193 = 96 ∨ t.val % 193 = 112 ∨ t.val % 193 = 128 ∨ t.val % 193 = 144 ∨ t.val % 193 = 160 ∨ t.val % 193 = 176 ∨ t.val % 193 = 192)
    · rw [outsAt0_C m c t h0 h1]; dsimp only; rw [eqC_s0]; exact fin
    · rw [outsAt0_B m c t h0 h1]; dsimp only; rw [eqB_s0]; exact fin

theorem codes_at (t : Fin cfg0.N) (y : S1024x512.Idx) :
    ((outsAt0 m c t.val t.isLt).1 : S1024x512.Idx → BitVec 8) y = bpack (k := 8192) rfl (aG m c) (aDy m c) (aRand m c) (ro (qI t) (y 0)) (po (qJ t) (y 1)) := by
  have fin : bpack (k := 512) rfl ((iblk m c 0 t : S1x1.Idx → EReal) (ix2 (n0 := 1) (n1 := 1) 0 0)) (iblk m c 2 t : S1024x1024.Idx → EReal) (iblk m c 3 t : S1024x1024.Idx → BitVec 32) (y 0) (y 1)
      = bpack (k := 8192) rfl (aG m c) (aDy m c) (aRand m c) (ro (qI t) (y 0)) (po (qJ t) (y 1)) :=
    (congrArg (fun g => bpack (k := 512) rfl g _ _ _ _) (ib0 m c t)).trans (bpack_sub _ _ _ _ _ _ _ (ib2 m c t) (ib3 m c t) _ _)
  by_cases h0 : t.val % 193 = 0
  · have h1 : ¬(t.val % 193 = 16 ∨ t.val % 193 = 32 ∨ t.val % 193 = 48 ∨ t.val % 193 = 64 ∨ t.val % 193 = 80 ∨ t.val % 193 = 96 ∨ t.val % 193 = 112 ∨ t.val % 193 = 128 ∨ t.val % 193 = 144 ∨ t.val % 193 = 160 ∨ t.val % 193 = 176 ∨ t.val % 193 = 192) := by omega
    rw [outsAt0_A m c t h0 h1]; dsimp only; rw [eqA_6]; exact fin
  · by_cases h1 : (t.val % 193 = 16 ∨ t.val % 193 = 32 ∨ t.val % 193 = 48 ∨ t.val % 193 = 64 ∨ t.val % 193 = 80 ∨ t.val % 193 = 96 ∨ t.val % 193 = 112 ∨ t.val % 193 = 128 ∨ t.val % 193 = 144 ∨ t.val % 193 = 160 ∨ t.val % 193 = 176 ∨ t.val % 193 = 192)
    · rw [outsAt0_C m c t h0 h1]; dsimp only; rw [eqC_6]; exact fin
    · rw [outsAt0_B m c t h0 h1]; dsimp only; rw [eqB_6]; exact fin

/-- One product of the gradient's sum, zero outside the arrays. -/
def term (r k : ℕ) (j : Fin 2048) : EReal :=
  if h : r < 12288 ∧ k < 16384 then bdyv (aG m c) (aDy m c) (aRand m c) ⟨r, h.1⟩ ⟨k, h.2⟩ * aW m c (ix2 ⟨k, h.2⟩ j) else 0

def part (r s : ℕ) (j : Fin 2048) : EReal := ∑ k ∈ Finset.range (1024 * s), term m c r k j

theorem accum_step (t : Fin cfg0.N) (h : t.val ≠ 0) (xs0 : S1024x1024.Idx → EReal) (xs1 : S1024x2048.Idx → EReal)
    (h0 : ∀ y, xs0 y = bdyv (aG m c) (aDy m c) (aRand m c) (ro (mI t) (y 0)) (co (mJ t) (y 1)))
    (h1 : ∀ y, xs1 y = part m c (1024 * ((t.val - 1) / 16) + (y 0).val) ((t.val - 1) % 16) (y 1)) (y : S1024x2048.Idx) :
    accum xs1 xs0 (iblk m c 4 t : S1024x2048.Idx → EReal) y = part m c (1024 * ((t.val - 1) / 16) + (y 0).val) ((t.val - 1) % 16 + 1) (y 1) := by
  unfold accum
  rw [h1]
  unfold part
  rw [Nat.mul_add, Nat.mul_one, Finset.sum_range_add, ← Fin.sum_univ_eq_sum_range (fun x => term m c _ (1024 * ((t.val - 1) % 16) + x) (y 1))]
  refine congrArg _ (Finset.sum_congr rfl fun k _ => ?_)
  have ht := tlt t
  have hy : (y 0).val < 1024 := (y 0).isLt
  unfold term
  rw [dif_pos ⟨by omega, by omega⟩, h0]
  exact congrArg₂ (· * ·) rfl (ib4 m c t k (y 1))

theorem acc_at (n : ℕ) (hn : n < cfg0.N) (y : S1024x2048.Idx) :
    ((outsAt0 m c n hn).2.2.2 : S1024x2048.Idx → EReal) y = part m c (1024 * (n / 16) + (y 0).val) (n % 16) (y 1) := by
  induction n generalizing y with
  | zero =>
    have e := outsAt0_A m c ⟨0, hn⟩ (by dsimp only) (by dsimp only; omega)
    replace e := congrArg (fun p => p.2.2.2 y) e
    dsimp only at e
    rw [eqA_s1] at e
    refine e.trans ?_
    simp [part]
  | succ n ih =>
    have hlt : n + 1 < 193 := Nat.lt_of_lt_of_eq hn N_0
    have h0 : ¬(n + 1) % 193 = 0 := by omega
    by_cases h1 : ((n + 1) % 193 = 16 ∨ (n + 1) % 193 = 32 ∨ (n + 1) % 193 = 48 ∨ (n + 1) % 193 = 64 ∨ (n + 1) % 193 = 80 ∨ (n + 1) % 193 = 96 ∨ (n + 1) % 193 = 112 ∨ (n + 1) % 193 = 128 ∨ (n + 1) % 193 = 144 ∨ (n + 1) % 193 = 160 ∨ (n + 1) % 193 = 176 ∨ (n + 1) % 193 = 192)
    · have e := outsAt0_C m c ⟨n + 1, hn⟩ h0 h1
      replace e := congrArg (fun p => p.2.2.2 y) e
      dsimp only at e
      rw [eqC_s1] at e
      refine e.trans ?_
      have e : (n + 1) % 16 = 0 := by omega
      rw [e]; simp [part]
    · have e := outsAt0_B m c ⟨n + 1, hn⟩ h0 h1
      replace e := congrArg (fun p => p.2.2.2 y) e
      dsimp only at e
      rw [eqB_s1] at e
      refine e.trans ?_
      refine (accum_step m c ⟨n + 1, hn⟩ (Nat.succ_ne_zero n) _ _ (fun y => ?_) (fun y => ih (Nat.lt_of_succ_lt hn) y) y).trans ?_
      · refine (dq_at m c ⟨n, Nat.lt_of_succ_lt hn⟩ y).trans ?_
        have e1 : qI ⟨n, Nat.lt_of_succ_lt hn⟩ = mI ⟨n + 1, hn⟩ := Fin.ext (by show min n 191 / 16 = (n + 1 - 1) / 16; omega)
        have e2 : qJ ⟨n, Nat.lt_of_succ_lt hn⟩ = mJ ⟨n + 1, hn⟩ := Fin.ext (by show min n 191 % 16 = (n + 1 - 1) % 16; omega)
        rw [e1, e2]
      · have e1 : (n + 1 - 1) / 16 = (n + 1) / 16 := by omega
        have e2 : (n + 1 - 1) % 16 + 1 = (n + 1) % 16 := by omega
        show part m c (1024 * ((n + 1 - 1) / 16) + (y 0).val) ((n + 1 - 1) % 16 + 1) (y 1) = _
        rw [e1, e2]

theorem dx_at (t : Fin cfg0.N) (h0 : ¬t.val % 193 = 0)
    (h1 : (t.val % 193 = 16 ∨ t.val % 193 = 32 ∨ t.val % 193 = 48 ∨ t.val % 193 = 64 ∨ t.val % 193 = 80 ∨ t.val % 193 = 96 ∨ t.val % 193 = 112 ∨ t.val % 193 = 128 ∨ t.val % 193 = 144 ∨ t.val % 193 = 160 ∨ t.val % 193 = 176 ∨ t.val % 193 = 192)) (y : S1024x2048.Idx) :
    ((outsAt0 m c t.val t.isLt).2.1 : S1024x2048.Idx → EReal) y = dxSpec (aG m c) (aWg m c) (aDy m c) (aRand m c) (aW m c) (aDres m c) (ro (mI t) (y 0)) (y 1) := by
  have ht := tlt t
  have e := outsAt0_C m c t h0 h1
  replace e := congrArg (fun p => p.2.1 y) e
  dsimp only at e
  rw [eqC_8] at e
  refine e.trans ?_
  have hp : t.val - 1 < cfg0.N := Nat.lt_of_le_of_lt (Nat.sub_le _ _) t.isLt
  have ea := accum_step m c t (by omega) (outsAt0 m c (t.val - 1) hp).2.2.1 (outsAt0 m c (t.val - 1) hp).2.2.2 (fun y => by
    refine (dq_at m c ⟨t.val - 1, hp⟩ y).trans ?_
    have e1 : qI ⟨t.val - 1, hp⟩ = mI t := Fin.ext (by show min (t.val - 1) 191 / 16 = (t.val - 1) / 16; omega)
    have e2 : qJ ⟨t.val - 1, hp⟩ = mJ t := Fin.ext (by show min (t.val - 1) 191 % 16 = (t.val - 1) % 16; omega)
    rw [e1, e2]) (fun y => acc_at m c (t.val - 1) hp y) y
  have e5 : (iblk m c 5 t : S1024x2048.Idx → EReal) y = aDres m c (ix2 (ro (mI t) (y 0)) (y 1)) :=
    (congrArg (iblk m c 5 t : S1024x2048.Idx → EReal) (eq_ix2 y)).trans (ib5 m c t (y 0) (y 1))
  have es : part m c (1024 * ((t.val - 1) / 16) + (y 0).val) ((t.val - 1) % 16 + 1) (y 1)
      = ∑ k : Fin 16384, bdyv (aG m c) (aDy m c) (aRand m c) (ro (mI t) (y 0)) k * aW m c (ix2 k (y 1)) := by
    have e : (t.val - 1) % 16 + 1 = 16 := by omega
    rw [e]
    unfold part
    rw [← Fin.sum_univ_eq_sum_range (fun x => term m c _ x (y 1))]
    refine Finset.sum_congr rfl fun k _ => ?_
    have hy : (y 0).val < 1024 := (y 0).isLt
    unfold term
    rw [dif_pos ⟨by omega, k.isLt⟩]
    rfl
  unfold dxSpec
  rw [← es]
  exact congrArg₂ (· + ·) (congrArg₂ (· * ·) ea (congrArg₂ (· * ·) (ib0 m c t) (ib1 m c t))) e5

end Cert.KernelIdeal.Unit

end
-- ==== Proof.Val.Scales.lean ====
/- What one grid point leaves in the scales' buffer, as a function of the whole blocks. -/
module

public import proofs.«01_k».proof.Proof.Val.Block
public import proofs.«01_k».proof.Proof.Body.Scales

@[expose] public section

set_option maxRecDepth 16384

noncomputable section

namespace Cert.KernelIdeal.Unit

open Cert.KernelIdeal Cert.KernelIdeal.Gen Idealize.ShloMosaic Idealize.ShloMosaic.TcCoe Idealize.ShloMosaic.ValueIdx Cert.Quant

/-- The first column of the block of sixteen that lane `l` of the scales belongs to. -/
def sb (l : Fin 128) : Fin 1024 := ⟨16 * (l.val % 64), by omega⟩

/-- The tile and the lane in it of that column. -/
def sbT (l : Fin 128) : Fin 8 := ⟨l.val / 8 % 8, by omega⟩
def sbL (l : Fin 128) : Fin 128 := ⟨16 * (l.val % 8), by omega⟩

theorem nat_src : ∀ l : Fin 128,
    md (IntOp.ori (IntOp.shli .vector (IntOp.andi (BitVec.ofNat 32 l.val) 7#32) 4#32)
      (IntOp.shli .vector (IntOp.andi (IntOp.shrsi .vector (BitVec.ofNat 32 l.val) 3#32) 7#32) 1#32)).toNat = src (sbT l) (sbL l) := by decide +kernel

theorem natI_at (r : Fin 32) (l : Fin 128) : md (natI (at32 r l)).toNat = src (sbT l) (sbL l) := by
  rw [← nat_src, ← lane_at r l]
  rfl

theorem keep_bit : ∀ (l : Fin 128) (o : Fin 2), IntOp.andi (IntOp.cmpi .slt (BitVec.ofNat 32 l.val) 64#32) (BitVec.ofNat 1 o.val)
    = if l.val < 64 ∧ BitVec.ofNat 1 o.val = 1#1 then 1#1 else 0#1 := by decide +kernel

theorem keep_bit' (l : Fin 128) (o : BitVec 1) : IntOp.andi (IntOp.cmpi .slt (BitVec.ofNat 32 l.val) 64#32) o
    = if l.val < 64 ∧ o = 1#1 then 1#1 else 0#1 := by
  have h := keep_bit l ⟨o.toNat, o.isLt⟩
  simpa only [BitVec.ofNat_toNat, BitVec.setWidth_eq] using h

variable (g : EReal) (X : S1024x1024.Idx → EReal) (x : Fin 32 → Fin 8 → FVec Ideal S32x128 .bf16)
  (hx : ∀ u t r l, x u t (at32 r l) = X (ix2 (ur u r) (tl t l)))
  (o : BitVec 1) (old : Fin 32 → FVec Ideal S32x128 .fp8e4m3) (O : S1024x128.Idx → EReal) (hold : ∀ u r l, old u (at32 r l) = O (ix2 (ur u r) l))

include hx hold in
theorem storeS_at (u : Fin 32) (r : Fin 32) (l : Fin 128) :
    storeS (F := Ideal) o (uS g (x u)) (old u) (at32 r l)
      = if l.val < 64 ∧ o = 1#1 then O (ix2 (ur u r) l) else bscale g X (ur u r) (sb l) := by
  have e : (perm (uS (F := Ideal) g (x u)) natI (at32 r l) : EReal) = bscale g X (ur u r) (sb l) := by
    rw [perm_at, natI_at, uS_src]
    refine (sT_eq g X x hx u (sbT l) r (sbL l)).trans ?_
    congr 1
    exact Fin.ext (by simp only [tl, sbT, sbL, sb]; omega)
  show Scalar.select (IntOp.andi (IntOp.cmpi .slt (lane (at32 r l)) 64#32) o) (shapeCast S32x128 (old u) _ (at32 r l)) (perm (uS (F := Ideal) g (x u)) natI (at32 r l)) = _
  rw [shapeCast_self, lane_at, keep_bit', hold, e]
  split <;> rfl

theorem rS_emb (u : Fin 32) (r : Fin 32) (l : Fin 128) : (rS u).emb (at32 r l) = ix2 (ur u r) l := by
  funext a
  match a with
  | ⟨0, _⟩ => exact Fin.ext (ValueKit.rect_emb_unit_val _ _ (inbS u) _ 0)
  | ⟨1, _⟩ => exact Fin.ext ((ValueKit.rect_emb_unit_val _ _ (inbS u) _ 1).trans (Nat.zero_add _))

include hx hold in
theorem canonS (y : S1024x128.Idx) : View.canon (piecesS (F := Ideal) o g x old) y
    = if (y 1).val < 64 ∧ o = 1#1 then O y else bscale g X (y 0) (sb (y 1)) := by
  refine View.canon_apply_of_pieces (Val := Elt Ideal) (S := S1024x128) (e := .fp8e4m3)
    (fun y => if (y 1).val < 64 ∧ o = 1#1 then O y else bscale g X (y 0) (sb (y 1))) _ ?_ y ?_
  · intro p hp z
    simp only [piecesS, List.mem_map, List.mem_reverse, List.mem_finRange, true_and] at hp
    obtain ⟨u, rfl⟩ := hp
    obtain ⟨r, l, rfl⟩ : ∃ r l, z = at32 r l := ⟨z 0, z 1, eq_ix2 z⟩
    show storeS (F := Ideal) o (uS g (x u)) (old u) (at32 r l)
      = if ((rS u).emb (at32 r l) 1).val < 64 ∧ o = 1#1 then O ((rS u).emb (at32 r l)) else bscale g X ((rS u).emb (at32 r l) 0) (sb ((rS u).emb (at32 r l) 1))
    rw [rS_emb, storeS_at g X x hx o old O hold]
  · have h0 : (y 0).val < 1024 := (y 0).isLt
    exact ⟨_, mem_piecesS o g x old ⟨(y 0).val / 32, by omega⟩, mem_rS y (by omega)⟩

end Cert.KernelIdeal.Unit

end
-- ==== Proof.Val.ScalesArr.lean ====
/- The scales' array after the idealized kernel's run. -/
module

public import proofs.«01_k».proof.Proof.Val.Fold
public import proofs.«01_k».proof.Proof.Val.Scales

@[expose] public section

set_option maxRecDepth 16384

noncomputable section

namespace Cert.KernelIdeal.Unit

open Idealize.ShloMosaic.ValueIdx Cert.Quant Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx7 : ∀ t : Fin cfg0.N, win0_7.index t = ![min t.val 191 / 16, min t.val 191 % 16 / 2] := by decide +kernel

/-- The second points of the pairs. -/
theorem odd_iff : ∀ t : Fin cfg0.N, oddB (grid0.coords t) = 1#1 ↔ min t.val 191 % 2 = 1 := by decide +kernel

/-- The blocks are written back at second points. -/
theorem flush7 : ∀ t : Fin cfg0.N, (cfg0.win 7).flush t = true → oddB (grid0.coords t) = 1#1 := by decide +kernel

theorem ldS_un {arg : Memref sig .tc .vmem S1024x128 .fp8e4m3} (h : arg.IsWhole) (Y : Vec Ideal S1024x128 .fp8e4m3) (u : Fin 32) (r : Fin 32) (l : Fin 128) :
    ldS (F := Ideal) arg.view (h.unread Y) u (at32 r l) = Y (ix2 (ur u r) l) := by
  have e : ldS (F := Ideal) arg.view (h.unread Y) u (at32 r l) = arg.view.read (Elt Ideal) (h.unread Y) ((rS u).emb (at32 r l)) := rfl
  rw [e, h.read_unread, rS_emb]

/-- One point's scales: the lower lanes of a second point stay. -/
theorem scOut_at (t : Fin cfg0.N) (Y : Vec Ideal S1024x128 .fp8e4m3) (y : S1024x128.Idx) :
    (scOut m c t Y : S1024x128.Idx → EReal) y = if (y 1).val < 64 ∧ oddB (grid0.coords t) = 1#1 then (Y : S1024x128.Idx → EReal) y
      else bscale (aG m c) (aDy m c) (ro (qI t) (y 0)) (co (qJ t) (sb (y 1))) := by
  have e : scOut m c t Y = View.canon (scL m c t Y) := View.read_writes_junk_eq_canon _ _
  rw [e]
  unfold scL
  rw [ldG_un (hs0_0 t) (iblk m c 0 t)]
  refine (canonS _ (iblk m c 2 t : S1024x1024.Idx → EReal) _ (ldT_un (hs0_2 t) (iblk m c 2 t)) _ _ Y (ldS_un (hs0_7 t) Y) y).trans ?_
  have fin : bscale ((iblk m c 0 t : S1x1.Idx → EReal) (ix2 (n0 := 1) (n1 := 1) 0 0)) (iblk m c 2 t : S1024x1024.Idx → EReal) (y 0) (sb (y 1))
      = bscale (aG m c) (aDy m c) (ro (qI t) (y 0)) (co (qJ t) (sb (y 1))) :=
    (congrArg (fun g => bscale g _ _ _) (ib0 m c t)).trans (bscale_sub _ _ _ _ _ (ib2 m c t) _ _)
  exact congrArg (fun z => if (y 1).val < 64 ∧ oddB (grid0.coords t) = 1#1 then (Y : S1024x128.Idx → EReal) y else z) fin

/-- The array's column that lane `l` of point `n`'s block of scales is for, as a column of the quantised array. -/
def sc (n : ℕ) (l : Fin 128) : Fin 16384 := ⟨16 * (128 * (min n 191 % 16 / 2) + l.val), by omega⟩

/-- After point `n` the lanes written so far hold their scales. -/
theorem scAt_at (n : ℕ) (hn : n < cfg0.N) : ∀ y : S1024x128.Idx, (y 1).val < 64 ∨ oddB (grid0.coords ⟨n, hn⟩) = 1#1 →
    (scAt m c n hn : S1024x128.Idx → EReal) y = bscale (aG m c) (aDy m c) (ro (qI ⟨n, hn⟩) (y 0)) (sc n (y 1)) := by
  induction n with
  | zero =>
    intro y hy
    have h0 := (odd_iff ⟨0, hn⟩).1
    have ho : ¬ oddB (grid0.coords ⟨0, hn⟩) = 1#1 := fun h => by have h1 := h0 h; simp at h1
    have hl : (y 1).val < 64 := hy.resolve_right ho
    refine (scOut_at m c ⟨0, hn⟩ _ y).trans ?_
    rw [if_neg fun h => ho h.2]
    congr 1
    exact Fin.ext (by show 1024 * (min 0 191 % 16) + 16 * ((y 1).val % 64) = 16 * (128 * (min 0 191 % 16 / 2) + (y 1).val); omega)
  | succ n ih =>
    intro y hy
    have hN : n + 1 < 193 := tlt ⟨n + 1, hn⟩
    have h128 : (y 1).val < 128 := (y 1).isLt
    refine (scOut_at m c ⟨n + 1, hn⟩ _ y).trans ?_
    by_cases hk : (y 1).val < 64 ∧ oddB (grid0.coords ⟨n + 1, hn⟩) = 1#1
    · have ho : min (n + 1) 191 % 2 = 1 := (odd_iff ⟨n + 1, hn⟩).1 hk.2
      rw [if_pos hk, ih _ y (Or.inl hk.1)]
      congr 1
      · exact Fin.ext (by show 1024 * (min n 191 / 16) + _ = 1024 * (min (n + 1) 191 / 16) + _; omega)
      · exact Fin.ext (by show 16 * (128 * (min n 191 % 16 / 2) + _) = 16 * (128 * (min (n + 1) 191 % 16 / 2) + _); omega)
    · rw [if_neg hk]
      congr 1
      refine Fin.ext ?_
      show 1024 * (min (n + 1) 191 % 16) + 16 * ((y 1).val % 64) = 16 * (128 * (min (n + 1) 191 % 16 / 2) + (y 1).val)
      by_cases hl : (y 1).val < 64
      · have ho : ¬ min (n + 1) 191 % 2 = 1 := fun h => hk ⟨hl, (odd_iff ⟨n + 1, hn⟩).2 h⟩
        omega
      · have ho : min (n + 1) 191 % 2 = 1 := (odd_iff ⟨n + 1, hn⟩).1 (hy.resolve_left hl)
        omega

/-- The scales' array. -/
def scalesArr (g : EReal) (dy : S12288x16384.Idx → EReal) : S12288x1024.Idx → EReal :=
  fun y => bscale g dy (y 0) ⟨16 * (y 1).val, by have h : (y 1).val < 1024 := (y 1).isLt; omega⟩

theorem arr7 : (dats m 0 c).arrAt 7 cfg0.N = scalesArr (aG m c) (aDy m c) := by
  refine (dats m 0 c).arrAt_eq_of_covers 7 _ (by decide +kernel) fun t hf y => ?_
  have e : (((cfg0.win 7).blk t).view.emb y : S12288x1024.Idx)
      = ix2 (ro (qI t) ((y : S1024x128.Idx) 0)) ⟨128 * (min t.val 191 % 16 / 2) + ((y : S1024x128.Idx) 1).val, by have h : ((y : S1024x128.Idx) 1).val < 128 := ((y : S1024x128.Idx) 1).isLt; omega⟩ := by
    unfold ro qI
    blk_ext [idx7 t]
  refine Eq.trans ?_ (congrArg (scalesArr (aG m c) (aDy m c)) e).symm
  blk_simp
  rw [after0_7]
  exact scAt_at m c t.val t.isLt y (Or.inr (flush7 t hf))

end Cert.KernelIdeal.Unit

end
-- ==== Proof.Val.Final.lean ====
/- The arrays dx, codes and scales after the idealized kernel's run. -/
module

public import proofs.«01_k».proof.Proof.Val.ScalesArr

@[expose] public section

set_option maxRecDepth 16384

noncomputable section

namespace Cert.KernelIdeal.Unit

open Idealize.ShloMosaic.ValueIdx Cert.Quant Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem flush8 : ∀ t : Fin cfg0.N, (cfg0.win 8).flush t = true → ¬t.val % 193 = 0 ∧ (t.val % 193 = 16 ∨ t.val % 193 = 32 ∨ t.val % 193 = 48 ∨ t.val % 193 = 64 ∨ t.val % 193 = 80 ∨ t.val % 193 = 96 ∨ t.val % 193 = 112 ∨ t.val % 193 = 128 ∨ t.val % 193 = 144 ∨ t.val % 193 = 160 ∨ t.val % 193 = 176 ∨ t.val % 193 = 192) := by
  decide +kernel

/-- The codes' array. -/
def codesArr (g : EReal) (dy : S12288x16384.Idx → EReal) (rand : S12288x16384.Idx → BitVec 32) : S12288x8192.Idx → BitVec 8 :=
  fun y => bpack (k := 8192) rfl g dy rand (y 0) (y 1)

/-- The gradient's array. -/
def dxArr (g wg : EReal) (dy : S12288x16384.Idx → EReal) (rand : S12288x16384.Idx → BitVec 32) (w : S16384x2048.Idx → EReal) (dres : S12288x2048.Idx → EReal) :
    S12288x2048.Idx → EReal :=
  fun y => dxSpec g wg dy rand w dres (y 0) (y 1)

theorem arr6 : (dats m 0 c).arrAt 6 cfg0.N = codesArr (aG m c) (aDy m c) (aRand m c) := by
  refine (dats m 0 c).arrAt_eq_of_covers 6 _ (by decide +kernel) fun t hf y => ?_
  have e : (((cfg0.win 6).blk t).view.emb y : S12288x8192.Idx) = ix2 (ro (qI t) ((y : S1024x512.Idx) 0)) (po (qJ t) ((y : S1024x512.Idx) 1)) := by
    unfold ro po qI qJ
    blk_ext [idx6 t]
  refine Eq.trans ?_ (congrArg (codesArr (aG m c) (aDy m c) (aRand m c)) e).symm
  blk_simp
  rw [after0_6]
  exact codes_at m c t y

theorem arr8 : (dats m 0 c).arrAt 8 cfg0.N = dxArr (aG m c) (aWg m c) (aDy m c) (aRand m c) (aW m c) (aDres m c) := by
  refine (dats m 0 c).arrAt_eq_of_covers 8 _ (by decide +kernel) fun t hf y => ?_
  have e : (((cfg0.win 8).blk t).view.emb y : S12288x2048.Idx) = ix2 (ro (mI t) ((y : S1024x2048.Idx) 0)) ((y : S1024x2048.Idx) 1) := by
    unfold ro mI
    blk_ext [idx8 t]
  obtain ⟨h0, h1⟩ := flush8 t hf
  refine Eq.trans ?_ (congrArg (dxArr (aG m c) (aWg m c) (aDy m c) (aRand m c) (aW m c) (aDres m c)) e).symm
  blk_simp
  rw [after0_8]
  exact dx_at m c t h0 h1 y

variable (ρ : Dev nD → PrngReg)

/-- The run of the idealized kernel: dx, the codes, the scales, and the arguments kept. -/
theorem run : θ_run defs (onTc (τ := τ) (main (F := Ideal))) ⟨m, fun _ => 0, ρ⟩ fun r => ∀ c : Dev nD,
      r.2.mem ((c : Thread nD τ).loc main_v0_2) = dxArr (aG m c) (aWg m c) (aDy m c) (aRand m c) (aW m c) (aDres m c)
      ∧ r.2.mem ((c : Thread nD τ).loc main_v0_0) = codesArr (aG m c) (aDy m c) (aRand m c)
      ∧ r.2.mem ((c : Thread nD τ).loc main_v0_1) = scalesArr (aG m c) (aDy m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs (onTc (τ := τ) (main (F := Ideal))) ⟨m, fun _ => 0, ρ⟩).mono (fun r h c =>
    ⟨(h c).2.1.trans (arr8 m c), (h c).1.trans (arr6 m c), (h c).2.2.1.trans (arr7 m c), (h c).2.2.2⟩) (Value.run_blocks m ρ)

end Cert.KernelIdeal.Unit

end
-- ==== Proof.Val.Ref.lean ====
/- The reference's three results, element by element. -/
module

public import proofs.«01_k».proof.Proof.Val.Block
public import proofs.«01_k».proof.Proof.Gen.ReferenceIdeal.Value

@[expose] public section

set_option maxRecDepth 16384

noncomputable section

namespace Cert.ReferenceIdeal.Unit

open Idealize.ShloMosaic.ValueIdx Cert.Quant Cert.ReferenceIdeal Cert.ReferenceIdeal.Gen Idealize.ShloMosaic Idealize.ShloMosaic.TcCoe Idealize.SL.Sem
open Cert.KernelIdeal.Unit (bmax bscale bcode bdyv bpack)

/-! ## The changes of layout -/

/-- Element `j` of block `b`. -/
def bc (b : Fin 1024) (j : Fin 16) : Fin 16384 := ⟨16 * b.val + j.val, by omega⟩
/-- Half `e` of the pair `p`. -/
def pc (p : Fin 8192) (e : Fin 2) : Fin 16384 := ⟨2 * p.val + e.val, by omega⟩
def bOf (k : Fin 16384) : Fin 1024 := ⟨k.val / 16, by omega⟩
def jOf (k : Fin 16384) : Fin 16 := ⟨k.val % 16, by omega⟩
def pOf (k : Fin 16384) : Fin 8192 := ⟨k.val / 2, by omega⟩
def eOf (k : Fin 16384) : Fin 2 := ⟨k.val % 2, by omega⟩

section
variable {α : Type}

theorem sc_in (x : S12288x16384.Idx → α) (h) (i : Fin 12288) (b : Fin 1024) (j : Fin 16) :
    shapeCast S12288x1024x16 x h (ix3 i b j) = x (ix2 i (bc b j)) :=
  shapeCast_apply x h _ _ (by
    rw [Shape.rowMajor_val_two, Shape.rowMajor_val_three]
    show i.val * 16384 + (16 * b.val + j.val) = (i.val * 1024 + b.val) * 16 + j.val
    omega)

theorem sc_pair (x : S12288x1024x16.Idx → α) (h) (i : Fin 12288) (p : Fin 8192) (e : Fin 2) :
    shapeCast S12288x8192x2 x h (ix3 i p e) = x (ix3 i (bOf (pc p e)) (jOf (pc p e))) :=
  shapeCast_apply x h _ _ (by
    rw [Shape.rowMajor_val_three, Shape.rowMajor_val_three]
    show (i.val * 1024 + (2 * p.val + e.val) / 16) * 16 + (2 * p.val + e.val) % 16 = (i.val * 8192 + p.val) * 2 + e.val
    omega)

theorem sc_drop (x : S12288x8192x1.Idx → α) (h) (i : Fin 12288) (p : Fin 8192) :
    shapeCast S12288x8192 x h (ix2 i p) = x (ix3 i p 0) :=
  shapeCast_apply x h _ _ (by
    rw [Shape.rowMajor_val_three, Shape.rowMajor_val_two]
    show (i.val * 8192 + p.val) * 1 + 0 = i.val * 8192 + p.val
    omega)

theorem sc_add (x : S12288x8192.Idx → α) (h) (i : Fin 12288) (p : Fin 8192) (u : Fin 1) :
    shapeCast S12288x8192x1 x h (ix3 i p u) = x (ix2 i p) :=
  shapeCast_apply x h _ _ (by
    rw [Shape.rowMajor_val_three, Shape.rowMajor_val_two]
    show i.val * 8192 + p.val = (i.val * 8192 + p.val) * 1 + u.val
    omega)

theorem sc_unpair (x : S12288x8192x2.Idx → α) (h) (i : Fin 12288) (b : Fin 1024) (j : Fin 16) :
    shapeCast S12288x1024x16 x h (ix3 i b j) = x (ix3 i (pOf (bc b j)) (eOf (bc b j))) :=
  shapeCast_apply x h _ _ (by
    rw [Shape.rowMajor_val_three, Shape.rowMajor_val_three]
    show (i.val * 8192 + (16 * b.val + j.val) / 2) * 2 + (16 * b.val + j.val) % 2 = (i.val * 1024 + b.val) * 16 + j.val
    omega)

theorem sc_out (x : S12288x1024x16.Idx → α) (h) (i : Fin 12288) (k : Fin 16384) :
    shapeCast S12288x16384 x h (ix2 i k) = x (ix3 i (bOf k) (jOf k)) :=
  shapeCast_apply x h _ _ (by
    rw [Shape.rowMajor_val_three, Shape.rowMajor_val_two]
    show (i.val * 1024 + k.val / 16) * 16 + k.val % 16 = i.val * 16384 + k.val
    omega)

/-- A number per block, given to each of its elements. -/
theorem bcast (x : S12288x1024.Idx → α) (h) (h') (i : Fin 12288) (b : Fin 1024) (j : Fin 16) :
    broadcastTo S12288x1024x16 (shapeCast S12288x1024x1 x h) h' (ix3 i b j) = x (ix2 i b) := by
  rw [broadcastTo_apply (shapeCast S12288x1024x1 x h) h' (ix3 i b j) (ix3 i b 0) (fun a => by
    match a with
    | ⟨0, _⟩ => rfl
    | ⟨1, _⟩ => rfl
    | ⟨2, _⟩ => rfl)]
  exact shapeCast_apply x h _ _ (by
    rw [Shape.rowMajor_val_three, Shape.rowMajor_val_two]
    show i.val * 1024 + b.val = (i.val * 1024 + b.val) * 1 + 0
    omega)

theorem half0 (x : S12288x8192x2.Idx → α) (h) (i : Fin 12288) (p : Fin 8192) :
    extractStridedSlice S12288x8192x1 ![0, 0, 0] x h (ix3 i p 0) = x (ix3 i p 0) :=
  extractStridedSlice_apply _ x h _ _ (fun a => by
    match a with
    | ⟨0, _⟩ => exact (Nat.zero_add _).symm
    | ⟨1, _⟩ => exact (Nat.zero_add _).symm
    | ⟨2, _⟩ => rfl)

theorem half1 (x : S12288x8192x2.Idx → α) (h) (i : Fin 12288) (p : Fin 8192) :
    extractStridedSlice S12288x8192x1 ![0, 0, 1] x h (ix3 i p 0) = x (ix3 i p 1) :=
  extractStridedSlice_apply _ x h _ _ (fun a => by
    match a with
    | ⟨0, _⟩ => exact (Nat.zero_add _).symm
    | ⟨1, _⟩ => exact (Nat.zero_add _).symm
    | ⟨2, _⟩ => rfl)

theorem cat0 (x y : S12288x8192x1.Idx → α) (h) (i : Fin 12288) (p : Fin 8192) :
    concatenate S12288x8192x2 2 [⟨S12288x8192x1, x⟩, ⟨S12288x8192x1, y⟩] h (ix3 i p 0) = x (ix3 i p 0) :=
  concatenate_pair_apply_left (s₁ := S12288x8192x1) (s₂ := S12288x8192x1) (t := S12288x8192x2) 2 x y h (ix3 i p 0) rfl (ix3 i p 0) (fun b => by
    match b with
    | ⟨0, _⟩ => rfl
    | ⟨1, _⟩ => rfl
    | ⟨2, _⟩ => rfl)

theorem cat1 (x y : S12288x8192x1.Idx → α) (h) (i : Fin 12288) (p : Fin 8192) :
    concatenate S12288x8192x2 2 [⟨S12288x8192x1, x⟩, ⟨S12288x8192x1, y⟩] h (ix3 i p 1) = y (ix3 i p 0) :=
  concatenate_pair_apply_right (s₁ := S12288x8192x1) (s₂ := S12288x8192x1) (t := S12288x8192x2) 2 x y h (ix3 i p 1) rfl rfl (ix3 i p 0) (fun b hb => by
    match b, hb with
    | ⟨0, _⟩, _ => rfl
    | ⟨1, _⟩, _ => rfl
    | ⟨2, _⟩, hb => exact absurd rfl hb) rfl
end

/-! ## The quantiser -/

section
variable (a0 a1 : Vec Ideal S1x1 .f32) (a2 : Vec Ideal S12288x16384 .bf16) (a3 : Vec Ideal S12288x16384 .i32) (a4 : Vec Ideal S16384x2048 .bf16) (a5 : Vec Ideal S12288x2048 .bf16)

def g0 : EReal := a0 (ix2 (n0 := 1) (n1 := 1) 0 0)

theorem pay2_eq : k0_pay2 (F := Ideal) a0 = g0 a0 := by
  unfold k0_pay2 g0
  refine congrArg a0 (funext fun a => ?_)
  match a with
  | ⟨0, _⟩ => rfl
  | ⟨1, _⟩ => rfl

theorem pay3_at (i : Fin 12288) (b : Fin 1024) (j : Fin 16) : k0_pay3 (F := Ideal) a2 (ix3 i b j) = a2 (ix2 i (bc b j)) := by
  unfold k0_pay3
  exact sc_in _ _ i b j

theorem c_ninf : Ideal.ofBits .f32 0xFF800000#32 = (⊥ : EReal) := by
  rfl

theorem lift_eq (i : Fin 12288) (b : Fin 1024) (j : Fin 16) :
    reduces_S12288x1024x16_S12288x1024.lift (a := (2 : Fin 3)) (ix2 i b) j = ix3 i b j := by
  funext a
  match a with
  | ⟨0, _⟩ => rfl
  | ⟨1, _⟩ => rfl
  | ⟨2, _⟩ => rfl

theorem amax_at (i : Fin 12288) (b : Fin 1024) :
    multiReduction (F := Ideal) .maximumf [2] S12288x1024 (absf (k0_pay3 (F := Ideal) a2)) 0xFF800000#32 reduces_S12288x1024x16_S12288x1024 (.inl rfl) rfl (ix2 i b)
      = Finset.univ.sup fun j : Fin 16 => mag (a2 (ix2 i (bc b j))) := by
  have e := Ideal.multiReduction_maximumf_single (φ := .f32) (a := (2 : Fin 3)) (absf (k0_pay3 (F := Ideal) a2)) 0xFF800000#32 reduces_S12288x1024x16_S12288x1024 (.inl rfl) rfl (ix2 i b)
  refine e.trans ?_
  show Finset.univ.sup _ = _
  refine congrArg (Finset.univ.sup) (funext fun j => ?_)
  show mag (k0_pay3 (F := Ideal) a2 (reduces_S12288x1024x16_S12288x1024.lift (a := (2 : Fin 3)) (ix2 i b) j)) = _
  exact (congrArg (fun y => mag (k0_pay3 (F := Ideal) a2 y)) (lift_eq i b j)).trans (congrArg mag (pay3_at a2 i b j))

theorem pay4_at (i : Fin 12288) (b : Fin 1024) :
    k0_pay4 (F := Ideal) a0 a2 (ix2 i b) = scale (g0 a0) (Finset.univ.sup fun j : Fin 16 => mag (a2 (ix2 i (bc b j)))) := by
  unfold k0_pay4
  show min (c32 0x43E00000#32) (max (c32 0x00000000#32) (Ideal.div (multiReduction (F := Ideal) .maximumf [2] S12288x1024 (absf (k0_pay3 (F := Ideal) a2)) 0xFF800000#32 reduces_S12288x1024x16_S12288x1024 (.inl rfl) rfl (ix2 i b)) (c32 0x40C00000#32 * k0_pay2 (F := Ideal) a0))) = _
  have e := amax_at a2 i b
  generalize multiReduction (F := Ideal) .maximumf [2] S12288x1024 (absf (k0_pay3 (F := Ideal) a2)) 0xFF800000#32 reduces_S12288x1024x16_S12288x1024 (.inl rfl) rfl (ix2 i b) = A at e ⊢
  rw [e, pay2_eq]
  rfl

theorem bmax_eq (i : Fin 12288) (b : Fin 1024) (j : Fin 16) :
    bmax a2 i (bc b j) = Finset.univ.sup fun j : Fin 16 => mag (a2 (ix2 i (bc b j))) := by
  unfold bmax
  refine congrArg (Finset.univ.sup) (funext fun k => ?_)
  have h : 16 * ((bc b j).val / 16) + k.val < 16384 := by simp only [bc]; omega
  rw [dif_pos h]
  congr 3
  apply Fin.ext
  simp only [bc]; omega

theorem bscale_eq (i : Fin 12288) (b : Fin 1024) (j : Fin 16) :
    k0_pay4 (F := Ideal) a0 a2 (ix2 i b) = bscale (g0 a0) a2 i (bc b j) := by
  rw [pay4_at]; unfold bscale; rw [bmax_eq]

theorem pay5_at (i : Fin 12288) (b : Fin 1024) (j : Fin 16) :
    k0_pay5 (F := Ideal) a0 a2 (ix3 i b j) = rV (a2 (ix2 i (bc b j))) (bscale (g0 a0) a2 i (bc b j) * g0 a0) := by
  unfold k0_pay5
  rw [shapeCast_self]
  show Scalar.select (broadcastTo S12288x1024x16 (shapeCast S12288x1024x1 _ _) _ (ix3 i b j))
    (Ideal.div (k0_pay3 (F := Ideal) a2 (ix3 i b j)) (broadcastTo S12288x1024x16 (shapeCast S12288x1024x1 _ _) _ (ix3 i b j))) (c32 0x00000000#32) = _
  rw [bcast, bcast, pay3_at]
  rw [← bscale_eq a0 a2 i b j, ← pay2_eq a0]
  rfl

/-- The reference's rounded magnitudes. -/
def qM : S12288x1024x16.Idx → EReal :=
  k0_pay10 (F := Ideal) (k0_pay6 a0 a2) (k0_pay7 a0 a2) (k0_pay8 a0 a2) (k0_pay9 a0 a2) (Scalar.ofBits .f32 0x3F800000#32) a3

theorem qM_at (i : Fin 12288) (b : Fin 1024) (j : Fin 16) :
    qM a0 a2 a3 (ix3 i b j) = rMag (rA (k0_pay5 (F := Ideal) a0 a2 (ix3 i b j))) (IntOp.shrui .vector (a3 (ix2 i (bc b j))) 8#32).toNat := by
  unfold qM k0_pay10
  show Scalar.select (Ideal.cmp .olt (shapeCast S12288x1024x16 _ _ (ix3 i b j)) _) _ _ = _
  rw [sc_in]
  rfl

/-- The reference's codes, packed. -/
def rPack : S12288x8192.Idx → BitVec 8 :=
  k0_pay16 (F := Ideal) (k0_pay5 a0 a2) (qM a0 a2 a3)
    (k0_pay11 (k0_pay6 a0 a2) (k0_pay7 a0 a2) (k0_pay8 a0 a2) (k0_pay9 a0 a2) (Scalar.ofBits .f32 0x3F800000#32) a3)
    (k0_pay12 (k0_pay6 a0 a2) (k0_pay7 a0 a2) (k0_pay8 a0 a2) (k0_pay9 a0 a2) (Scalar.ofBits .f32 0x3F800000#32) a3)
    (k0_pay13 (k0_pay6 a0 a2) (k0_pay7 a0 a2) (k0_pay8 a0 a2) (k0_pay9 a0 a2) (Scalar.ofBits .f32 0x3F800000#32) a3)
    (k0_pay14 (k0_pay6 a0 a2) (k0_pay7 a0 a2) (k0_pay8 a0 a2) (k0_pay9 a0 a2) (Scalar.ofBits .f32 0x3F800000#32) a3)
    k0_pay15

/-- The code of one element. -/
def rOne (y : S12288x1024x16.Idx) : BitVec 8 := rCodeOf (k0_pay5 (F := Ideal) a0 a2 y) (qM a0 a2 a3 y)

theorem rOne_at (i : Fin 12288) (b : Fin 1024) (j : Fin 16) : rOne a0 a2 a3 (ix3 i b j) = bcode (g0 a0) a2 a3 i (bc b j) := by
  unfold rOne bcode rCode
  rw [qM_at, pay5_at]

theorem bc_of (k : Fin 16384) : bc (bOf k) (jOf k) = k := Fin.ext (by simp only [bc, bOf, jOf]; omega)
theorem pc_of (k : Fin 16384) : pc (pOf k) (eOf k) = k := Fin.ext (by simp only [pc, pOf, eOf]; omega)

theorem rPack_at (i : Fin 12288) (p : Fin 8192) : rPack a0 a2 a3 (ix2 i p)
    = bcode (g0 a0) a2 a3 i (pc p 0) ||| bcode (g0 a0) a2 a3 i (pc p 1) <<< 4 := by
  unfold rPack k0_pay16
  show IntOp.ori (shapeCast S12288x8192 (extractStridedSlice S12288x8192x1 ![0, 0, 0] (shapeCast S12288x8192x2 (rOne a0 a2 a3) shapeCasts_S12288x1024x16_S12288x8192x2) slices_S12288x8192x2_o0_0_0_S12288x8192x1) shapeCasts_S12288x8192x1_S12288x8192 (ix2 i p))
    (IntOp.shli .vector (shapeCast S12288x8192 (extractStridedSlice S12288x8192x1 ![0, 0, 1] (shapeCast S12288x8192x2 (rOne a0 a2 a3) shapeCasts_S12288x1024x16_S12288x8192x2) slices_S12288x8192x2_o0_0_1_S12288x8192x1) shapeCasts_S12288x8192x1_S12288x8192 (ix2 i p)) 4#8) = _
  rw [sc_drop, sc_drop, half0, half1, sc_pair, sc_pair, rOne_at, rOne_at, bc_of, bc_of]
  rfl
/-! ## The dequantised gradient and the product -/

theorem unpack0 : ∀ c d : Fin 16, IntOp.andi (BitVec.setWidth 32 (Cert.KernelIdeal.Unit.nib c ||| Cert.KernelIdeal.Unit.nib d <<< 4)) 15#32 = (Cert.KernelIdeal.Unit.nib c).setWidth 32 := by decide
theorem unpack1 : ∀ c d : Fin 16, IntOp.andi (IntOp.shrsi .vector (BitVec.setWidth 32 (Cert.KernelIdeal.Unit.nib c ||| Cert.KernelIdeal.Unit.nib d <<< 4)) 4#32) 15#32 = (Cert.KernelIdeal.Unit.nib d).setWidth 32 := by decide

theorem bcode_nib (i : Fin 12288) (k : Fin 16384) : ∃ c : Fin 16, bcode (g0 a0) a2 a3 i k = Cert.KernelIdeal.Unit.nib c := by
  obtain ⟨c, -, h⟩ := Cert.KernelIdeal.Unit.code_ex (a2 (ix2 i k)) (bscale (g0 a0) a2 i k * g0 a0) (a3 (ix2 i k))
  exact ⟨c, h⟩

/-- The codes, unpacked again. -/
def rF : S12288x8192x2.Idx → BitVec 32 :=
  k0_pay17 (F := Ideal) (k0_pay5 a0 a2) (qM a0 a2 a3)
    (k0_pay11 (k0_pay6 a0 a2) (k0_pay7 a0 a2) (k0_pay8 a0 a2) (k0_pay9 a0 a2) (Scalar.ofBits .f32 0x3F800000#32) a3)
    (k0_pay12 (k0_pay6 a0 a2) (k0_pay7 a0 a2) (k0_pay8 a0 a2) (k0_pay9 a0 a2) (Scalar.ofBits .f32 0x3F800000#32) a3)
    (k0_pay13 (k0_pay6 a0 a2) (k0_pay7 a0 a2) (k0_pay8 a0 a2) (k0_pay9 a0 a2) (Scalar.ofBits .f32 0x3F800000#32) a3)
    (k0_pay14 (k0_pay6 a0 a2) (k0_pay7 a0 a2) (k0_pay8 a0 a2) (k0_pay9 a0 a2) (Scalar.ofBits .f32 0x3F800000#32) a3)
    k0_pay15

theorem rF_at (i : Fin 12288) (p : Fin 8192) (e : Fin 2) : rF a0 a2 a3 (ix3 i p e) = (bcode (g0 a0) a2 a3 i (pc p e)).setWidth 32 := by
  unfold rF k0_pay17
  obtain ⟨c, hc⟩ := bcode_nib a0 a2 a3 i (pc p 0)
  obtain ⟨d, hd⟩ := bcode_nib a0 a2 a3 i (pc p 1)
  have hP := rPack_at a0 a2 a3 i p
  rw [hc, hd] at hP
  match e with
  | ⟨0, _⟩ =>
    refine (cat0 _ _ _ i p).trans ?_
    rw [sc_add]
    show IntOp.andi (BitVec.setWidth 32 (rPack a0 a2 a3 (ix2 i p))) 15#32 = (bcode (g0 a0) a2 a3 i (pc p 0)).setWidth 32
    rw [hP, hc]
    exact unpack0 c d
  | ⟨1, _⟩ =>
    refine (cat1 _ _ _ i p).trans ?_
    rw [sc_add]
    show IntOp.andi (IntOp.shrsi .vector (BitVec.setWidth 32 (rPack a0 a2 a3 (ix2 i p))) 4#32) 15#32 = (bcode (g0 a0) a2 a3 i (pc p 1)).setWidth 32
    rw [hP, hd]
    exact unpack1 c d

/-- The dequantised value as an element of the unpacked codes. -/
def rD (y : S12288x8192x2.Idx) : EReal := rDec (rF a0 a2 a3 y)

theorem dec_at (i : Fin 12288) (k : Fin 16384) :
    shapeCast S12288x1024x16 (rD a0 a2 a3) shapeCasts_S12288x8192x2_S12288x1024x16 (ix3 i (bOf k) (jOf k)) = rDec ((bcode (g0 a0) a2 a3 i k).setWidth 32) := by
  rw [sc_unpair]
  unfold rD
  rw [rF_at, bc_of, pc_of]

/-- The dequantised gradient, as the product's left factor. -/
def rDy : S12288x16384.Idx → EReal :=
  shapeCast S12288x16384 (mulf (F := Ideal) (φ := .bf16) (shapeCast S12288x1024x16 (rD a0 a2 a3) shapeCasts_S12288x8192x2_S12288x1024x16)
    (broadcastTo S12288x1024x16 (shapeCast S12288x1024x1 (k0_pay4 (F := Ideal) a0 a2) shapeCasts_S12288x1024_S12288x1024x1) broadcasts_S12288x1024x1_S12288x1024x16))
    shapeCasts_S12288x1024x16_S12288x16384

theorem rDy_at (i : Fin 12288) (k : Fin 16384) : rDy a0 a2 a3 (ix2 i k) = bdyv (g0 a0) a2 a3 i k := by
  unfold rDy bdyv
  rw [sc_out]
  show shapeCast S12288x1024x16 (rD a0 a2 a3) shapeCasts_S12288x8192x2_S12288x1024x16 (ix3 i (bOf k) (jOf k)) * broadcastTo S12288x1024x16 (shapeCast S12288x1024x1 (k0_pay4 (F := Ideal) a0 a2) shapeCasts_S12288x1024_S12288x1024x1) broadcasts_S12288x1024x1_S12288x1024x16 (ix3 i (bOf k) (jOf k)) = _
  rw [dec_at, bcast, bscale_eq a0 a2 i (bOf k) (jOf k), bc_of]

theorem mm_at (x : FVec Ideal S12288x16384 .bf16) (w : FVec Ideal S16384x2048 .bf16) (i : Fin 12288) (c : Fin 2048) :
    matmul (F := Ideal) dot_S12288x16384_S16384x2048_S12288x2048_1_0_0_1_n_n none x w (constant S12288x2048 .f32 0x00000000#32) (ix2 i c) = ∑ k : Fin 16384, x (ix2 i k) * w (ix2 k c) := by
  show FloatOps.matmul _ _ x w _ (ix2 i c) = _
  rw [Ideal.matmul_apply]
  have h0 : constant (F := Ideal) S12288x2048 .f32 0x00000000#32 (ix2 i c) = (0 : EReal) := Cert.Quant.k_0
  rw [h0, zero_add]
  rw [← Equiv.sum_comp (contrEquiv1 dot_S12288x16384_S16384x2048_S12288x2048_1_0_0_1_n_n 16384 rfl rfl).symm]
  refine Finset.sum_congr rfl fun k _ => ?_
  congr 1
  · congr 1; funext a; match a with | ⟨0, _⟩ => rfl | ⟨1, _⟩ => rfl
  · congr 1; funext a; match a with | ⟨0, _⟩ => rfl | ⟨1, _⟩ => rfl

theorem ext00 : extractAt ![0, 0] a1 inpos_S1x1_p0_0 = g0 a1 := pay2_eq a1

theorem pay20_at (A B : S12288x8192x2.Idx → BitVec 32)
    (hA : ∀ y, A y = IntOp.andi (IntOp.shrsi .vector (rF a0 a2 a3 y) 3#32) 1#32) (hB : ∀ y, B y = 1#32)
    (i : Fin 12288) (c : Fin 2048) :
    k0_pay20 (F := Ideal) (k0_pay2 a0) (k0_pay4 a0 a2) (rF a0 a2 a3) A B a4 a1 (ix2 i c)
      = (∑ k : Fin 16384, bdyv (g0 a0) a2 a3 i k * a4 (ix2 k c)) * (g0 a0 * g0 a1) := by
  obtain rfl : A = _ := funext hA
  obtain rfl : B = _ := funext hB
  unfold k0_pay20
  show matmul (F := Ideal) dot_S12288x16384_S16384x2048_S12288x2048_1_0_0_1_n_n none (rDy a0 a2 a3) a4 (constant S12288x2048 .f32 0x00000000#32) (ix2 i c) * (k0_pay2 (F := Ideal) a0 * extractAt ![0, 0] a1 inpos_S1x1_p0_0) = _
  rw [mm_at, pay2_eq, ext00]
  simp only [rDy_at]

/-! ## The three results -/

theorem G7_at (i : Fin 12288) (p : Fin 8192) : Value.G7 (F := Ideal) a0 a1 a2 a3 a4 a5 (ix2 i p) = bpack (k := 8192) rfl (g0 a0) a2 a3 i p := by
  refine Eq.trans ?_ (rPack_at a0 a2 a3 i p)
  unfold Value.G7 k0_pay22 k0_pay27 k0_pay28 k0_pay29 k0_pay30 k0_pay31 k0_pay32 k0_pay23 k0_pay24 k0_pay25 k0_pay26
  have e0 : View.ld a0 r0_0 = a0 := View.ld_unit_zero (S := S1x1) Value.hz0 _ a0
  have e2 : View.ld a2 r0_1 = a2 := View.ld_unit_zero (S := S12288x16384) Value.hz2 _ a2
  have e3 : View.ld a3 r0_1 = a3 := View.ld_unit_zero (S := S12288x16384) Value.hz3 _ a3
  rw [e0, e2, e3]
  rfl

theorem G6_at (i : Fin 12288) (c : Fin 2048) : Value.G6 (F := Ideal) a0 a1 a2 a3 a4 a5 (ix2 i c)
    = (∑ k : Fin 16384, bdyv (g0 a0) a2 a3 i k * a4 (ix2 k c)) * (g0 a0 * g0 a1) + a5 (ix2 i c) := by
  refine Eq.trans ?_ (congrArg (· + a5 (ix2 i c)) (pay20_at a0 a1 a2 a3 a4 _ _ (fun y => rfl) (fun y => rfl) i c))
  unfold Value.G6 k0_pay21 k0_pay22 k0_pay27 k0_pay28 k0_pay29 k0_pay30 k0_pay31 k0_pay32 k0_pay23 k0_pay24 k0_pay25 k0_pay26
  have e0 : View.ld a0 r0_0 = a0 := View.ld_unit_zero (S := S1x1) Value.hz0 _ a0
  have e2 : View.ld a2 r0_1 = a2 := View.ld_unit_zero (S := S12288x16384) Value.hz2 _ a2
  have e3 : View.ld a3 r0_1 = a3 := View.ld_unit_zero (S := S12288x16384) Value.hz3 _ a3
  rw [e0, e2, e3]
  rfl

/-- A block's scale is that of its first element. -/
theorem G8_at (i : Fin 12288) (b : Fin 1024) : Value.G8 (F := Ideal) a0 a1 a2 a3 a4 a5 (ix2 i b) = bscale (g0 a0) a2 i ⟨16 * b.val, by omega⟩ := by
  refine Eq.trans ?_ (bscale_eq a0 a2 i b 0)
  unfold Value.G8 k0_pay21
  have e0 : View.ld a0 r0_0 = a0 := View.ld_unit_zero (S := S1x1) Value.hz0 _ a0
  have e2 : View.ld a2 r0_1 = a2 := View.ld_unit_zero (S := S12288x16384) Value.hz2 _ a2
  rw [e0, e2]
end

end Cert.ReferenceIdeal.Unit

end
-- ==== Proof.Prep.Trip.lean ====
/- The running maxima that one trip of the preparation's loop stores, as one fold over the trip's tiles. -/
module

public import proofs.«01_k».proof.Proof.Gen.PrepIdeal.Loops

@[expose] public section

set_option maxRecDepth 16384

noncomputable section

namespace Cert.PrepIdeal.Unit

open Cert.PrepIdeal Cert.PrepIdeal.Gen Idealize.ShloMosaic Idealize.ShloMosaic.TcCoe Idealize.SL.Sem

variable {F : FTy → Type} [FloatOps F]

/-- Where the tile of row `r` and column `c` of trip `k` begins. -/
def tOff (k : Fin k0_t1_loop.trips) (r : Fin 3) (c : Fin 128) : Fin 2 → ℕ :=
  ![k0_off1 k (BitVec.ofNat 32 (16 * r.val)) 0, 128 * c.val]

theorem tOff_row : ∀ (k : Fin k0_t1_loop.trips) (r : Fin 3), k0_off1 k (BitVec.ofNat 32 (16 * r.val)) 0 = 48 * k.val + 16 * r.val := by
  decide +kernel

theorem trips_eq : k0_t1_loop.trips = 4 := by decide +kernel

theorem tOff_inb (k : Fin k0_t1_loop.trips) (r : Fin 3) (c : Fin 128) : ∀ a, tOff k r c a + S16x128.size a ≤ S192x16384.size a := by
  have hk : k.val < 4 := lt_of_lt_of_eq k.isLt trips_eq
  have hr := r.isLt
  have hc := c.isLt
  intro a
  match a with
  | ⟨0, _⟩ => show k0_off1 k (BitVec.ofNat 32 (16 * r.val)) 0 + 16 ≤ 192; rw [tOff_row]; omega
  | ⟨1, _⟩ => show 128 * c.val + 128 ≤ 16384; omega

/-- A tile of the block of `dy`, loaded. -/
def tile (v : View sig .tc .vmem S192x16384 .bf16) (f : v.ty.Contents (Elt F)) (k : Fin k0_t1_loop.trips) (r : Fin 3) (c : Fin 128) : FVec F S16x128 .bf16 :=
  v.readAt (Elt F) (Rect.unit (s := S192x16384) (tOff k r c) S16x128.size (tOff_inb k r c)).toLoadRect f

/-- Column `4 q + j`. -/
def col (q : Fin 32) (j : Fin 4) : Fin 128 := ⟨4 * q.val + j.val, by omega⟩

/-- The tiles of one accumulator, in the order in which they are taken. -/
def order : List (Fin 3 × Fin 32) := (List.finRange 3).flatMap fun r => (List.finRange 32).map fun q => (r, q)

/-- Accumulator `j`: the largest magnitudes of its tiles, from `s`. -/
def accT (T : Fin 3 → Fin 128 → FVec F S16x128 .bf16) (s : FVec F S16x128 .bf16) (j : Fin 4) : FVec F S16x128 .bf16 :=
  order.foldl (fun a p => maximumf a (absf (T p.1 (col p.2 j)))) s

/-- The zeros that three of the accumulators start from. -/
def zeroT : FVec F S16x128 .bf16 := broadcast S16x128 (Scalar.ofBits .bf16 0x0000#16)

/-- The running maxima after a trip, from those before it and the trip's tiles. -/
def tripV (T : Fin 3 → Fin 128 → FVec F S16x128 .bf16) (s : FVec F S16x128 .bf16) : FVec F S16x128 .bf16 :=
  shapeCast S16x128 (maximumf (maximumf (accT T s 0) (accT T zeroT 1)) (maximumf (accT T zeroT 2) (accT T zeroT 3))) shapeCasts_S16x128_S16x128

/-- The whole of the scratch. -/
def rM : Rect S16x128 := Rect.unit (s := S16x128) ![0, 0] S16x128.size inb_S16x128_S16x128_0_0

/-- Trip `k` stores the running maxima once. -/
theorem trip_M (𝒱 : Variants) (c : Dev nD) (bd : Option 𝒱.V) (i : grid0.Coords) (arg1 : Memref sig .tc .vmem S192x16384 .bf16) (harg1 : arg1.IsWhole) (arg2 : Memref sig .tc .vmem S256x1024 .i8) (harg2 : arg2.IsWhole) (arg3 : Memref sig .tc .vmem S32x128 .fp8e4m3) (harg3 : arg3.IsWhole) (arg4 : Memref sig .tc .vmem S8x128 .f32) (harg4 : arg4.IsWhole) (arg5 : Memref sig .tc .vmem S256x2048 .bf16) (harg5 : arg5.IsWhole) (arg6 : Memref sig .tc .vmem S16x128 .bf16) (harg6 : arg6.IsWhole) (arg7 : Memref sig .tc .vmem S32x128 .f32) (harg7 : arg7.IsWhole) (v20 : BitVec 32) (v21 : IVec S8x128 32) (X_arg1 : BufTy.Contents (Elt F) arg1.view.ty) (X_arg2 : BufTy.Contents (Elt F) arg2.view.ty) (X_arg7 : BufTy.Contents (Elt F) arg7.view.ty) (k : Fin k0_t1_loop.trips) (f_arg5 : BufTy.Contents (Elt F) arg5.view.ty) (f_arg6 : BufTy.Contents (Elt F) arg6.view.ty) :
    (trip_k0_t1 𝒱 c bd i arg1 harg1 arg2 harg2 arg3 harg3 arg4 harg4 arg5 harg5 arg6 harg6 arg7 harg7 v20 v21 X_arg1 X_arg2 X_arg7 k).2.1 f_arg5 f_arg6
      = [⟨rM, tripV (tile arg1.view X_arg1 k) (arg6.view.readAt (Elt F) rM.toLoadRect f_arg6)⟩] := by
  sl_kernel_rfl

end Cert.PrepIdeal.Unit

end
-- ==== Proof.Prep.Step.lean ====
/- The running maxima of the preparation's loop, from its block of dy. -/
module

public import proofs.«01_k».proof.Proof.Prep.Trip
public import proofs.«01_k».proof.Proof.Val.Elem
public import Idealize.ShloMosaic.Lib.VecWindow
public import Idealize.ShloMosaic.Lib.Pipeline.Value

@[expose] public section

set_option maxRecDepth 16384

noncomputable section

namespace Cert.PrepIdeal.Unit

open Idealize.ShloMosaic.ValueIdx Cert.PrepIdeal Cert.PrepIdeal.Gen Idealize.ShloMosaic Idealize.ShloMosaic.TcCoe Idealize.SL.Sem

variable {F : FTy → Type} [FloatOps F]

/-- An entry of the block of `dy`: row `16 q + i`, column `128 c + l`. -/
def at16 (q : ℕ) (hq : q < 12) (c : Fin 128) (y : S16x128.Idx) : S192x16384.Idx :=
  ix2 (n0 := 192) (n1 := 16384) ⟨16 * q + (y 0).val, by have h : (y 0).val < 16 := (y 0).isLt; omega⟩ ⟨128 * c.val + (y 1).val, by have h : (y 1).val < 128 := (y 1).isLt; omega⟩

/-- A tile of the block of `dy`. -/
def tileX (x : FVec F S192x16384 .bf16) (k : Fin 4) (r : Fin 3) (c : Fin 128) : FVec F S16x128 .bf16 :=
  fun y => x (at16 (3 * k.val + r.val) (by omega) c y)

theorem tile_eq (v : View sig .tc .vmem S192x16384 .bf16) (f : v.ty.Contents (Elt F)) (k : Fin k0_t1_loop.trips) (hk : k.val < 4) :
    tile (F := F) v f k = tileX (v.read (Elt F) f) ⟨k.val, hk⟩ := by
  refine funext fun r => funext fun c => funext fun y => ?_
  refine congrArg (v.read (Elt F) f) (funext fun a => Fin.ext ?_)
  match a with
  | ⟨0, _⟩ => show k0_off1 k (BitVec.ofNat 32 (16 * r.val)) 0 + 1 * (y 0).val = 16 * (3 * k.val + r.val) + (y 0).val; rw [tOff_row]; omega
  | ⟨1, _⟩ => show 128 * c.val + 1 * (y 1).val = 128 * c.val + (y 1).val; omega

/-- The running maxima after `n` trips. -/
def Mn (x : FVec F S192x16384 .bf16) (s : FVec F S16x128 .bf16) : ℕ → FVec F S16x128 .bf16
  | 0 => s
  | n + 1 => if h : n < 4 then tripV (tileX x ⟨n, h⟩) (Mn x s n) else Mn x s n

theorem Mn_succ (x : FVec F S192x16384 .bf16) (s : FVec F S16x128 .bf16) (n : ℕ) (h : n < 4) :
    Mn x s (n + 1) = tripV (tileX x ⟨n, h⟩) (Mn x s n) := by
  rw [Mn, dif_pos h]

/-- What the scratch holds after `n` trips. -/
theorem pbRead (𝒱 : Variants) (c : Dev nD) (bd : Option 𝒱.V) (i : grid0.Coords) (arg1 : Memref sig .tc .vmem S192x16384 .bf16) (harg1 : arg1.IsWhole) (arg2 : Memref sig .tc .vmem S256x1024 .i8) (harg2 : arg2.IsWhole) (arg3 : Memref sig .tc .vmem S32x128 .fp8e4m3) (harg3 : arg3.IsWhole) (arg4 : Memref sig .tc .vmem S8x128 .f32) (harg4 : arg4.IsWhole) (arg5 : Memref sig .tc .vmem S256x2048 .bf16) (harg5 : arg5.IsWhole) (arg6 : Memref sig .tc .vmem S16x128 .bf16) (harg6 : arg6.IsWhole) (arg7 : Memref sig .tc .vmem S32x128 .f32) (harg7 : arg7.IsWhole) (v20 : BitVec 32) (v21 : IVec S8x128 32) (X_arg1 : BufTy.Contents (Elt F) arg1.view.ty) (X_arg2 : BufTy.Contents (Elt F) arg2.view.ty) (X_arg7 : BufTy.Contents (Elt F) arg7.view.ty) (G_arg5 : BufTy.Contents (Elt F) arg5.view.ty) (G_arg6 : BufTy.Contents (Elt F) arg6.view.ty) (n : ℕ) (hn : n ≤ k0_t1_loop.trips) :
    arg6.view.read (Elt F) (arg6.view.writes (Elt F) G_arg6 (pb_k0_t1 (F := F) 𝒱 c bd i arg1 harg1 arg2 harg2 arg3 harg3 arg4 harg4 arg5 harg5 arg6 harg6 arg7 harg7 v20 v21 X_arg1 X_arg2 X_arg7 G_arg5 G_arg6 n).2)
      = Mn (arg1.view.read (Elt F) X_arg1) (arg6.view.read (Elt F) G_arg6) n := by
  induction n with
  | zero => rfl
  | succ n ih =>
    have ih := ih (Nat.le_of_succ_le hn)
    have hN : n < 4 := lt_of_lt_of_eq hn trips_eq
    have e := congrArg Prod.snd (pb_k0_t1_succ (F := F) 𝒱 c bd i arg1 harg1 arg2 harg2 arg3 harg3 arg4 harg4 arg5 harg5 arg6 harg6 arg7 harg7 v20 v21 X_arg1 X_arg2 X_arg7 G_arg5 G_arg6 ⟨n, hn⟩)
    dsimp only at e
    rw [trip_M] at e
    rw [e]
    generalize (pb_k0_t1 (F := F) 𝒱 c bd i arg1 harg1 arg2 harg2 arg3 harg3 arg4 harg4 arg5 harg5 arg6 harg6 arg7 harg7 v20 v21 X_arg1 X_arg2 X_arg7 G_arg5 G_arg6 n).2 = L at ih ⊢
    have e2 : arg6.view.read (Elt F) (arg6.view.writes (Elt F) G_arg6 ([⟨rM, tripV (F := F) (tile arg1.view X_arg1 ⟨n, hn⟩) (arg6.view.readAt (Elt F) rM.toLoadRect (arg6.view.writes (Elt F) G_arg6 L))⟩] ++ L))
        = tripV (F := F) (tile arg1.view X_arg1 ⟨n, hn⟩) (arg6.view.readAt (Elt F) rM.toLoadRect (arg6.view.writes (Elt F) G_arg6 L)) :=
      View.read_writes_full _ _ _ _ _
    have e3 : arg6.view.readAt (Elt F) rM.toLoadRect (arg6.view.writes (Elt F) G_arg6 L) = arg6.view.read (Elt F) (arg6.view.writes (Elt F) G_arg6 L) :=
      View.readAt_full _ _ _
    rw [e2, e3, ih, tile_eq arg1.view X_arg1 ⟨n, hn⟩ hN]
    exact (Mn_succ _ _ n hN).symm

/-- What the scratch holds after the loop. -/
theorem pbEnd (𝒱 : Variants) (c : Dev nD) (bd : Option 𝒱.V) (i : grid0.Coords) (arg1 : Memref sig .tc .vmem S192x16384 .bf16) (harg1 : arg1.IsWhole) (arg2 : Memref sig .tc .vmem S256x1024 .i8) (harg2 : arg2.IsWhole) (arg3 : Memref sig .tc .vmem S32x128 .fp8e4m3) (harg3 : arg3.IsWhole) (arg4 : Memref sig .tc .vmem S8x128 .f32) (harg4 : arg4.IsWhole) (arg5 : Memref sig .tc .vmem S256x2048 .bf16) (harg5 : arg5.IsWhole) (arg6 : Memref sig .tc .vmem S16x128 .bf16) (harg6 : arg6.IsWhole) (arg7 : Memref sig .tc .vmem S32x128 .f32) (harg7 : arg7.IsWhole) (v20 : BitVec 32) (v21 : IVec S8x128 32) (X_arg1 : BufTy.Contents (Elt F) arg1.view.ty) (X_arg2 : BufTy.Contents (Elt F) arg2.view.ty) (X_arg7 : BufTy.Contents (Elt F) arg7.view.ty) (G_arg5 : BufTy.Contents (Elt F) arg5.view.ty) (G_arg6 : BufTy.Contents (Elt F) arg6.view.ty)
    (x : FVec F S192x16384 .bf16) (s : FVec F S16x128 .bf16) (hx : arg1.view.read (Elt F) X_arg1 = x) (hs : arg6.view.read (Elt F) G_arg6 = s) :
    arg6.view.read (Elt F) (arg6.view.writes (Elt F) G_arg6 (pb_k0_t1 (F := F) 𝒱 c bd i arg1 harg1 arg2 harg2 arg3 harg3 arg4 harg4 arg5 harg5 arg6 harg6 arg7 harg7 v20 v21 X_arg1 X_arg2 X_arg7 G_arg5 G_arg6 (Scf.trips k0_t1_loop.lb k0_t1_loop.ub k0_t1_loop.st)).2)
      = Mn x s 4 := by
  subst hx hs
  refine (pbRead 𝒱 c bd i arg1 harg1 arg2 harg2 arg3 harg3 arg4 harg4 arg5 harg5 arg6 harg6 arg7 harg7 v20 v21 X_arg1 X_arg2 X_arg7 G_arg5 G_arg6 k0_t1_loop.trips le_rfl).trans ?_
  rw [trips_eq]

end Cert.PrepIdeal.Unit

end
-- ==== Proof.Prep.RunA.lean ====
/- What the body of the preparation does at the first point. -/
module

public import proofs.«01_k».proof.Proof.Gen.PrepIdeal.Frame.Runs
public import proofs.«01_k».proof.Proof.Prep.Step

@[expose] public section

-- membership in a rectangle of production extents (`View.cover_of_tiled`): the elaborator's structural look
-- recurses once per coordinate of the long axes
set_option maxRecDepth 16384

noncomputable section

namespace Cert.PrepIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.PrepIdeal.Unit
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body does at the first point: it leaves the running maxima in their scratch. -/
theorem run0_A (c : Dev nD) (i : grid0.Coords) (arg1 : Memref sig .tc .vmem S192x16384 .bf16) (harg1 : arg1.IsWhole) (arg2 : Memref sig .tc .vmem S256x1024 .i8) (harg2 : arg2.IsWhole) (arg3 : Memref sig .tc .vmem S32x128 .fp8e4m3) (harg3 : arg3.IsWhole) (arg4 : Memref sig .tc .vmem S8x128 .f32) (harg4 : arg4.IsWhole) (arg5 : Memref sig .tc .vmem S256x2048 .bf16) (harg5 : arg5.IsWhole) (arg6 : Memref sig .tc .vmem S16x128 .bf16) (harg6 : arg6.IsWhole) (arg7 : Memref sig .tc .vmem S32x128 .f32) (harg7 : arg7.IsWhole) (hc0 : cond0_0 i) (hc1 : ¬cond0_1 i)
    (x0 : Vec F S192x16384 .bf16) (x1 : Vec F S256x1024 .i8) (x2 : Vec F S32x128 .fp8e4m3) (xi3 : Vec F S8x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d) ∗ owns (c : Thread nD τ) arg6 fullShare (Mn x0 (k0_pay1 (F := F)) 4) ∗ (∃ d, owns (c : Thread nD τ) arg7 fullShare d)) -∗ K ⟨⟩))
      ⊢ wp frame (wpE (defs₀ (F := F)) Variants.none c none) E (cc0_prep i arg1 harg1 arg2 harg2 arg3 harg3 arg4 harg4 arg5 harg5 arg6 harg6 arg7 harg7) K := by
  simp only [cc0_prep_eq_skeleton]; unfold cc0_prep_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _, _; isplitr; swap; · iexact H4
    ipureintro; rfl
  isplitl [HS0]
  · iexists _; isplitr; swap; · iexact HS0
    ipureintro
    refine (congrArg (arg6.view.read (Elt F)) (View.writes_append _ _ _ _)).trans ?_
    exact pbEnd _ _ _ _ _ _ _ _ _ _ _ _ _ _ _ _ _ _ _ _ _ _ _ _ _ _ _ hf0 (View.read_writes_full _ _ _ _ _)
  iexists _, _; isplitr; swap; · iexact HS1
  ipureintro; rfl

end Cert.PrepIdeal.Gen

end
-- ==== Proof.Prep.RunB.lean ====
/- What the body of the preparation does at a point between. -/
module

public import proofs.«01_k».proof.Proof.Prep.RunA

@[expose] public section

-- membership in a rectangle of production extents (`View.cover_of_tiled`): the elaborator's structural look
-- recurses once per coordinate of the long axes
set_option maxRecDepth 16384

noncomputable section

namespace Cert.PrepIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.PrepIdeal.Unit
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body does at a point between: it leaves the running maxima in their scratch. -/
theorem run0_B (c : Dev nD) (i : grid0.Coords) (arg1 : Memref sig .tc .vmem S192x16384 .bf16) (harg1 : arg1.IsWhole) (arg2 : Memref sig .tc .vmem S256x1024 .i8) (harg2 : arg2.IsWhole) (arg3 : Memref sig .tc .vmem S32x128 .fp8e4m3) (harg3 : arg3.IsWhole) (arg4 : Memref sig .tc .vmem S8x128 .f32) (harg4 : arg4.IsWhole) (arg5 : Memref sig .tc .vmem S256x2048 .bf16) (harg5 : arg5.IsWhole) (arg6 : Memref sig .tc .vmem S16x128 .bf16) (harg6 : arg6.IsWhole) (arg7 : Memref sig .tc .vmem S32x128 .f32) (harg7 : arg7.IsWhole) (hc0 : ¬cond0_0 i) (hc1 : ¬cond0_1 i)
    (x0 : Vec F S192x16384 .bf16) (x1 : Vec F S256x1024 .i8) (x2 : Vec F S32x128 .fp8e4m3) (xs0 : Vec F S16x128 .bf16) (xi3 : Vec F S8x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d) ∗ owns (c : Thread nD τ) arg6 fullShare xs0 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d) ∗ owns (c : Thread nD τ) arg6 fullShare (Mn x0 xs0 4) ∗ (∃ d, owns (c : Thread nD τ) arg7 fullShare d)) -∗ K ⟨⟩))
      ⊢ wp frame (wpE (defs₀ (F := F)) Variants.none c none) E (cc0_prep i arg1 harg1 arg2 harg2 arg3 harg3 arg4 harg4 arg5 harg5 arg6 harg6 arg7 harg7) K := by
  simp only [cc0_prep_eq_skeleton]; unfold cc0_prep_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg6.eq_unread hfs0
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _, _; isplitr; swap; · iexact H4
    ipureintro; rfl
  isplitl [HS0]
  · iexists _; isplitr; swap; · iexact HS0
    ipureintro
    exact pbEnd _ _ _ _ _ _ _ _ _ _ _ _ _ _ _ _ _ _ _ _ _ _ _ _ _ _ _ hf0 hfs0
  iexists _, _; isplitr; swap; · iexact HS1
  ipureintro; rfl

end Cert.PrepIdeal.Gen

end
-- ==== Proof.Prep.RunC.lean ====
/- What the body of the preparation does at the last point. -/
module

public import proofs.«01_k».proof.Proof.Prep.RunB

@[expose] public section

-- membership in a rectangle of production extents (`View.cover_of_tiled`): the elaborator's structural look
-- recurses once per coordinate of the long axes
set_option maxRecDepth 16384

noncomputable section

namespace Cert.PrepIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.PrepIdeal.Unit
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body does at the last point: it leaves the running maxima in their scratch. -/
theorem run0_C (c : Dev nD) (i : grid0.Coords) (arg1 : Memref sig .tc .vmem S192x16384 .bf16) (harg1 : arg1.IsWhole) (arg2 : Memref sig .tc .vmem S256x1024 .i8) (harg2 : arg2.IsWhole) (arg3 : Memref sig .tc .vmem S32x128 .fp8e4m3) (harg3 : arg3.IsWhole) (arg4 : Memref sig .tc .vmem S8x128 .f32) (harg4 : arg4.IsWhole) (arg5 : Memref sig .tc .vmem S256x2048 .bf16) (harg5 : arg5.IsWhole) (arg6 : Memref sig .tc .vmem S16x128 .bf16) (harg6 : arg6.IsWhole) (arg7 : Memref sig .tc .vmem S32x128 .f32) (harg7 : arg7.IsWhole) (hc0 : ¬cond0_0 i) (hc1 : cond0_1 i)
    (x0 : Vec F S192x16384 .bf16) (x1 : Vec F S256x1024 .i8) (x2 : Vec F S32x128 .fp8e4m3) (xs0 : Vec F S16x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare (k0_pay5 (Mn x0 xs0 4)) ∗ (∃ d, owns (c : Thread nD τ) arg5 fullShare d) ∗ owns (c : Thread nD τ) arg6 fullShare (Mn x0 xs0 4) ∗ (∃ d, owns (c : Thread nD τ) arg7 fullShare d)) -∗ K ⟨⟩))
      ⊢ wp frame (wpE (defs₀ (F := F)) Variants.none c none) E (cc0_prep i arg1 harg1 arg2 harg2 arg3 harg3 arg4 harg4 arg5 harg5 arg6 harg6 arg7 harg7) K := by
  simp only [cc0_prep_eq_skeleton]; unfold cc0_prep_skel
  unfold owns
  iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%ds1, %fs1, -, HS1⟩, Hk⟩
  obtain rfl := harg1.eq_unread hf0; obtain rfl := harg2.eq_unread hf1; obtain rfl := harg3.eq_unread hf2; obtain rfl := harg6.eq_unread hfs0
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    refine (View.read_writes_full _ _ _ _ _).trans (congrArg k0_pay5 ?_)
    unfold run0_C.sl.v30
    exact (View.readAt_full _ _ _).trans (pbEnd _ _ _ _ _ _ _ _ _ _ _ _ _ _ _ _ _ _ _ _ _ _ _ _ _ _ _ hf0 hfs0)
  isplitl [H4]
  · iexists _, _; isplitr; swap; · iexact H4
    ipureintro; rfl
  isplitl [HS0]
  · iexists _; isplitr; swap; · iexact HS0
    ipureintro
    exact pbEnd _ _ _ _ _ _ _ _ _ _ _ _ _ _ _ _ _ _ _ _ _ _ _ _ _ _ _ hf0 hfs0
  iexists _, _; isplitr; swap; · iexact HS1
  ipureintro; rfl

end Cert.PrepIdeal.Gen

end
-- ==== Proof.Prep.Frame.lean ====
/- The frame of the preparation, with the global scale named and the dequantised weight forgotten. -/
module

public import proofs.«01_k».proof.Proof.Prep.RunC
public import Idealize.ShloMosaic.Lib.Claim

@[expose] public section

-- membership in a rectangle of production extents (`View.cover_of_tiled`): the elaborator's structural look
-- recurses once per coordinate of the long axes
set_option maxRecDepth 16384

noncomputable section

namespace Cert.PrepIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.PrepIdeal.Unit
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The running maxima after the body at each point. -/
def scr (c : Dev nD) : (n : ℕ) → n < cfg0.N → FVec F S16x128 .bf16
  | 0, hn => Mn (iblk m c 0 ⟨0, hn⟩) k0_pay1 4
  | n + 1, hn => Mn (iblk m c 0 ⟨n + 1, hn⟩) (scr c n (Nat.lt_of_succ_lt hn)) 4

theorem scr_zero (c : Dev nD) (t : Fin cfg0.N) (h : t.val = 0) : scr m c t.val t.isLt = Mn (iblk m c 0 t) k0_pay1 4 := by
  obtain ⟨n, hn⟩ := t
  cases n with
  | zero => rw [scr]
  | succ n => exact absurd h (Nat.succ_ne_zero n)

theorem scr_pos (c : Dev nD) (t : Fin cfg0.N) (h : t.val ≠ 0) :
    scr m c t.val t.isLt = Mn (iblk m c 0 t) (scr m c (t.val - 1) (Nat.lt_of_le_of_lt (Nat.sub_le _ _) t.isLt)) 4 := by
  obtain ⟨n, hn⟩ := t
  cases n with
  | zero => exact absurd rfl h
  | succ n => rw [scr]; rfl

/-- The window of the dequantised weight is FORGOTTEN: nothing reads what the kernel leaves in it. -/
def forgets0 : Fin 5 → Bool := fun w => w.val == 4
theorem forgets0_3 : forgets0 (3 : Fin 5) = false := by decide

/-- The frame claim's post, off the run's. -/
theorem frameR_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-- The region invariant before position `n` with a scratch the kernel CARRIES between points: before the first point the
    class's (Lib/Pipeline/Frame.lean `ΦA`: every scratch at anything); afterwards the scoped rest with each carried scratch
    at what the point before left in it (`scr`), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare (scr m c n hn) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (scr m c n hn) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (scr m c (n - 1) (by omega)) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the global scale's at the scale of `scr`; the invariant the class's
    (`PhiS`: the class's `ΦA` before the first point, then the scoped rest with the carried scratch at `scr`);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay5 (scr m c t.val t.isLt)
    | ⟨4, h⟩ => Pipeline.Dat.unnamed (cfg := cfg0) ⟨4, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay5 (scr m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d))

set_option maxHeartbeats 12000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · by_cases h1 : t.val % 64 = 63
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
      by_cases hz : t.val = 0
      · rw [PhiS_castSucc m c t, PhiS_zero m c _ _ hz, PhiA0_eq]
        rw [scr_zero m c t hz]
        iintro ⟨⟨⟨HS0, HS1⟩, Hg⟩, Ho, ⟨%d0, H0⟩, ⟨%d1, H1⟩, ⟨%d2, H2⟩, ⟨%d3, H3⟩, ⟨%d4, H4⟩⟩
        iapply (run0_A c (grid0.coords t) _ _ _ _ _ _ _ _ _ _ _ _ _ _ ((hcond0_0 t).mpr h0) (fun h => h1 ((hcond0_1 t).mp h)) (iblk m c 0 t) (iblk m c 1 t) (iblk m c 2 t) _ Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        iintro ⟨H0, H1, H2, H3, H4, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexists _; iexact H3
        iexact H4
      · exfalso; have hN : t.val < 64 := lt_of_lt_of_eq t.isLt (show cfg0.N = 64 from N_0); omega
  · by_cases h1 : t.val % 64 = 63
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3_C t (fun h => h0 ((hcond0_0 t).mp h)) ((hcond0_1 t).mpr h1)], after0_3]
      by_cases hz : t.val = 0
      · exfalso; have hN : t.val < 64 := lt_of_lt_of_eq t.isLt (show cfg0.N = 64 from N_0); omega
      · rw [PhiS_castSucc m c t, PhiS_pos m c _ _ hz]
        rw [scr_pos m c t hz]
        iintro ⟨⟨⟨HS0, HS1⟩, Hg⟩, Ho, ⟨%d0, H0⟩, ⟨%d1, H1⟩, ⟨%d2, H2⟩, ⟨%d3, H3⟩, ⟨%d4, H4⟩⟩
        iapply (run0_C c (grid0.coords t) _ _ _ _ _ _ _ _ _ _ _ _ _ _ (fun h => h0 ((hcond0_0 t).mp h)) ((hcond0_1 t).mpr h1) (iblk m c 0 t) (iblk m c 1 t) (iblk m c 2 t) _ Set.univ _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        iintro ⟨H0, H1, H2, H3, H4, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]
        · iexact H3
        iexact H4
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      by_cases hz : t.val = 0
      · exfalso; have hN : t.val < 64 := lt_of_lt_of_eq t.isLt (show cfg0.N = 64 from N_0); omega
      · rw [PhiS_castSucc m c t, PhiS_pos m c _ _ hz]
        rw [scr_pos m c t hz]
        iintro ⟨⟨⟨HS0, HS1⟩, Hg⟩, Ho, ⟨%d0, H0⟩, ⟨%d1, H1⟩, ⟨%d2, H2⟩, ⟨%d3, H3⟩, ⟨%d4, H4⟩⟩
        iapply (run0_B c (grid0.coords t) _ _ _ _ _ _ _ _ _ _ _ _ _ _ (fun h => h0 ((hcond0_0 t).mp h)) (fun h => h1 ((hcond0_1 t).mp h)) (iblk m c 0 t) (iblk m c 1 t) (iblk m c 2 t) _ _ Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        iintro ⟨H0, H1, H2, H3, H4, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexists _; iexact H3
        iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frameR_of m ρ (fun c => (dats m 0 c).toRForget forgets0) (A_eq m) (run_main m ρ)

/-- THE FRAME: `Cert.quiescent_PrepIdeal`'s statement (Defs.lean) at any `F` — Proof.lean cites it at `Bits`:
    `theorem Cert.Proof.claim : Cert.Claim := ⟨Cert.PrepIdeal.Gen.facts, fun m ρ _ => Cert.PrepIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.PrepIdeal.Gen

end
-- ==== Proof.Prep.Same.lean ====
/- The frame of the preparation. Its idealized program is printed with no rewrite, so the two programs are the same term under two
   names, and the frame proved for the one, at every float instance, is the frame of the other. -/
module

public import proofs.«01_k».proof.Defs
public import proofs.«01_k».proof.Proof.Gen.Prep
public import proofs.«01_k».proof.Proof.Prep.Frame

@[expose] public section

set_option maxRecDepth 16384

noncomputable section

namespace Cert.Prep.Same

open Idealize.ShloMosaic Idealize.ShloMosaic.Tactic Idealize.SL.Sem

/-- The frame of the idealized program read at machine floats. -/
def OfIdeal [h : Cert.PrepIdeal.Facts] : Prop := ∀ (m : (ℓ : Loc Cert.PrepIdeal.nD Cert.PrepIdeal.τ Cert.PrepIdeal.sig) → Buf (Elt Bits) ℓ) (g : Dev Cert.PrepIdeal.nD → PrngReg),
    θ_run (Cert.PrepIdeal.defs (F := Bits)) (onTc (τ := Cert.PrepIdeal.τ) (Cert.PrepIdeal.main (F := Bits))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

/-- The frame of the preparation. -/
def OfPrep [h : Cert.Prep.Facts] : Prop := ∀ (m : (ℓ : Loc Cert.Prep.nD Cert.Prep.τ Cert.Prep.sig) → Buf (Elt Bits) ℓ) (g : Dev Cert.Prep.nD → PrngReg),
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2))
      ∧ r.2.sem = fun _ => 0)

/-- They are the same proposition. -/
theorem same : OfPrep (h := Cert.Prep.Gen.facts) = OfIdeal (h := Cert.PrepIdeal.Gen.facts) := by
  sl_kernel_rfl

/-- The frame of the preparation. -/
theorem frame : OfPrep (h := Cert.Prep.Gen.facts) :=
  same.mpr fun m g => Cert.PrepIdeal.Gen.frame m g

end Cert.Prep.Same

end
-- ==== Proof.Prep.Max.lean ====
/- What bounds the running maxima after each trip of the preparation's loop. -/
module

public import proofs.«01_k».proof.Proof.Prep.Step
public import proofs.«01_k».proof.Proof.Val.Elem
public import Idealize.ShloMosaic.Lib.VecWindow
public import Idealize.ShloMosaic.Lib.Pipeline.Value

@[expose] public section

set_option maxRecDepth 16384

noncomputable section

namespace Cert.PrepIdeal.Unit

open Idealize.ShloMosaic.ValueIdx Cert.Quant Cert.PrepIdeal Cert.PrepIdeal.Gen Idealize.ShloMosaic Idealize.ShloMosaic.TcCoe Idealize.SL.Sem

theorem mag_nonneg (x : EReal) : 0 ≤ mag x := by
  unfold mag
  rcases le_total 0 x with h | h
  · exact le_max_of_le_left h
  · exact le_max_of_le_right (EReal.neg_nonneg.2 h)

theorem zero_bits : Ideal.ofBits .bf16 0x0000#16 = (0 : EReal) := by simp [Ideal.ofBits, Ideal.ieee]

/-- A fold of maxima is bounded when its start and all its terms are. -/
theorem foldl_le {α : Type} (l : List α) (T : α → FVec Ideal S16x128 .bf16) (s : FVec Ideal S16x128 .bf16) (y : S16x128.Idx) (b : EReal) :
    (l.foldl (fun a p => maximumf a (absf (T p))) s) y ≤ b ↔ s y ≤ b ∧ ∀ p ∈ l, mag (T p y) ≤ b := by
  induction l generalizing s with
  | nil => exact ⟨fun h => ⟨h, fun p hp => absurd hp List.not_mem_nil⟩, fun h => h.1⟩
  | cons p l ih =>
    rw [List.foldl_cons, ih]
    have e : (maximumf s (absf (T p))) y ≤ b ↔ s y ≤ b ∧ mag (T p y) ≤ b := max_le_iff
    rw [e]
    constructor
    · rintro ⟨⟨h1, h2⟩, h3⟩
      refine ⟨h1, fun q hq => ?_⟩
      rcases List.mem_cons.1 hq with rfl | hq
      · exact h2
      · exact h3 q hq
    · rintro ⟨h1, h2⟩
      exact ⟨⟨h1, h2 p List.mem_cons_self⟩, fun q hq => h2 q (List.mem_cons_of_mem _ hq)⟩

theorem mem_order (p : Fin 3 × Fin 32) : p ∈ order := by
  unfold order
  exact List.mem_flatMap.2 ⟨p.1, List.mem_finRange _, List.mem_map.2 ⟨p.2, List.mem_finRange _, rfl⟩⟩

theorem accT_le (T : Fin 3 → Fin 128 → FVec Ideal S16x128 .bf16) (s : FVec Ideal S16x128 .bf16) (j : Fin 4) (y : S16x128.Idx) (b : EReal) :
    accT (F := Ideal) T s j y ≤ b ↔ s y ≤ b ∧ ∀ r q, mag (T r (col q j) y) ≤ b := by
  have h := foldl_le order (fun p => T p.1 (col p.2 j)) s y b
  refine h.trans (and_congr_right fun _ => ?_)
  exact ⟨fun h r q => h (r, q) (mem_order _), fun h p _ => h p.1 p.2⟩

/-- The maxima after a trip are bounded when those before it and the magnitudes in all the trip's tiles are. -/
theorem tripV_le (T : Fin 3 → Fin 128 → FVec Ideal S16x128 .bf16) (s : FVec Ideal S16x128 .bf16) (y : S16x128.Idx) (b : EReal) :
    tripV (F := Ideal) T s y ≤ b ↔ s y ≤ b ∧ ∀ r c, mag (T r c y) ≤ b := by
  unfold tripV
  rw [shapeCast_self]
  have e : (maximumf (maximumf (accT T s 0) (accT T zeroT 1)) (maximumf (accT T zeroT 2) (accT T zeroT 3))) y ≤ b
      ↔ (accT (F := Ideal) T s 0 y ≤ b ∧ accT (F := Ideal) T zeroT 1 y ≤ b) ∧ (accT (F := Ideal) T zeroT 2 y ≤ b ∧ accT (F := Ideal) T zeroT 3 y ≤ b) :=
    max_le_iff.trans (and_congr max_le_iff max_le_iff)
  rw [e]
  simp only [accT_le]
  have z : zeroT (F := Ideal) y = (0 : EReal) := zero_bits
  constructor
  · rintro ⟨⟨⟨h, h0⟩, -, h1⟩, ⟨-, h2⟩, -, h3⟩
    refine ⟨h, fun r c => ?_⟩
    have hc := c.isLt
    have hm : c.val % 4 < 4 := Nat.mod_lt _ (by decide)
    have ec : c = col ⟨c.val / 4, by omega⟩ ⟨c.val % 4, hm⟩ := Fin.ext (by show c.val = 4 * (c.val / 4) + c.val % 4; omega)
    have key : ∀ (j : Fin 4) (r : Fin 3) (q : Fin 32), mag (T r (col q j) y) ≤ b := fun j => match j with | 0 => h0 | 1 => h1 | 2 => h2 | 3 => h3
    rw [ec]
    exact key ⟨c.val % 4, hm⟩ r _
  · rintro ⟨h, ht⟩
    have hz : zeroT (F := Ideal) y ≤ b := by rw [z]; exact (mag_nonneg _).trans (ht 0 0)
    exact ⟨⟨⟨h, fun r q => ht r _⟩, hz, fun r q => ht r _⟩, ⟨hz, fun r q => ht r _⟩, hz, fun r q => ht r _⟩

/-- After `n` trips the maxima are bounded when those before the loop and the magnitudes in the trips' rows are. -/
theorem Mn_le (x : FVec Ideal S192x16384 .bf16) (s : FVec Ideal S16x128 .bf16) (y : S16x128.Idx) (b : EReal) (n : ℕ) (hn : n ≤ 4) :
    (Mn (F := Ideal) x s n y : EReal) ≤ b ↔ (s y : EReal) ≤ b ∧ ∀ (q : ℕ) (hq : q < 12) (cc : Fin 128), q < 3 * n → mag (x (at16 q hq cc y)) ≤ b := by
  induction n with
  | zero => exact ⟨fun h => ⟨h, fun q _ _ hq => absurd hq (Nat.not_lt_zero _)⟩, fun h => h.1⟩
  | succ n ih =>
    have ih := ih (Nat.le_of_succ_le hn)
    have e : Mn (F := Ideal) x s (n + 1) = tripV (tileX x ⟨n, hn⟩) (Mn (F := Ideal) x s n) := Mn_succ x s n hn
    rw [e]
    refine (tripV_le _ _ y b).trans ?_
    rw [ih]
    constructor
    · rintro ⟨⟨h1, h2⟩, h3⟩
      refine ⟨h1, fun q hq cc hlt => ?_⟩
      by_cases hl : q < 3 * n
      · exact h2 q hq cc hl
      · obtain ⟨r, rfl⟩ : ∃ r, q = 3 * n + r := ⟨q - 3 * n, by omega⟩
        exact h3 ⟨r, by omega⟩ cc
    · rintro ⟨h1, h2⟩
      refine ⟨⟨h1, fun q hq cc hl => h2 q hq cc (by omega)⟩, fun r cc => ?_⟩
      have hr := r.isLt
      exact h2 (3 * n + r.val) (by omega) cc (by omega)

end Cert.PrepIdeal.Unit

end
-- ==== Proof.Prep.Val.lean ====
/- The largest magnitude of dy and the global scale, in the preparation and in its reference. -/
module

public import proofs.«01_k».proof.Proof.Prep.Frame
public import proofs.«01_k».proof.Proof.Prep.Max
public import proofs.«01_k».proof.Proof.Gen.PrepReferenceIdeal.Value
public import Idealize.ShloMosaic.Lib.Pipeline.ValueKit.Geometry

@[expose] public section

set_option maxRecDepth 16384

noncomputable section

namespace Cert.PrepIdeal.Unit

open Idealize.ShloMosaic.ValueIdx Cert.Quant Cert.PrepIdeal Cert.PrepIdeal.Gen Idealize.ShloMosaic Idealize.ShloMosaic.TcCoe Idealize.SL.Sem
open Idealize.ShloMosaic.Pipeline (Dat)

/-- A maximum over all entries is bounded when the entries are. -/
theorem red_le {s t : Shape} {axes : List (Fin s.rank)} (x : FVec Ideal s .f32) (h : s.Reduces axes t) (hφ : FKind.Formats .f32)
    (hacc : (0xFF800000#32 : BitVec 32) = FKind.maximumf.neutral .f32 hφ) (j : t.Idx) (hj : ∀ i, h.drop i = j) (b : EReal) :
    (multiReduction .maximumf axes t x 0xFF800000#32 h hφ hacc j : EReal) ≤ b ↔ ∀ i, (x i : EReal) ≤ b := by
  rw [multiReduction_maximumf_eq_fold]
  have e := Finset.fold_max_le (s := Finset.univ.filter fun i => h.drop i = j) (f := fun i => (x i : EReal)) (b := (Ideal.ofBits .f32 0xFF800000#32 : EReal)) b
  refine Iff.trans e ?_
  have n : (Ideal.ofBits .f32 0xFF800000#32 : EReal) = ⊥ := rfl
  rw [n]
  constructor
  · rintro ⟨-, h2⟩ i
    exact h2 i (Finset.mem_filter.2 ⟨Finset.mem_univ _, hj i⟩)
  · intro h2
    exact ⟨bot_le, fun i _ => h2 i⟩

/-- The global scale, of the largest magnitude. -/
def gOf (a : EReal) : EReal :=
  Scalar.select (Scalar.cmpf (F := Ideal) (φ := .f32) .oeq a (Scalar.ofBits (F := Ideal) .f32 0x00000000#32)) (Scalar.ofBits (F := Ideal) .f32 0x3F800000#32)
    (Scalar.divf (F := Ideal) (φ := .f32) a (Scalar.ofBits (F := Ideal) .f32 0x45280000#32))

/-- The largest of the running maxima. -/
def amaxK (v : FVec Ideal S16x128 .bf16) : EReal :=
  extractAt ![0, 0, 0] (shapeCast S1x1x1 (multiReduction .maximumf [1, 2] S1 (shapeCast S1x16x128 (extf .f32 v bitsLt_bf16_f32) shapeCasts_S16x128_S1x16x128) 0xFF800000#32 reduces_S1x16x128_S1 (.inl rfl) rfl) shapeCasts_S1_S1x1x1) inpos_S1x1x1_p0_0_0

/-- The global scale laid out, of the largest magnitude. -/
def tailK (v35 : Ideal .f32) : FVec Ideal S8x128 .f32 :=
  broadcastTo S8x128 (shapeCast S1x1 (select (cmpf (F := Ideal) (φ := .f32) .oeq (broadcast S1x1 v35) (broadcast S1x1 (Scalar.ofBits (F := Ideal) .f32 0x00000000#32)))
    (broadcast S1x1 (Scalar.ofBits (F := Ideal) .f32 0x3F800000#32)) (divf (F := Ideal) (φ := .f32) (broadcast S1x1 v35) (broadcast S1x1 (Scalar.ofBits (F := Ideal) .f32 0x45280000#32))))
    shapeCasts_S1x1_S1x1) broadcasts_S1x1_S8x128

theorem pay5_tail (v : FVec Ideal S16x128 .bf16) : k0_pay5 (F := Ideal) v = tailK (amaxK v) := by sl_kernel_rfl

theorem tail_at (a : Ideal .f32) (y : S8x128.Idx) : tailK a y = gOf a := by
  unfold tailK
  rw [shapeCast_self, broadcastTo_apply _ _ y (ix2 (n0 := 1) (n1 := 1) 0 0) (fun a => by match a with | ⟨0, _⟩ => rfl | ⟨1, _⟩ => rfl)]
  rfl

theorem pay5_eq (v : FVec Ideal S16x128 .bf16) (y : S8x128.Idx) : k0_pay5 (F := Ideal) v y = gOf (amaxK v) := by
  rw [pay5_tail, tail_at]

theorem one_idx (i j : S1.Idx) : i = j := funext fun a => by
  match a with
  | ⟨0, _⟩ => exact Fin.ext (by have h1 : (i 0).val < 1 := (i 0).isLt; have h2 : (j 0).val < 1 := (j 0).isLt; show (i 0).val = (j 0).val; omega)

/-- The only index. -/
def idx1 : S1.Idx := fun a => match a with | ⟨0, _⟩ => (⟨0, Nat.one_pos⟩ : Fin 1)

theorem ext1 {α : Type} (x : S1.Idx → α) (h) (h') (k : S1.Idx) : extractAt ![0, 0, 0] (shapeCast S1x1x1 x h) h' = x k := by
  unfold extractAt shapeCast
  exact congrArg x (one_idx _ _)

theorem amaxK_le (v : FVec Ideal S16x128 .bf16) (b : EReal) : amaxK v ≤ b ↔ ∀ y, (v y : EReal) ≤ b := by
  unfold amaxK
  rw [ext1 _ _ _ idx1]
  refine Iff.trans (red_le _ reduces_S1x16x128_S1 _ _ _ (fun i => one_idx _ _) b) ?_
  constructor
  · intro h y
    have e := h (ix3 (n0 := 1) (n1 := 16) (n2 := 128) 0 (y 0) (y 1))
    rw [shapeCast_apply _ _ _ y (by
      rw [Shape.rowMajor_val_two, Shape.rowMajor_val_three]
      show (y 0).val * 128 + (y 1).val = (0 * 16 + (y 0).val) * 128 + (y 1).val
      omega)] at e
    exact e
  · intro h i
    obtain ⟨r, l, rfl⟩ : ∃ r l, i = ix3 (n0 := 1) (n1 := 16) (n2 := 128) 0 r l := ⟨i 1, i 2, funext fun a => by match a with | ⟨0, _⟩ => exact Fin.ext (by have h1 : (i 0).val < 1 := (i 0).isLt; show (i 0).val = 0; omega) | ⟨1, _⟩ => rfl | ⟨2, _⟩ => rfl⟩
    rw [shapeCast_apply _ _ _ (ix2 (n0 := 16) (n1 := 128) r l) (by
      rw [Shape.rowMajor_val_two, Shape.rowMajor_val_three]
      show r.val * 128 + l.val = (0 * 16 + r.val) * 128 + l.val
      omega)]
    exact h _

variable (m : (ℓ : Loc nD τ sig) → Buf (Elt Ideal) ℓ) (c : Dev nD)

/-- The gradient dy. -/
def aDy : S12288x16384.Idx → EReal := m ((c : Thread nD τ).loc main_arg0)

theorem idx0 : ∀ t : Fin cfg0.N, win0_0.index t (0 : Fin 2) = t.val ∧ win0_0.index t (1 : Fin 2) = 0 := by decide +kernel

theorem iblk_at (t : Fin cfg0.N) (j : S192x16384.Idx) (k : S12288x16384.Idx) (h0 : (k 0).val = 192 * t.val + (j 0).val) (h1 : (k 1).val = (j 1).val) :
    (iblk m c 0 t j : EReal) = aDy m c k := by
  show V m c main_arg0 (((cfg0.win 0).blk t).view.emb j) = _
  refine congrArg (aDy m c) (funext fun a => Fin.ext ?_)
  obtain ⟨e0, e1⟩ := idx0 t
  match a with
  | ⟨0, _⟩ => show win0_0.index t (0 : Fin 2) * 192 + 1 * (j 0).val = (k 0).val; rw [e0, h0]; omega
  | ⟨1, _⟩ => show win0_0.index t (1 : Fin 2) * 16384 + 1 * (j 1).val = (k 1).val; rw [e1, h1]; omega

theorem pay1_at (y : S16x128.Idx) : k0_pay1 (F := Ideal) y = (0 : EReal) := by
  unfold k0_pay1
  rw [shapeCast_self]
  exact zero_bits

theorem scr_le (y : S16x128.Idx) (b : EReal) : ∀ (n : ℕ) (hn : n < cfg0.N), (scr (F := Ideal) m c n hn y : EReal) ≤ b
    ↔ (0 : EReal) ≤ b ∧ ∀ (t : Fin cfg0.N) (q : ℕ) (hq : q < 12) (cc : Fin 128), t.val ≤ n → mag (iblk m c 0 t (at16 q hq cc y)) ≤ b
  | 0, hn => by
    rw [scr, Mn_le _ _ _ _ 4 le_rfl, pay1_at]
    refine and_congr_right fun _ => ⟨fun h t q hq cc ht => ?_, fun h q hq cc _ => h _ q hq cc le_rfl⟩
    have e : t = ⟨0, hn⟩ := Fin.ext (Nat.le_zero.1 ht)
    rw [e]; exact h q hq cc (by omega)
  | n + 1, hn => by
    rw [scr, Mn_le _ _ _ _ 4 le_rfl, scr_le y b n (Nat.lt_of_succ_lt hn), and_assoc]
    refine and_congr_right fun _ => ⟨fun h t q hq cc ht => ?_, fun h => ⟨fun t q hq cc ht => h t q hq cc (Nat.le_succ_of_le ht), fun q hq cc _ => h _ q hq cc le_rfl⟩⟩
    rcases Nat.lt_or_ge n t.val with hl | hl
    · have e : t = ⟨n + 1, hn⟩ := Fin.ext (Nat.le_antisymm ht hl)
      rw [e]; exact h.2 q hq cc (by omega)
    · exact h.1 t q hq cc hl

theorem last_lt : 63 < cfg0.N := by rw [show cfg0.N = 64 from N_0]; decide

/-- The kernel's largest magnitude is bounded when dy's magnitudes are. -/
theorem amax_le (b : EReal) : amaxK (scr (F := Ideal) m c 63 last_lt) ≤ b ↔ ∀ k, mag (aDy m c k) ≤ b := by
  rw [amaxK_le]
  simp only [scr_le]
  constructor
  · intro h k
    have k0 : (k 0).val < 12288 := (k 0).isLt
    have k1 : (k 1).val < 16384 := (k 1).isLt
    have h2 := (h (ix2 (n0 := 16) (n1 := 128) ⟨(k 0).val % 16, Nat.mod_lt _ (by decide)⟩ ⟨(k 1).val % 128, Nat.mod_lt _ (by decide)⟩)).2
      ⟨(k 0).val / 192, by rw [show cfg0.N = 64 from N_0]; omega⟩ ((k 0).val % 192 / 16) (by omega) ⟨(k 1).val / 128, by omega⟩ (by show (k 0).val / 192 ≤ 63; omega)
    rw [iblk_at m c _ _ k (by show (k 0).val = 192 * ((k 0).val / 192) + (16 * ((k 0).val % 192 / 16) + (k 0).val % 16); omega)
      (by show (k 1).val = 128 * ((k 1).val / 128) + (k 1).val % 128; omega)] at h2
    exact h2
  · intro h y
    refine ⟨(mag_nonneg _).trans (h (ix2 (n0 := 12288) (n1 := 16384) 0 0)), fun t q hq cc ht => ?_⟩
    have hy0 : (y 0).val < 16 := (y 0).isLt
    have hy1 : (y 1).val < 128 := (y 1).isLt
    rw [iblk_at m c t _ (ix2 (n0 := 12288) (n1 := 16384) ⟨192 * t.val + (16 * q + (y 0).val), by omega⟩ ⟨128 * cc.val + (y 1).val, by omega⟩) rfl rfl]
    exact h _

theorem flush3 : ∀ t : Fin cfg0.N, (cfg0.win 3).flush t = true → t.val = 63 := by decide +kernel

theorem idx3 : ∀ t : Fin cfg0.N, win0_3.index t (0 : Fin 2) = 0 ∧ win0_3.index t (1 : Fin 2) = 0 := by decide +kernel

theorem scr_last (n : ℕ) (hn : n < cfg0.N) (h : n = 63) : gOf (amaxK (scr (F := Ideal) m c n hn)) = gOf (amaxK (scr (F := Ideal) m c 63 last_lt)) := by
  subst h
  rfl

/-- The array of the global scale. -/
theorem arr3 : (dats (F := Ideal) m 0 c).arrAt 3 cfg0.N = fun _ => gOf (amaxK (scr (F := Ideal) m c 63 last_lt)) := by
  refine (dats (F := Ideal) m 0 c).arrAt_eq_of_covers 3 _ (by decide +kernel) fun t hf y => ?_
  blk_simp
  rw [after0_3, pay5_eq]
  exact scr_last m c _ _ (flush3 t hf)

variable (ρ : Dev nD → PrngReg)

/-- The run of the preparation: the global scale, and the arguments kept. -/
theorem run : θ_run defs (onTc (τ := τ) (main (F := Ideal))) ⟨m, fun _ => 0, ρ⟩ fun r => ∀ c : Dev nD,
      r.2.mem ((c : Thread nD τ).loc main_v0_0) = (fun _ => gOf (amaxK (scr (F := Ideal) m c 63 last_lt)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(((dats (F := Ideal) m 0 c).toRForget_arrAt_iff forgets0_3 _ _).mp ((h c).1 3)).trans (arr3 m c),
      (Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c))⟩)
    (run_main m ρ)

end Cert.PrepIdeal.Unit

namespace Cert.PrepReferenceIdeal.Unit

open Idealize.ShloMosaic.ValueIdx Cert.Quant Cert.PrepReferenceIdeal Cert.PrepReferenceIdeal.Gen Idealize.ShloMosaic Idealize.ShloMosaic.TcCoe Idealize.SL.Sem

/-- The reference's largest magnitude. -/
def amaxR (a : FVec Ideal S12288x16384 .bf16) : EReal :=
  extractAt ![0, 0, 0] (shapeCast S1x1x1 (multiReduction .maximumf [1, 2] S1 (shapeCast S1x12288x16384 (absf (extf .f32 a bitsLt_bf16_f32)) shapeCasts_S12288x16384_S1x12288x16384) 0xFF800000#32 reduces_S1x12288x16384_S1 (.inl rfl) rfl) shapeCasts_S1_S1x1x1) inpos_S1x1x1_p0_0_0

theorem pay1_tail (a : FVec Ideal S12288x16384 .bf16) : k0_pay1 (F := Ideal) a = fun _ => Cert.PrepIdeal.Unit.gOf (amaxR a) := by sl_kernel_rfl

theorem one_idx (i j : S1.Idx) : i = j := Cert.PrepIdeal.Unit.one_idx i j

theorem amaxR_le (a : FVec Ideal S12288x16384 .bf16) (b : EReal) : amaxR a ≤ b ↔ ∀ k, mag (a k) ≤ b := by
  unfold amaxR
  rw [Cert.PrepIdeal.Unit.ext1 _ _ _ Cert.PrepIdeal.Unit.idx1]
  refine Iff.trans (Cert.PrepIdeal.Unit.red_le _ reduces_S1x12288x16384_S1 _ _ _ (fun i => one_idx _ _) b) ?_
  constructor
  · intro h y
    have e := h (ix3 (n0 := 1) (n1 := 12288) (n2 := 16384) 0 (y 0) (y 1))
    rw [shapeCast_apply _ _ _ y (by
      rw [Shape.rowMajor_val_two, Shape.rowMajor_val_three]
      show (y 0).val * 16384 + (y 1).val = (0 * 12288 + (y 0).val) * 16384 + (y 1).val
      omega)] at e
    exact e
  · intro h i
    obtain ⟨r, l, rfl⟩ : ∃ r l, i = ix3 (n0 := 1) (n1 := 12288) (n2 := 16384) 0 r l := ⟨i 1, i 2, funext fun a => by match a with | ⟨0, _⟩ => exact Fin.ext (by have h1 : (i 0).val < 1 := (i 0).isLt; show (i 0).val = 0; omega) | ⟨1, _⟩ => rfl | ⟨2, _⟩ => rfl⟩
    rw [shapeCast_apply _ _ _ (ix2 (n0 := 12288) (n1 := 16384) r l) (by
      rw [Shape.rowMajor_val_two, Shape.rowMajor_val_three]
      show r.val * 16384 + l.val = (0 * 12288 + r.val) * 16384 + l.val
      omega)]
    exact h _

end Cert.PrepReferenceIdeal.Unit

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Body.Value
public import proofs.«01_k».proof.Proof.Body.Same
public import proofs.«01_k».proof.Proof.Val.Final
public import proofs.«01_k».proof.Proof.Val.Ref
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.PrepIdeal
public import proofs.«01_k».proof.Proof.Gen.PrepIdeal.Skeleton
public import proofs.«01_k».proof.Proof.Gen.PrepIdeal.Loops
public import proofs.«01_k».proof.Proof.Gen.PrepIdeal.Launch
public import proofs.«01_k».proof.Proof.Gen.PrepIdeal.Points
public import proofs.«01_k».proof.Proof.Gen.Prep
public import proofs.«01_k».proof.Proof.Gen.Prep.Skeleton
public import proofs.«01_k».proof.Proof.Gen.Prep.Loops
public import proofs.«01_k».proof.Proof.Gen.Prep.Launch
public import proofs.«01_k».proof.Proof.Gen.Prep.Points
public import proofs.«01_k».proof.Proof.Prep.Same
public import proofs.«01_k».proof.Proof.Prep.Val
public import proofs.«01_k».proof.Proof.Gen.PrepReferenceIdeal
public import proofs.«01_k».proof.Proof.Gen.PrepReferenceIdeal.Skeleton
public import proofs.«01_k».proof.Proof.Gen.PrepReferenceIdeal.Launch
public import proofs.«01_k».proof.Proof.Gen.PrepReferenceIdeal.Points
public import proofs.«01_k».proof.Proof.Gen.PrepReferenceIdeal.Frame
public import proofs.«01_k».proof.Proof.Gen.PrepReferenceIdeal.Value
public import Idealize.ShloMosaic.Adequacy
public import Idealize.ShloMosaic.Init

@[expose] public section

set_option maxRecDepth 16384

noncomputable section

namespace Cert.Proof

open Idealize.ShloMosaic Idealize.ShloMosaic.TcCoe Idealize.ShloMosaic.ValueIdx Idealize.SL.Sem

/-- The reference's gradient is the kernel's. -/
theorem dx_eq (a0 a1 : Vec Ideal Cert.ReferenceIdeal.S1x1 .f32) (a2 : Vec Ideal Cert.ReferenceIdeal.S12288x16384 .bf16) (a3 : Vec Ideal Cert.ReferenceIdeal.S12288x16384 .i32)
    (a4 : Vec Ideal Cert.ReferenceIdeal.S16384x2048 .bf16) (a5 : Vec Ideal Cert.ReferenceIdeal.S12288x2048 .bf16) :
    Cert.ReferenceIdeal.Value.G6 (F := Ideal) a0 a1 a2 a3 a4 a5
      = Cert.KernelIdeal.Unit.dxArr (a0 (ix2 (n0 := 1) (n1 := 1) 0 0)) (a1 (ix2 (n0 := 1) (n1 := 1) 0 0)) a2 a3 a4 a5 := by
  funext y
  obtain ⟨i, c, rfl⟩ : ∃ i c, y = ix2 (n0 := 12288) (n1 := 2048) i c := ⟨y 0, y 1, eq_ix2 y⟩
  exact Cert.ReferenceIdeal.Unit.G6_at a0 a1 a2 a3 a4 a5 i c

/-- The reference's codes are the kernel's. -/
theorem codes_eq (a0 a1 : Vec Ideal Cert.ReferenceIdeal.S1x1 .f32) (a2 : Vec Ideal Cert.ReferenceIdeal.S12288x16384 .bf16) (a3 : Vec Ideal Cert.ReferenceIdeal.S12288x16384 .i32)
    (a4 : Vec Ideal Cert.ReferenceIdeal.S16384x2048 .bf16) (a5 : Vec Ideal Cert.ReferenceIdeal.S12288x2048 .bf16) :
    Cert.ReferenceIdeal.Value.G7 (F := Ideal) a0 a1 a2 a3 a4 a5
      = Cert.KernelIdeal.Unit.codesArr (a0 (ix2 (n0 := 1) (n1 := 1) 0 0)) a2 a3 := by
  funext y
  obtain ⟨i, c, rfl⟩ : ∃ i c, y = ix2 (n0 := 12288) (n1 := 8192) i c := ⟨y 0, y 1, eq_ix2 y⟩
  exact Cert.ReferenceIdeal.Unit.G7_at a0 a1 a2 a3 a4 a5 i c

/-- The reference's scales are the kernel's. -/
theorem scales_eq (a0 a1 : Vec Ideal Cert.ReferenceIdeal.S1x1 .f32) (a2 : Vec Ideal Cert.ReferenceIdeal.S12288x16384 .bf16) (a3 : Vec Ideal Cert.ReferenceIdeal.S12288x16384 .i32)
    (a4 : Vec Ideal Cert.ReferenceIdeal.S16384x2048 .bf16) (a5 : Vec Ideal Cert.ReferenceIdeal.S12288x2048 .bf16) :
    Cert.ReferenceIdeal.Value.G8 (F := Ideal) a0 a1 a2 a3 a4 a5
      = Cert.KernelIdeal.Unit.scalesArr (a0 (ix2 (n0 := 1) (n1 := 1) 0 0)) a2 := by
  funext y
  obtain ⟨i, c, rfl⟩ : ∃ i c, y = ix2 (n0 := 12288) (n1 := 1024) i c := ⟨y 0, y 1, eq_ix2 y⟩
  exact Cert.ReferenceIdeal.Unit.G8_at a0 a1 a2 a3 a4 a5 i c

theorem algebraic : Cert.algebraic_KernelIdeal_ReferenceIdeal (hKernelIdeal := Cert.KernelIdeal.Gen.facts) (hReferenceIdeal := Cert.ReferenceIdeal.Gen.facts) := by
  intro m g m' g' _ heq
  refine ⟨fun c => Cert.KernelIdeal.Unit.dxArr (Cert.KernelIdeal.Unit.aG m c) (Cert.KernelIdeal.Unit.aWg m c) (Cert.KernelIdeal.Unit.aDy m c) (Cert.KernelIdeal.Unit.aRand m c) (Cert.KernelIdeal.Unit.aW m c) (Cert.KernelIdeal.Unit.aDres m c),
    fun c => Cert.KernelIdeal.Unit.codesArr (Cert.KernelIdeal.Unit.aG m c) (Cert.KernelIdeal.Unit.aDy m c) (Cert.KernelIdeal.Unit.aRand m c),
    fun c => Cert.KernelIdeal.Unit.scalesArr (Cert.KernelIdeal.Unit.aG m c) (Cert.KernelIdeal.Unit.aDy m c),
    Cert.KernelIdeal.Unit.run m g, ?_⟩
  refine (θ_run _ _ _).mono (fun r h c => ?_) (Cert.ReferenceIdeal.Value.run m' g')
  obtain ⟨h0, h1, h2, h3⟩ := h c
  obtain ⟨e0, e1, e2, e3, e4, e5⟩ := heq c
  rw [e0, e1, e2, e3, e4, e5] at h0 h1 h2
  exact ⟨h0.trans (dx_eq _ _ _ _ _ _), h1.trans (codes_eq _ _ _ _ _ _), h2.trans (scales_eq _ _ _ _ _ _), h3⟩

/-- The largest magnitude of dy, in the preparation and in its reference. -/
theorem amax_eq (m : (ℓ : Loc Cert.PrepIdeal.nD Cert.PrepIdeal.τ Cert.PrepIdeal.sig) → Buf (Elt Ideal) ℓ) (c : Dev Cert.PrepIdeal.nD) :
    Cert.PrepReferenceIdeal.Unit.amaxR (Cert.PrepIdeal.Unit.aDy m c) = Cert.PrepIdeal.Unit.amaxK (Cert.PrepIdeal.Gen.scr (F := Ideal) m c 63 Cert.PrepIdeal.Unit.last_lt) :=
  eq_of_forall_ge_iff fun b => (Cert.PrepReferenceIdeal.Unit.amaxR_le _ b).trans (Cert.PrepIdeal.Unit.amax_le m c b).symm

theorem algebraicPrep : Cert.algebraic_PrepIdeal_PrepReferenceIdeal (hPrepIdeal := Cert.PrepIdeal.Gen.facts) (hPrepReferenceIdeal := Cert.PrepReferenceIdeal.Gen.facts) := by
  intro m g m' g' _ heq
  refine ⟨fun c _ => Cert.PrepIdeal.Unit.gOf (Cert.PrepIdeal.Unit.amaxK (Cert.PrepIdeal.Gen.scr (F := Ideal) m c 63 Cert.PrepIdeal.Unit.last_lt)),
    Cert.PrepIdeal.Unit.run m g, ?_⟩
  refine (θ_run _ _ _).mono (fun r h c => ?_) (Cert.PrepReferenceIdeal.Value.run m' g')
  obtain ⟨h0, h3⟩ := h c
  obtain ⟨e0, -, -⟩ := heq c
  rw [e0] at h0
  refine ⟨h0.trans ?_, h3⟩
  refine (Cert.PrepReferenceIdeal.Unit.pay1_tail (Cert.PrepIdeal.Unit.aDy m c)).trans ?_
  rw [amax_eq]
  rfl

theorem claim : Cert.Claim := ⟨Cert.Kernel.Gen.facts, Cert.KernelIdeal.Gen.facts, Cert.ReferenceIdeal.Gen.facts,
  Cert.Prep.Gen.facts, Cert.PrepIdeal.Gen.facts, Cert.PrepReferenceIdeal.Gen.facts,
  fun m g _ => Cert.Kernel.Same.frame m g,
  fun m g _ => Cert.KernelIdeal.Gen.frame m g,
  fun m g _ => Cert.ReferenceIdeal.Gen.frame m g,
  fun m g _ => Cert.Prep.Same.frame m g,
  fun m g _ => Cert.PrepIdeal.Gen.frame m g,
  fun m g _ => Cert.PrepReferenceIdeal.Gen.frame m g,
  trivial,
  algebraic,
  trivial,
  algebraicPrep⟩

end Cert.Proof

end
